-- ==== Defs.lean ====
def Pre_Kernel [hPre_plan_nonneg : Cert.Pre_plan_nonneg.Facts] (m : (ℓ : Loc Cert.Kernel.nD Cert.Kernel.τ Cert.Kernel.sig) → Buf (Elt Bits) ℓ) : Prop :=
  ∀ c : Dev Cert.Kernel.nD,
    (Cert.Pre_plan_nonneg.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_plan_nonneg : Cert.Pre_plan_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_plan_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_plan_nonneg : Cert.Pre_plan_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plan_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_ReferencePostIdeal (m : (ℓ : Loc Cert.ReferencePostIdeal.nD Cert.ReferencePostIdeal.τ Cert.ReferencePostIdeal.sig) → Buf (Elt Ideal) ℓ) : Prop :=
  True

def quiescent_Kernel [hKernel : Cert.Kernel.Facts] [hPre_plan_nonneg : Cert.Pre_plan_nonneg.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_plan_nonneg : Cert.Pre_plan_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_plan_nonneg : Cert.Pre_plan_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2)
      ∧ r.2.mem ((c.tc : Thread Cert.KernelPost.nD Cert.KernelPost.τ).loc Cert.KernelPost.main_arg3) = m ((c.tc : Thread Cert.KernelPost.nD Cert.KernelPost.τ).loc Cert.KernelPost.main_arg3)
      ∧ r.2.mem ((c.tc : Thread Cert.KernelPost.nD Cert.KernelPost.τ).loc Cert.KernelPost.main_arg4) = m ((c.tc : Thread Cert.KernelPost.nD Cert.KernelPost.τ).loc Cert.KernelPost.main_arg4)
      ∧ r.2.mem ((c.tc : Thread Cert.KernelPost.nD Cert.KernelPost.τ).loc Cert.KernelPost.main_arg5) = m ((c.tc : Thread Cert.KernelPost.nD Cert.KernelPost.τ).loc Cert.KernelPost.main_arg5)
      ∧ r.2.mem ((c.tc : Thread Cert.KernelPost.nD Cert.KernelPost.τ).loc Cert.KernelPost.main_arg6) = m ((c.tc : Thread Cert.KernelPost.nD Cert.KernelPost.τ).loc Cert.KernelPost.main_arg6)
      ∧ r.2.mem ((c.tc : Thread Cert.KernelPost.nD Cert.KernelPost.τ).loc Cert.KernelPost.main_arg7) = m ((c.tc : Thread Cert.KernelPost.nD Cert.KernelPost.τ).loc Cert.KernelPost.main_arg7))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
      ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
      ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5)
      ∧ r.2.mem ((c.tc : Thread Cert.KernelPostIdeal.nD Cert.KernelPostIdeal.τ).loc Cert.KernelPostIdeal.main_arg6) = m ((c.tc : Thread Cert.KernelPostIdeal.nD Cert.KernelPostIdeal.τ).loc Cert.KernelPostIdeal.main_arg6)
      ∧ r.2.mem ((c.tc : Thread Cert.KernelPostIdeal.nD Cert.KernelPostIdeal.τ).loc Cert.KernelPostIdeal.main_arg7) = m ((c.tc : Thread Cert.KernelPostIdeal.nD Cert.KernelPostIdeal.τ).loc Cert.KernelPostIdeal.main_arg7))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3)
      ∧ r.2.mem ((c.tc : Thread Cert.ReferencePostIdeal.nD Cert.ReferencePostIdeal.τ).loc Cert.ReferencePostIdeal.main_arg4) = m ((c.tc : Thread Cert.ReferencePostIdeal.nD Cert.ReferencePostIdeal.τ).loc Cert.ReferencePostIdeal.main_arg4)
      ∧ r.2.mem ((c.tc : Thread Cert.ReferencePostIdeal.nD Cert.ReferencePostIdeal.τ).loc Cert.ReferencePostIdeal.main_arg5) = m ((c.tc : Thread Cert.ReferencePostIdeal.nD Cert.ReferencePostIdeal.τ).loc Cert.ReferencePostIdeal.main_arg5)
      ∧ r.2.mem ((c.tc : Thread Cert.ReferencePostIdeal.nD Cert.ReferencePostIdeal.τ).loc Cert.ReferencePostIdeal.main_arg6) = m ((c.tc : Thread Cert.ReferencePostIdeal.nD Cert.ReferencePostIdeal.τ).loc Cert.ReferencePostIdeal.main_arg6)
      ∧ r.2.mem ((c.tc : Thread Cert.ReferencePostIdeal.nD Cert.ReferencePostIdeal.τ).loc Cert.ReferencePostIdeal.main_arg7) = m ((c.tc : Thread Cert.ReferencePostIdeal.nD Cert.ReferencePostIdeal.τ).loc Cert.ReferencePostIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_plan_nonneg : Cert.Pre_plan_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelPost_KernelPostIdeal : Prop :=
  True

def algebraic_KernelPostIdeal_ReferencePostIdeal [hKernelPostIdeal : Cert.KernelPostIdeal.Facts] [hReferencePostIdeal : Cert.ReferencePostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)
      ∧ m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2)
      ∧ m' ((c.tc : Thread Cert.ReferencePostIdeal.nD Cert.ReferencePostIdeal.τ).loc Cert.ReferencePostIdeal.main_arg3) = m ((c.tc : Thread Cert.KernelPostIdeal.nD Cert.KernelPostIdeal.τ).loc Cert.KernelPostIdeal.main_arg3)
      ∧ m' ((c.tc : Thread Cert.ReferencePostIdeal.nD Cert.ReferencePostIdeal.τ).loc Cert.ReferencePostIdeal.main_arg4) = m ((c.tc : Thread Cert.KernelPostIdeal.nD Cert.KernelPostIdeal.τ).loc Cert.KernelPostIdeal.main_arg4)
      ∧ m' ((c.tc : Thread Cert.ReferencePostIdeal.nD Cert.ReferencePostIdeal.τ).loc Cert.ReferencePostIdeal.main_arg5) = m ((c.tc : Thread Cert.KernelPostIdeal.nD Cert.KernelPostIdeal.τ).loc Cert.KernelPostIdeal.main_arg5)
      ∧ m' ((c.tc : Thread Cert.ReferencePostIdeal.nD Cert.ReferencePostIdeal.τ).loc Cert.ReferencePostIdeal.main_arg6) = m ((c.tc : Thread Cert.KernelPostIdeal.nD Cert.KernelPostIdeal.τ).loc Cert.KernelPostIdeal.main_arg6)
      ∧ m' ((c.tc : Thread Cert.ReferencePostIdeal.nD Cert.ReferencePostIdeal.τ).loc Cert.ReferencePostIdeal.main_arg7) = m ((c.tc : Thread Cert.KernelPostIdeal.nD Cert.KernelPostIdeal.τ).loc Cert.KernelPostIdeal.main_arg7)) →
    ∃ (v0 : (c : Dev Cert.KernelPostIdeal.nD) → Buf (Elt Ideal) ((c.tc : Thread Cert.KernelPostIdeal.nD Cert.KernelPostIdeal.τ).loc Cert.KernelPostIdeal.main_v7)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          r.2.mem ((c.tc : Thread Cert.KernelPostIdeal.nD Cert.KernelPostIdeal.τ).loc Cert.KernelPostIdeal.main_v7) = v0 c
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
          ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
          ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
          ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
          ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5)
          ∧ r.2.mem ((c.tc : Thread Cert.KernelPostIdeal.nD Cert.KernelPostIdeal.τ).loc Cert.KernelPostIdeal.main_arg6) = m ((c.tc : Thread Cert.KernelPostIdeal.nD Cert.KernelPostIdeal.τ).loc Cert.KernelPostIdeal.main_arg6)
          ∧ r.2.mem ((c.tc : Thread Cert.KernelPostIdeal.nD Cert.KernelPostIdeal.τ).loc Cert.KernelPostIdeal.main_arg7) = m ((c.tc : Thread Cert.KernelPostIdeal.nD Cert.KernelPostIdeal.τ).loc Cert.KernelPostIdeal.main_arg7))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          r.2.mem ((c.tc : Thread Cert.ReferencePostIdeal.nD Cert.ReferencePostIdeal.τ).loc Cert.ReferencePostIdeal.main_v39) = v0 c
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1)
          ∧ r.2.mem ((c.tc : Thread Cert.ReferencePostIdeal.nD Cert.ReferencePostIdeal.τ).loc Cert.ReferencePostIdeal.main_arg2) = m' ((c.tc : Thread Cert.ReferencePostIdeal.nD Cert.ReferencePostIdeal.τ).loc Cert.ReferencePostIdeal.main_arg2)
          ∧ r.2.mem ((c.tc : Thread Cert.ReferencePostIdeal.nD Cert.ReferencePostIdeal.τ).loc Cert.ReferencePostIdeal.main_arg3) = m' ((c.tc : Thread Cert.ReferencePostIdeal.nD Cert.ReferencePostIdeal.τ).loc Cert.ReferencePostIdeal.main_arg3)
          ∧ r.2.mem ((c.tc : Thread Cert.ReferencePostIdeal.nD Cert.ReferencePostIdeal.τ).loc Cert.ReferencePostIdeal.main_arg4) = m' ((c.tc : Thread Cert.ReferencePostIdeal.nD Cert.ReferencePostIdeal.τ).loc Cert.ReferencePostIdeal.main_arg4)
          ∧ r.2.mem ((c.tc : Thread Cert.ReferencePostIdeal.nD Cert.ReferencePostIdeal.τ).loc Cert.ReferencePostIdeal.main_arg5) = m' ((c.tc : Thread Cert.ReferencePostIdeal.nD Cert.ReferencePostIdeal.τ).loc Cert.ReferencePostIdeal.main_arg5)
          ∧ r.2.mem ((c.tc : Thread Cert.ReferencePostIdeal.nD Cert.ReferencePostIdeal.τ).loc Cert.ReferencePostIdeal.main_arg6) = m' ((c.tc : Thread Cert.ReferencePostIdeal.nD Cert.ReferencePostIdeal.τ).loc Cert.ReferencePostIdeal.main_arg6)
          ∧ r.2.mem ((c.tc : Thread Cert.ReferencePostIdeal.nD Cert.ReferencePostIdeal.τ).loc Cert.ReferencePostIdeal.main_arg7) = m' ((c.tc : Thread Cert.ReferencePostIdeal.nD Cert.ReferencePostIdeal.τ).loc Cert.ReferencePostIdeal.main_arg7))

def Claim : Prop :=
  ∃ (hKernel : Cert.Kernel.Facts) (hKernelIdeal : Cert.KernelIdeal.Facts) (hReferenceIdeal : Cert.ReferenceIdeal.Facts) (hKernelPost : Cert.KernelPost.Facts) (hKernelPostIdeal : Cert.KernelPostIdeal.Facts) (hReferencePostIdeal : Cert.ReferencePostIdeal.Facts) (hPre_plan_nonneg : Cert.Pre_plan_nonneg.Facts),
    quiescent_Kernel (hKernel := hKernel) (hPre_plan_nonneg := hPre_plan_nonneg)
    ∧ quiescent_KernelIdeal (hKernelIdeal := hKernelIdeal) (hPre_plan_nonneg := hPre_plan_nonneg)
    ∧ quiescent_ReferenceIdeal (hReferenceIdeal := hReferenceIdeal) (hPre_plan_nonneg := hPre_plan_nonneg)
    ∧ quiescent_KernelPost (hKernelPost := hKernelPost)
    ∧ quiescent_KernelPostIdeal (hKernelPostIdeal := hKernelPostIdeal)
    ∧ quiescent_ReferencePostIdeal (hReferencePostIdeal := hReferencePostIdeal)
    ∧ preserves_Kernel_KernelIdeal
    ∧ algebraic_KernelIdeal_ReferenceIdeal (hKernelIdeal := hKernelIdeal) (hReferenceIdeal := hReferenceIdeal) (hPre_plan_nonneg := hPre_plan_nonneg)
    ∧ preserves_KernelPost_KernelPostIdeal
    ∧ algebraic_KernelPostIdeal_ReferencePostIdeal (hKernelPostIdeal := hKernelPostIdeal) (hReferencePostIdeal := hReferencePostIdeal)
-- ==== Pre_plan_nonneg.lean ====
abbrev S128 : Shape := ⟨1, ![128]⟩
abbrev S2x8x128x8192 : Shape := ⟨4, ![2, 8, 128, 8192]⟩
abbrev S2x8x8192x128 : Shape := ⟨4, ![2, 8, 8192, 128]⟩
abbrev S2x8x16x80x512 : Shape := ⟨5, ![2, 8, 16, 80, 512]⟩
abbrev S2x8x64x8192 : Shape := ⟨4, ![2, 8, 64, 8192]⟩
abbrev S_ : Shape := ⟨0, ![]⟩

class Facts : Prop where
  bcast_S_S128 : S_.BroadcastsInDim S128 (![] : Fin 0 → Fin S128.rank)

variable [Facts]

def fn {F : FTy → Type} [FloatOps F] (main_arg0 : IVec S128 32) (main_arg1 : FVec F S2x8x128x8192 .bf16) (main_arg2 : FVec F S2x8x8192x128 .bf16) (main_arg3 : FVec F S2x8x16x80x512 .bf16) (main_arg4 : FVec F S2x8x64x8192 .bf16) : IVec S128 1 :=
  let main_c : IVec S_ 32 := constantI S_ 32 0#32
  let main_v0 : IVec S128 32 := broadcastInDim S128 ![] bcast_S_S128 main_c
  let main_v1 : IVec S128 1 := cmpi .sge main_arg0 main_v0
  main_v1
-- ==== Kernel.lean ====
abbrev S128 : Shape := ⟨1, ![128]⟩
abbrev S2x8x128x8192 : Shape := ⟨4, ![2, 8, 128, 8192]⟩
abbrev S2x8x8192x128 : Shape := ⟨4, ![2, 8, 8192, 128]⟩
abbrev S2x8x16x80x512 : Shape := ⟨5, ![2, 8, 16, 80, 512]⟩
abbrev S2x8x64x8192 : Shape := ⟨4, ![2, 8, 64, 8192]⟩
abbrev S1x1x128x1024 : Shape := ⟨4, ![1, 1, 128, 1024]⟩
abbrev S1x1x8192x128 : Shape := ⟨4, ![1, 1, 8192, 128]⟩
abbrev S1x1x16x80x512 : Shape := ⟨5, ![1, 1, 16, 80, 512]⟩
abbrev S1x1x64x1024 : Shape := ⟨4, ![1, 1, 64, 1024]⟩
abbrev S1 : Shape := ⟨1, ![1]⟩
abbrev S1x1x128x256 : Shape := ⟨4, ![1, 1, 128, 256]⟩
abbrev S128x256 : Shape := ⟨2, ![128, 256]⟩
abbrev S256x256 : Shape := ⟨2, ![256, 256]⟩
abbrev S1x256 : Shape := ⟨2, ![1, 256]⟩
abbrev S80x256 : Shape := ⟨2, ![80, 256]⟩
abbrev S1x1x256x128 : Shape := ⟨4, ![1, 1, 256, 128]⟩
abbrev S256x128 : Shape := ⟨2, ![256, 128]⟩
abbrev S1x1x1x80x256 : Shape := ⟨5, ![1, 1, 1, 80, 256]⟩
abbrev S256 : Shape := ⟨1, ![256]⟩
abbrev S64x256 : Shape := ⟨2, ![64, 256]⟩
abbrev S64x1024 : Shape := ⟨2, ![64, 1024]⟩

abbrev nBuf : Space → Nat
  | .hbm => 5
  | .vmem => 10
  | .smem => 1
  | _ => 0

abbrev bufTy : (tb : Table) → Fin (tcTables nBuf tb) → BufTy
  | .hbm, ⟨0, _⟩ => ⟨S2x8x128x8192, .bf16⟩
  | .hbm, ⟨1, _⟩ => ⟨S2x8x8192x128, .bf16⟩
  | .hbm, ⟨2, _⟩ => ⟨S2x8x16x80x512, .bf16⟩
  | .hbm, ⟨3, _⟩ => ⟨S2x8x64x8192, .bf16⟩
  | .hbm, ⟨4, _⟩ => ⟨S2x8x64x8192, .bf16⟩
  | .local _ .vmem, ⟨0, _⟩ => ⟨S1x1x128x1024, .bf16⟩
  | .local _ .vmem, ⟨1, _⟩ => ⟨S1x1x128x1024, .bf16⟩
  | .local _ .vmem, ⟨2, _⟩ => ⟨S1x1x8192x128, .bf16⟩
  | .local _ .vmem, ⟨3, _⟩ => ⟨S1x1x8192x128, .bf16⟩
  | .local _ .vmem, ⟨4, _⟩ => ⟨S1x1x16x80x512, .bf16⟩
  | .local _ .vmem, ⟨5, _⟩ => ⟨S1x1x16x80x512, .bf16⟩
  | .local _ .vmem, ⟨6, _⟩ => ⟨S1x1x64x1024, .bf16⟩
  | .local _ .vmem, ⟨7, _⟩ => ⟨S1x1x64x1024, .bf16⟩
  | .local _ .vmem, ⟨8, _⟩ => ⟨S1x1x64x1024, .bf16⟩
  | .local _ .vmem, ⟨9, _⟩ => ⟨S1x1x64x1024, .bf16⟩
  | .local _ .smem, ⟨0, _⟩ => ⟨S128, .i32⟩
  | _, _ => ⟨S2x8x128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 8], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_0 : BitVec 32 := 8#32
  let v2 : BitVec 32 := Scalar.muli v1 c8_i32_0
  let arg2 : BitVec 32 := BitVec.ofNat 32 (i 2).val
  let v3 : BitVec 32 := Scalar.addi v2 arg2
  let v4 : Index := Scalar.indexCast v3
  ![v4.toNat]
def k0_mult1 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_190 : BitVec 32 := 1024#32
  let v360 : BitVec 32 := Scalar.muli v22 c1024_i32_190
  v360
def k0_cond1 (i : grid0.Coords) (v5 : BitVec 32) : BitVec 1 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let arg2 : BitVec 32 := BitVec.ofNat 32 (i 2).val
  let v52 : BitVec 1 := Scalar.cmpi .sge v22 arg2
  let c0_i32_31 : BitVec 32 := 0#32
  let c4_i32_5 : BitVec 32 := 4#32
  let c0_i32_6 : BitVec 32 := 0#32
  let v23 : BitVec 1 := Scalar.cmpi .eq c4_i32_5 c0_i32_6
  let c1_i32_7 : BitVec 32 := 1#32
  let v24 : BitVec 32 := Scalar.select v23 c1_i32_7 c4_i32_5
  let v25 : BitVec 32 := Scalar.remsi v5 v24
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let c0_i32_8 : BitVec 32 := 0#32
  let v26 : BitVec 1 := Scalar.cmpi .ne v25 c0_i32_8
  let v30 : BitVec 1 := Scalar.andi v29 v26
  let v31 : BitVec 32 := Scalar.addi v25 v24
  let v32 : BitVec 32 := Scalar.select v30 v31 v25
  let c1_i32_30 : BitVec 32 := 1#32
  let v53 : BitVec 32 := Scalar.addi v32 c1_i32_30
  let v54 : BitVec 32 := Scalar.select v52 c0_i32_31 v53
  let c0_i32_32 : BitVec 32 := 0#32
  let v55 : BitVec 32 := Scalar.maxsi v54 c0_i32_32
  let c4_i32_33 : BitVec 32 := 4#32
  let v56 : BitVec 32 := Scalar.minsi v55 c4_i32_33
  let c0_i32_34 : BitVec 32 := 0#32
  let v57 : BitVec 1 := Scalar.cmpi .ne v56 c0_i32_34
  v57

def k0_cond2 (i : grid0.Coords) (v5 : BitVec 32) : BitVec 1 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let arg2 : BitVec 32 := BitVec.ofNat 32 (i 2).val
  let v52 : BitVec 1 := Scalar.cmpi .sge v22 arg2
  let c0_i32_31 : BitVec 32 := 0#32
  let c4_i32_5 : BitVec 32 := 4#32
  let c0_i32_6 : BitVec 32 := 0#32
  let v23 : BitVec 1 := Scalar.cmpi .eq c4_i32_5 c0_i32_6
  let c1_i32_7 : BitVec 32 := 1#32
  let v24 : BitVec 32 := Scalar.select v23 c1_i32_7 c4_i32_5
  let v25 : BitVec 32 := Scalar.remsi v5 v24
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let c0_i32_8 : BitVec 32 := 0#32
  let v26 : BitVec 1 := Scalar.cmpi .ne v25 c0_i32_8
  let v30 : BitVec 1 := Scalar.andi v29 v26
  let v31 : BitVec 32 := Scalar.addi v25 v24
  let v32 : BitVec 32 := Scalar.select v30 v31 v25
  let c1_i32_30 : BitVec 32 := 1#32
  let v53 : BitVec 32 := Scalar.addi v32 c1_i32_30
  let v54 : BitVec 32 := Scalar.select v52 c0_i32_31 v53
  let c0_i32_32 : BitVec 32 := 0#32
  let v55 : BitVec 32 := Scalar.maxsi v54 c0_i32_32
  let c4_i32_33 : BitVec 32 := 4#32
  let v56 : BitVec 32 := Scalar.minsi v55 c4_i32_33
  let c1_i32_184 : BitVec 32 := 1#32
  let v351 : BitVec 32 := Scalar.subi v56 c1_i32_184
  let c0_i32_185 : BitVec 32 := 0#32
  let v352 : BitVec 1 := Scalar.cmpi .ne v351 c0_i32_185
  v352

def k0_cond3 (i : grid0.Coords) (v5 : BitVec 32) : BitVec 1 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let arg2 : BitVec 32 := BitVec.ofNat 32 (i 2).val
  let v52 : BitVec 1 := Scalar.cmpi .sge v22 arg2
  let c0_i32_31 : BitVec 32 := 0#32
  let c4_i32_5 : BitVec 32 := 4#32
  let c0_i32_6 : BitVec 32 := 0#32
  let v23 : BitVec 1 := Scalar.cmpi .eq c4_i32_5 c0_i32_6
  let c1_i32_7 : BitVec 32 := 1#32
  let v24 : BitVec 32 := Scalar.select v23 c1_i32_7 c4_i32_5
  let v25 : BitVec 32 := Scalar.remsi v5 v24
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let c0_i32_8 : BitVec 32 := 0#32
  let v26 : BitVec 1 := Scalar.cmpi .ne v25 c0_i32_8
  let v30 : BitVec 1 := Scalar.andi v29 v26
  let v31 : BitVec 32 := Scalar.addi v25 v24
  let v32 : BitVec 32 := Scalar.select v30 v31 v25
  let c1_i32_30 : BitVec 32 := 1#32
  let v53 : BitVec 32 := Scalar.addi v32 c1_i32_30
  let v54 : BitVec 32 := Scalar.select v52 c0_i32_31 v53
  let c0_i32_32 : BitVec 32 := 0#32
  let v55 : BitVec 32 := Scalar.maxsi v54 c0_i32_32
  let c4_i32_33 : BitVec 32 := 4#32
  let v56 : BitVec 32 := Scalar.minsi v55 c4_i32_33
  let c1_i32_184 : BitVec 32 := 1#32
  let v351 : BitVec 32 := Scalar.subi v56 c1_i32_184
  let c1_i32_186 : BitVec 32 := 1#32
  let v354 : BitVec 32 := Scalar.subi v351 c1_i32_186
  let c0_i32_187 : BitVec 32 := 0#32
  let v355 : BitVec 1 := Scalar.cmpi .ne v354 c0_i32_187
  v355

def k0_cond4 (i : grid0.Coords) (v5 : BitVec 32) : BitVec 1 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let arg2 : BitVec 32 := BitVec.ofNat 32 (i 2).val
  let v52 : BitVec 1 := Scalar.cmpi .sge v22 arg2
  let c0_i32_31 : BitVec 32 := 0#32
  let c4_i32_5 : BitVec 32 := 4#32
  let c0_i32_6 : BitVec 32 := 0#32
  let v23 : BitVec 1 := Scalar.cmpi .eq c4_i32_5 c0_i32_6
  let c1_i32_7 : BitVec 32 := 1#32
  let v24 : BitVec 32 := Scalar.select v23 c1_i32_7 c4_i32_5
  let v25 : BitVec 32 := Scalar.remsi v5 v24
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let c0_i32_8 : BitVec 32 := 0#32
  let v26 : BitVec 1 := Scalar.cmpi .ne v25 c0_i32_8
  let v30 : BitVec 1 := Scalar.andi v29 v26
  let v31 : BitVec 32 := Scalar.addi v25 v24
  let v32 : BitVec 32 := Scalar.select v30 v31 v25
  let c1_i32_30 : BitVec 32 := 1#32
  let v53 : BitVec 32 := Scalar.addi v32 c1_i32_30
  let v54 : BitVec 32 := Scalar.select v52 c0_i32_31 v53
  let c0_i32_32 : BitVec 32 := 0#32
  let v55 : BitVec 32 := Scalar.maxsi v54 c0_i32_32
  let c4_i32_33 : BitVec 32 := 4#32
  let v56 : BitVec 32 := Scalar.minsi v55 c4_i32_33
  let c1_i32_184 : BitVec 32 := 1#32
  let v351 : BitVec 32 := Scalar.subi v56 c1_i32_184
  let c1_i32_186 : BitVec 32 := 1#32
  let v354 : BitVec 32 := Scalar.subi v351 c1_i32_186
  let c1_i32_188 : BitVec 32 := 1#32
  let v357 : BitVec 32 := Scalar.subi v354 c1_i32_188
  let c0_i32_189 : BitVec 32 := 0#32
  let v358 : BitVec 1 := Scalar.cmpi .ne v357 c0_i32_189
  v358

def k0_off2 (v5 : BitVec 32) (c512_i32_191 : BitVec 32) : Fin 4 → Nat :=
  let c0_192 : Index := 0#32
  let c0_193 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_190 : BitVec 32 := 1024#32
  let v360 : BitVec 32 := Scalar.muli v22 c1024_i32_190
  let v361 : BitVec 32 := v360
  let v362 : BitVec 32 := Scalar.addi v361 c512_i32_191
  let v363 : Index := Scalar.indexCast v362
  let c0_194 : Index := 0#32
  ![0, 0, v363.toNat, 0]
def k0_mult2 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_196 : BitVec 32 := 1024#32
  let v367 : BitVec 32 := Scalar.muli v22 c1024_i32_196
  v367
def k0_mult3 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_202 : BitVec 32 := 1024#32
  let v374 : BitVec 32 := Scalar.muli v22 c1024_i32_202
  v374
def k0_mult4 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_208 : BitVec 32 := 1#32
  let v381 : BitVec 32 := Scalar.addi v22 c1_i32_208
  let c1024_i32_209 : BitVec 32 := 1024#32
  let v382 : BitVec 32 := Scalar.muli v381 c1024_i32_209
  v382
def k0_off3 (v5 : BitVec 32) : Fin 4 → Nat :=
  let c0_211 : Index := 0#32
  let c0_212 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_208 : BitVec 32 := 1#32
  let v381 : BitVec 32 := Scalar.addi v22 c1_i32_208
  let c1024_i32_209 : BitVec 32 := 1024#32
  let v382 : BitVec 32 := Scalar.muli v381 c1024_i32_209
  let v383 : BitVec 32 := v382
  let c0_i32_210 : BitVec 32 := 0#32
  let v384 : BitVec 32 := Scalar.addi v383 c0_i32_210
  let v385 : Index := Scalar.indexCast v384
  let c0_213 : Index := 0#32
  ![0, 0, v385.toNat, 0]
def k0_off4 (v5 : BitVec 32) : Fin 5 → Nat :=
  let c0_217 : Index := 0#32
  let c0_218 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c2_i32_215 : BitVec 32 := 2#32
  let v389 : BitVec 32 := Scalar.muli v22 c2_i32_215
  let c1_i32_216 : BitVec 32 := 1#32
  let v390 : BitVec 32 := Scalar.addi v389 c1_i32_216
  let v391 : Index := Scalar.indexCast v390
  let c0_219 : Index := 0#32
  let c0_220 : Index := 0#32
  ![0, 0, v391.toNat, 0, 0]
def k0_off5 (v5 : BitVec 32) : Fin 5 → Nat :=
  let c0_225 : Index := 0#32
  let c0_226 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c2_i32_223 : BitVec 32 := 2#32
  let v407 : BitVec 32 := Scalar.muli v22 c2_i32_223
  let c1_i32_224 : BitVec 32 := 1#32
  let v408 : BitVec 32 := Scalar.addi v407 c1_i32_224
  let v409 : Index := Scalar.indexCast v408
  let c0_227 : Index := 0#32
  let c256_228 : Index := 256#32
  ![0, 0, v409.toNat, 0, 256]
def k0_mult5 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_190 : BitVec 32 := 1024#32
  let v360 : BitVec 32 := Scalar.muli v22 c1024_i32_190
  v360
def k0_off6 (v5 : BitVec 32) (c256_i32_191 : BitVec 32) : Fin 4 → Nat :=
  let c0_192 : Index := 0#32
  let c0_193 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_190 : BitVec 32 := 1024#32
  let v360 : BitVec 32 := Scalar.muli v22 c1024_i32_190
  let v361 : BitVec 32 := v360
  let v362 : BitVec 32 := Scalar.addi v361 c256_i32_191
  let v363 : Index := Scalar.indexCast v362
  let c0_194 : Index := 0#32
  ![0, 0, v363.toNat, 0]
def k0_mult6 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_196 : BitVec 32 := 1024#32
  let v367 : BitVec 32 := Scalar.muli v22 c1024_i32_196
  v367
def k0_mult7 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_202 : BitVec 32 := 1024#32
  let v374 : BitVec 32 := Scalar.muli v22 c1024_i32_202
  v374
def k0_mult8 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_208 : BitVec 32 := 1024#32
  let v381 : BitVec 32 := Scalar.muli v22 c1024_i32_208
  v381
def k0_mult9 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_214 : BitVec 32 := 1024#32
  let v388 : BitVec 32 := Scalar.muli v22 c1024_i32_214
  v388
def k0_mult10 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_220 : BitVec 32 := 1024#32
  let v395 : BitVec 32 := Scalar.muli v22 c1024_i32_220
  v395
def k0_mult11 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_226 : BitVec 32 := 1#32
  let v402 : BitVec 32 := Scalar.addi v22 c1_i32_226
  let c1024_i32_227 : BitVec 32 := 1024#32
  let v403 : BitVec 32 := Scalar.muli v402 c1024_i32_227
  v403
def k0_off7 (v5 : BitVec 32) : Fin 4 → Nat :=
  let c0_229 : Index := 0#32
  let c0_230 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_226 : BitVec 32 := 1#32
  let v402 : BitVec 32 := Scalar.addi v22 c1_i32_226
  let c1024_i32_227 : BitVec 32 := 1024#32
  let v403 : BitVec 32 := Scalar.muli v402 c1024_i32_227
  let v404 : BitVec 32 := v403
  let c0_i32_228 : BitVec 32 := 0#32
  let v405 : BitVec 32 := Scalar.addi v404 c0_i32_228
  let v406 : Index := Scalar.indexCast v405
  let c0_231 : Index := 0#32
  ![0, 0, v406.toNat, 0]
def k0_off8 (v5 : BitVec 32) (c0_i32_234 : BitVec 32) : Fin 5 → Nat :=
  let c0_235 : Index := 0#32
  let c0_236 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c2_i32_233 : BitVec 32 := 2#32
  let v410 : BitVec 32 := Scalar.muli v22 c2_i32_233
  let v411 : BitVec 32 := Scalar.addi v410 c0_i32_234
  let v412 : Index := Scalar.indexCast v411
  let c0_237 : Index := 0#32
  let c256_238 : Index := 256#32
  ![0, 0, v412.toNat, 0, 256]
def k0_off9 (v5 : BitVec 32) : Fin 5 → Nat :=
  let c0_243 : Index := 0#32
  let c0_244 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c2_i32_241 : BitVec 32 := 2#32
  let v428 : BitVec 32 := Scalar.muli v22 c2_i32_241
  let c1_i32_242 : BitVec 32 := 1#32
  let v429 : BitVec 32 := Scalar.addi v428 c1_i32_242
  let v430 : Index := Scalar.indexCast v429
  let c0_245 : Index := 0#32
  let c0_246 : Index := 0#32
  ![0, 0, v430.toNat, 0, 0]
def k0_mult12 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_188 : BitVec 32 := 1024#32
  let v357 : BitVec 32 := Scalar.muli v22 c1024_i32_188
  v357
def k0_off10 (v5 : BitVec 32) (c0_i32_189 : BitVec 32) : Fin 4 → Nat :=
  let c0_190 : Index := 0#32
  let c0_191 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_188 : BitVec 32 := 1024#32
  let v357 : BitVec 32 := Scalar.muli v22 c1024_i32_188
  let v358 : BitVec 32 := v357
  let v359 : BitVec 32 := Scalar.addi v358 c0_i32_189
  let v360 : Index := Scalar.indexCast v359
  let c0_192 : Index := 0#32
  ![0, 0, v360.toNat, 0]
def k0_mult13 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_194 : BitVec 32 := 1024#32
  let v364 : BitVec 32 := Scalar.muli v22 c1024_i32_194
  v364
def k0_mult14 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_200 : BitVec 32 := 1024#32
  let v371 : BitVec 32 := Scalar.muli v22 c1024_i32_200
  v371
def k0_mult15 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_206 : BitVec 32 := 1024#32
  let v378 : BitVec 32 := Scalar.muli v22 c1024_i32_206
  v378
def k0_mult16 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_212 : BitVec 32 := 1024#32
  let v385 : BitVec 32 := Scalar.muli v22 c1024_i32_212
  v385
def k0_mult17 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_218 : BitVec 32 := 1024#32
  let v392 : BitVec 32 := Scalar.muli v22 c1024_i32_218
  v392
def k0_mult18 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_224 : BitVec 32 := 1024#32
  let v399 : BitVec 32 := Scalar.muli v22 c1024_i32_224
  v399
def k0_mult19 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_230 : BitVec 32 := 1024#32
  let v406 : BitVec 32 := Scalar.muli v22 c1024_i32_230
  v406
def k0_mult20 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_236 : BitVec 32 := 1024#32
  let v413 : BitVec 32 := Scalar.muli v22 c1024_i32_236
  v413
def k0_off11 (v5 : BitVec 32) (c0_i32_243 : BitVec 32) : Fin 5 → Nat :=
  let c0_244 : Index := 0#32
  let c0_245 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c2_i32_242 : BitVec 32 := 2#32
  let v420 : BitVec 32 := Scalar.muli v22 c2_i32_242
  let v421 : BitVec 32 := Scalar.addi v420 c0_i32_243
  let v422 : Index := Scalar.indexCast v421
  let c0_246 : Index := 0#32
  let c0_247 : Index := 0#32
  ![0, 0, v422.toNat, 0, 0]
def k0_mult21 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_250 : BitVec 32 := 1024#32
  let v438 : BitVec 32 := Scalar.muli v22 c1024_i32_250
  v438
def k0_off12 (v5 : BitVec 32) (c0_i32_257 : BitVec 32) : Fin 5 → Nat :=
  let c0_258 : Index := 0#32
  let c0_259 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c2_i32_256 : BitVec 32 := 2#32
  let v445 : BitVec 32 := Scalar.muli v22 c2_i32_256
  let v446 : BitVec 32 := Scalar.addi v445 c0_i32_257
  let v447 : Index := Scalar.indexCast v446
  let c0_260 : Index := 0#32
  let c256_261 : Index := 256#32
  ![0, 0, v447.toNat, 0, 256]
def k0_mult22 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_264 : BitVec 32 := 1#32
  let v463 : BitVec 32 := Scalar.addi v22 c1_i32_264
  let c1024_i32_265 : BitVec 32 := 1024#32
  let v464 : BitVec 32 := Scalar.muli v463 c1024_i32_265
  v464
def k0_off13 (v5 : BitVec 32) : Fin 4 → Nat :=
  let c0_267 : Index := 0#32
  let c0_268 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_264 : BitVec 32 := 1#32
  let v463 : BitVec 32 := Scalar.addi v22 c1_i32_264
  let c1024_i32_265 : BitVec 32 := 1024#32
  let v464 : BitVec 32 := Scalar.muli v463 c1024_i32_265
  let v465 : BitVec 32 := v464
  let c0_i32_266 : BitVec 32 := 0#32
  let v466 : BitVec 32 := Scalar.addi v465 c0_i32_266
  let v467 : Index := Scalar.indexCast v466
  let c0_269 : Index := 0#32
  ![0, 0, v467.toNat, 0]
def k0_mult23 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_186 : BitVec 32 := 1024#32
  let v354 : BitVec 32 := Scalar.muli v22 c1024_i32_186
  v354
def k0_off14 (v5 : BitVec 32) (c0_i32_187 : BitVec 32) : Fin 4 → Nat :=
  let c0_188 : Index := 0#32
  let c0_189 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_186 : BitVec 32 := 1024#32
  let v354 : BitVec 32 := Scalar.muli v22 c1024_i32_186
  let v355 : BitVec 32 := v354
  let v356 : BitVec 32 := Scalar.addi v355 c0_i32_187
  let v357 : Index := Scalar.indexCast v356
  let c0_190 : Index := 0#32
  ![0, 0, v357.toNat, 0]
def k0_mult24 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_192 : BitVec 32 := 1024#32
  let v361 : BitVec 32 := Scalar.muli v22 c1024_i32_192
  v361
def k0_mult25 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_198 : BitVec 32 := 1024#32
  let v368 : BitVec 32 := Scalar.muli v22 c1024_i32_198
  v368
def k0_mult26 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_204 : BitVec 32 := 1024#32
  let v375 : BitVec 32 := Scalar.muli v22 c1024_i32_204
  v375
def k0_mult27 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_210 : BitVec 32 := 1024#32
  let v382 : BitVec 32 := Scalar.muli v22 c1024_i32_210
  v382
def k0_mult28 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_216 : BitVec 32 := 1024#32
  let v389 : BitVec 32 := Scalar.muli v22 c1024_i32_216
  v389
def k0_mult29 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_222 : BitVec 32 := 1024#32
  let v396 : BitVec 32 := Scalar.muli v22 c1024_i32_222
  v396
def k0_mult30 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_228 : BitVec 32 := 1024#32
  let v403 : BitVec 32 := Scalar.muli v22 c1024_i32_228
  v403
def k0_mult31 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_234 : BitVec 32 := 1024#32
  let v410 : BitVec 32 := Scalar.muli v22 c1024_i32_234
  v410
def k0_off15 (v5 : BitVec 32) (c0_i32_241 : BitVec 32) : Fin 5 → Nat :=
  let c0_242 : Index := 0#32
  let c0_243 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c2_i32_240 : BitVec 32 := 2#32
  let v417 : BitVec 32 := Scalar.muli v22 c2_i32_240
  let v418 : BitVec 32 := Scalar.addi v417 c0_i32_241
  let v419 : Index := Scalar.indexCast v418
  let c0_244 : Index := 0#32
  let c0_245 : Index := 0#32
  ![0, 0, v419.toNat, 0, 0]
def k0_mult32 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_248 : BitVec 32 := 1024#32
  let v435 : BitVec 32 := Scalar.muli v22 c1024_i32_248
  v435
def k0_mult33 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_262 : BitVec 32 := 1024#32
  let v460 : BitVec 32 := Scalar.muli v22 c1024_i32_262
  v460
def k0_mult34 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_276 : BitVec 32 := 1024#32
  let v485 : BitVec 32 := Scalar.muli v22 c1024_i32_276
  v485
def k0_mult35 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_290 : BitVec 32 := 1024#32
  let v510 : BitVec 32 := Scalar.muli v22 c1024_i32_290
  v510
def k0_off16 (v5 : BitVec 32) (c0_i32_297 : BitVec 32) : Fin 5 → Nat :=
  let c0_298 : Index := 0#32
  let c0_299 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c2_i32_296 : BitVec 32 := 2#32
  let v517 : BitVec 32 := Scalar.muli v22 c2_i32_296
  let v518 : BitVec 32 := Scalar.addi v517 c0_i32_297
  let v519 : Index := Scalar.indexCast v518
  let c0_300 : Index := 0#32
  let c256_301 : Index := 256#32
  ![0, 0, v519.toNat, 0, 256]
def k0_mult36 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_304 : BitVec 32 := 1024#32
  let v535 : BitVec 32 := Scalar.muli v22 c1024_i32_304
  v535
def k0_mult37 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_318 : BitVec 32 := 1024#32
  let v560 : BitVec 32 := Scalar.muli v22 c1024_i32_318
  v560
def k0_mult38 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1024_i32_332 : BitVec 32 := 1024#32
  let v585 : BitVec 32 := Scalar.muli v22 c1024_i32_332
  v585
def k0_mult39 (v5 : BitVec 32) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_346 : BitVec 32 := 1#32
  let v610 : BitVec 32 := Scalar.addi v22 c1_i32_346
  let c1024_i32_347 : BitVec 32 := 1024#32
  let v611 : BitVec 32 := Scalar.muli v610 c1024_i32_347
  v611
def k0_off17 (v5 : BitVec 32) : Fin 4 → Nat :=
  let c0_349 : Index := 0#32
  let c0_350 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_346 : BitVec 32 := 1#32
  let v610 : BitVec 32 := Scalar.addi v22 c1_i32_346
  let c1024_i32_347 : BitVec 32 := 1024#32
  let v611 : BitVec 32 := Scalar.muli v610 c1024_i32_347
  let v612 : BitVec 32 := v611
  let c0_i32_348 : BitVec 32 := 0#32
  let v613 : BitVec 32 := Scalar.addi v612 c0_i32_348
  let v614 : Index := Scalar.indexCast v613
  let c0_351 : Index := 0#32
  ![0, 0, v614.toNat, 0]
def k0_mult40 (i : grid0.Coords) : BitVec 32 :=
  let arg2 : BitVec 32 := BitVec.ofNat 32 (i 2).val
  let c1024_i32_184 : BitVec 32 := 1024#32
  let v351 : BitVec 32 := Scalar.muli arg2 c1024_i32_184
  v351
def k0_off18 (i : grid0.Coords) : Fin 4 → Nat :=
  let c0_186 : Index := 0#32
  let c0_187 : Index := 0#32
  let arg2 : BitVec 32 := BitVec.ofNat 32 (i 2).val
  let c1024_i32_184 : BitVec 32 := 1024#32
  let v351 : BitVec 32 := Scalar.muli arg2 c1024_i32_184
  let v352 : BitVec 32 := v351
  let c0_i32_185 : BitVec 32 := 0#32
  let v353 : BitVec 32 := Scalar.addi v352 c0_i32_185
  let v354 : Index := Scalar.indexCast v353
  let c0_188 : Index := 0#32
  ![0, 0, v354.toNat, 0]
@[reducible] def k0_t1_loop (i : grid0.Coords) (v5 : BitVec 32) : Scf.Loop 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_37 : BitVec 32 := 1#32
  ⟨v59, v64, c1_i32_37⟩
def k0_mult41 (i : grid0.Coords) (v5 : BitVec 32) (k0_t1 : Fin (k0_t1_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let c1_i32_37 : BitVec 32 := 1#32
  let arg9 : BitVec 32 := Scf.iv v59 c1_i32_37 k0_t1
  let c1024_i32_184 : BitVec 32 := 1024#32
  let v351 : BitVec 32 := Scalar.muli arg9 c1024_i32_184
  v351
def k0_off19 (i : grid0.Coords) (v5 : BitVec 32) (k0_t1 : Fin (k0_t1_loop i v5).trips) (c0_i32_185 : BitVec 32) : Fin 4 → Nat :=
  let c0_186 : Index := 0#32
  let c0_187 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let c1_i32_37 : BitVec 32 := 1#32
  let arg9 : BitVec 32 := Scf.iv v59 c1_i32_37 k0_t1
  let c1024_i32_184 : BitVec 32 := 1024#32
  let v351 : BitVec 32 := Scalar.muli arg9 c1024_i32_184
  let v352 : BitVec 32 := v351
  let v353 : BitVec 32 := Scalar.addi v352 c0_i32_185
  let v354 : Index := Scalar.indexCast v353
  let c0_188 : Index := 0#32
  ![0, 0, v354.toNat, 0]
def k0_mult42 (i : grid0.Coords) (v5 : BitVec 32) (k0_t1 : Fin (k0_t1_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let c1_i32_37 : BitVec 32 := 1#32
  let arg9 : BitVec 32 := Scf.iv v59 c1_i32_37 k0_t1
  let c1024_i32_190 : BitVec 32 := 1024#32
  let v358 : BitVec 32 := Scalar.muli arg9 c1024_i32_190
  v358
def k0_mult43 (i : grid0.Coords) (v5 : BitVec 32) (k0_t1 : Fin (k0_t1_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let c1_i32_37 : BitVec 32 := 1#32
  let arg9 : BitVec 32 := Scf.iv v59 c1_i32_37 k0_t1
  let c1024_i32_196 : BitVec 32 := 1024#32
  let v365 : BitVec 32 := Scalar.muli arg9 c1024_i32_196
  v365
def k0_mult44 (i : grid0.Coords) (v5 : BitVec 32) (k0_t1 : Fin (k0_t1_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let c1_i32_37 : BitVec 32 := 1#32
  let arg9 : BitVec 32 := Scf.iv v59 c1_i32_37 k0_t1
  let c1024_i32_202 : BitVec 32 := 1024#32
  let v372 : BitVec 32 := Scalar.muli arg9 c1024_i32_202
  v372
def k0_mult45 (i : grid0.Coords) (v5 : BitVec 32) (k0_t1 : Fin (k0_t1_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let c1_i32_37 : BitVec 32 := 1#32
  let arg9 : BitVec 32 := Scf.iv v59 c1_i32_37 k0_t1
  let c1024_i32_208 : BitVec 32 := 1024#32
  let v379 : BitVec 32 := Scalar.muli arg9 c1024_i32_208
  v379
def k0_mult46 (i : grid0.Coords) (v5 : BitVec 32) (k0_t1 : Fin (k0_t1_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let c1_i32_37 : BitVec 32 := 1#32
  let arg9 : BitVec 32 := Scf.iv v59 c1_i32_37 k0_t1
  let c1024_i32_214 : BitVec 32 := 1024#32
  let v386 : BitVec 32 := Scalar.muli arg9 c1024_i32_214
  v386
def k0_mult47 (i : grid0.Coords) (v5 : BitVec 32) (k0_t1 : Fin (k0_t1_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let c1_i32_37 : BitVec 32 := 1#32
  let arg9 : BitVec 32 := Scf.iv v59 c1_i32_37 k0_t1
  let c1024_i32_220 : BitVec 32 := 1024#32
  let v393 : BitVec 32 := Scalar.muli arg9 c1024_i32_220
  v393
def k0_mult48 (i : grid0.Coords) (v5 : BitVec 32) (k0_t1 : Fin (k0_t1_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let c1_i32_37 : BitVec 32 := 1#32
  let arg9 : BitVec 32 := Scf.iv v59 c1_i32_37 k0_t1
  let c1024_i32_226 : BitVec 32 := 1024#32
  let v400 : BitVec 32 := Scalar.muli arg9 c1024_i32_226
  v400
def k0_off20 (i : grid0.Coords) (v5 : BitVec 32) (k0_t1 : Fin (k0_t1_loop i v5).trips) (c0_i32_233 : BitVec 32) : Fin 5 → Nat :=
  let c0_234 : Index := 0#32
  let c0_235 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let c1_i32_37 : BitVec 32 := 1#32
  let arg9 : BitVec 32 := Scf.iv v59 c1_i32_37 k0_t1
  let c2_i32_232 : BitVec 32 := 2#32
  let v407 : BitVec 32 := Scalar.muli arg9 c2_i32_232
  let v408 : BitVec 32 := Scalar.addi v407 c0_i32_233
  let v409 : Index := Scalar.indexCast v408
  let c0_236 : Index := 0#32
  let c0_237 : Index := 0#32
  ![0, 0, v409.toNat, 0, 0]
def k0_mult49 (i : grid0.Coords) (v5 : BitVec 32) (k0_t1 : Fin (k0_t1_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let c1_i32_37 : BitVec 32 := 1#32
  let arg9 : BitVec 32 := Scf.iv v59 c1_i32_37 k0_t1
  let c1024_i32_240 : BitVec 32 := 1024#32
  let v425 : BitVec 32 := Scalar.muli arg9 c1024_i32_240
  v425
def k0_mult50 (i : grid0.Coords) (v5 : BitVec 32) (k0_t1 : Fin (k0_t1_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let c1_i32_37 : BitVec 32 := 1#32
  let arg9 : BitVec 32 := Scf.iv v59 c1_i32_37 k0_t1
  let c1024_i32_254 : BitVec 32 := 1024#32
  let v450 : BitVec 32 := Scalar.muli arg9 c1024_i32_254
  v450
def k0_mult51 (i : grid0.Coords) (v5 : BitVec 32) (k0_t1 : Fin (k0_t1_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let c1_i32_37 : BitVec 32 := 1#32
  let arg9 : BitVec 32 := Scf.iv v59 c1_i32_37 k0_t1
  let c1024_i32_268 : BitVec 32 := 1024#32
  let v475 : BitVec 32 := Scalar.muli arg9 c1024_i32_268
  v475
def k0_mult52 (i : grid0.Coords) (v5 : BitVec 32) (k0_t1 : Fin (k0_t1_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let c1_i32_37 : BitVec 32 := 1#32
  let arg9 : BitVec 32 := Scf.iv v59 c1_i32_37 k0_t1
  let c1024_i32_282 : BitVec 32 := 1024#32
  let v500 : BitVec 32 := Scalar.muli arg9 c1024_i32_282
  v500
def k0_off21 (i : grid0.Coords) (v5 : BitVec 32) (k0_t1 : Fin (k0_t1_loop i v5).trips) (c0_i32_289 : BitVec 32) : Fin 5 → Nat :=
  let c0_290 : Index := 0#32
  let c0_291 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let c1_i32_37 : BitVec 32 := 1#32
  let arg9 : BitVec 32 := Scf.iv v59 c1_i32_37 k0_t1
  let c2_i32_288 : BitVec 32 := 2#32
  let v507 : BitVec 32 := Scalar.muli arg9 c2_i32_288
  let v508 : BitVec 32 := Scalar.addi v507 c0_i32_289
  let v509 : Index := Scalar.indexCast v508
  let c0_292 : Index := 0#32
  let c256_293 : Index := 256#32
  ![0, 0, v509.toNat, 0, 256]
def k0_mult53 (i : grid0.Coords) (v5 : BitVec 32) (k0_t1 : Fin (k0_t1_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let c1_i32_37 : BitVec 32 := 1#32
  let arg9 : BitVec 32 := Scf.iv v59 c1_i32_37 k0_t1
  let c1024_i32_296 : BitVec 32 := 1024#32
  let v525 : BitVec 32 := Scalar.muli arg9 c1024_i32_296
  v525
def k0_mult54 (i : grid0.Coords) (v5 : BitVec 32) (k0_t1 : Fin (k0_t1_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let c1_i32_37 : BitVec 32 := 1#32
  let arg9 : BitVec 32 := Scf.iv v59 c1_i32_37 k0_t1
  let c1024_i32_310 : BitVec 32 := 1024#32
  let v550 : BitVec 32 := Scalar.muli arg9 c1024_i32_310
  v550
def k0_mult55 (i : grid0.Coords) (v5 : BitVec 32) (k0_t1 : Fin (k0_t1_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let c1_i32_37 : BitVec 32 := 1#32
  let arg9 : BitVec 32 := Scf.iv v59 c1_i32_37 k0_t1
  let c1024_i32_324 : BitVec 32 := 1024#32
  let v575 : BitVec 32 := Scalar.muli arg9 c1024_i32_324
  v575
def k0_mult56 (i : grid0.Coords) (v5 : BitVec 32) (k0_t1 : Fin (k0_t1_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let c1_i32_37 : BitVec 32 := 1#32
  let arg9 : BitVec 32 := Scf.iv v59 c1_i32_37 k0_t1
  let c1_i32_338 : BitVec 32 := 1#32
  let v600 : BitVec 32 := Scalar.addi arg9 c1_i32_338
  let c1024_i32_339 : BitVec 32 := 1024#32
  let v601 : BitVec 32 := Scalar.muli v600 c1024_i32_339
  v601
def k0_off22 (i : grid0.Coords) (v5 : BitVec 32) (k0_t1 : Fin (k0_t1_loop i v5).trips) : Fin 4 → Nat :=
  let c0_341 : Index := 0#32
  let c0_342 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let c1_i32_37 : BitVec 32 := 1#32
  let arg9 : BitVec 32 := Scf.iv v59 c1_i32_37 k0_t1
  let c1_i32_338 : BitVec 32 := 1#32
  let v600 : BitVec 32 := Scalar.addi arg9 c1_i32_338
  let c1024_i32_339 : BitVec 32 := 1024#32
  let v601 : BitVec 32 := Scalar.muli v600 c1024_i32_339
  let v602 : BitVec 32 := v601
  let c0_i32_340 : BitVec 32 := 0#32
  let v603 : BitVec 32 := Scalar.addi v602 c0_i32_340
  let v604 : Index := Scalar.indexCast v603
  let c0_343 : Index := 0#32
  ![0, 0, v604.toNat, 0]
@[reducible] def k0_t2_loop (i : grid0.Coords) (v5 : BitVec 32) : Scf.Loop 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let v61 : BitVec 32 := Scalar.addi v59 v60
  let c1_i32_38 : BitVec 32 := 1#32
  ⟨v64, v61, c1_i32_38⟩
def k0_mult57 (i : grid0.Coords) (v5 : BitVec 32) (k0_t2 : Fin (k0_t2_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_38 : BitVec 32 := 1#32
  let arg9 : BitVec 32 := Scf.iv v64 c1_i32_38 k0_t2
  let c1024_i32_184 : BitVec 32 := 1024#32
  let v351 : BitVec 32 := Scalar.muli arg9 c1024_i32_184
  v351
def k0_off23 (i : grid0.Coords) (v5 : BitVec 32) (k0_t2 : Fin (k0_t2_loop i v5).trips) (c0_i32_185 : BitVec 32) : Fin 4 → Nat :=
  let c0_186 : Index := 0#32
  let c0_187 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_38 : BitVec 32 := 1#32
  let arg9 : BitVec 32 := Scf.iv v64 c1_i32_38 k0_t2
  let c1024_i32_184 : BitVec 32 := 1024#32
  let v351 : BitVec 32 := Scalar.muli arg9 c1024_i32_184
  let v352 : BitVec 32 := v351
  let v353 : BitVec 32 := Scalar.addi v352 c0_i32_185
  let v354 : Index := Scalar.indexCast v353
  let c0_188 : Index := 0#32
  ![0, 0, v354.toNat, 0]
def k0_mult58 (i : grid0.Coords) (v5 : BitVec 32) (k0_t2 : Fin (k0_t2_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_38 : BitVec 32 := 1#32
  let arg9 : BitVec 32 := Scf.iv v64 c1_i32_38 k0_t2
  let c1024_i32_190 : BitVec 32 := 1024#32
  let v358 : BitVec 32 := Scalar.muli arg9 c1024_i32_190
  v358
def k0_mult59 (i : grid0.Coords) (v5 : BitVec 32) (k0_t2 : Fin (k0_t2_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_38 : BitVec 32 := 1#32
  let arg9 : BitVec 32 := Scf.iv v64 c1_i32_38 k0_t2
  let c1024_i32_196 : BitVec 32 := 1024#32
  let v365 : BitVec 32 := Scalar.muli arg9 c1024_i32_196
  v365
def k0_mult60 (i : grid0.Coords) (v5 : BitVec 32) (k0_t2 : Fin (k0_t2_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_38 : BitVec 32 := 1#32
  let arg9 : BitVec 32 := Scf.iv v64 c1_i32_38 k0_t2
  let c1024_i32_202 : BitVec 32 := 1024#32
  let v372 : BitVec 32 := Scalar.muli arg9 c1024_i32_202
  v372
def k0_mult61 (i : grid0.Coords) (v5 : BitVec 32) (k0_t2 : Fin (k0_t2_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_38 : BitVec 32 := 1#32
  let arg9 : BitVec 32 := Scf.iv v64 c1_i32_38 k0_t2
  let c1024_i32_208 : BitVec 32 := 1024#32
  let v379 : BitVec 32 := Scalar.muli arg9 c1024_i32_208
  v379
def k0_mult62 (i : grid0.Coords) (v5 : BitVec 32) (k0_t2 : Fin (k0_t2_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_38 : BitVec 32 := 1#32
  let arg9 : BitVec 32 := Scf.iv v64 c1_i32_38 k0_t2
  let c1024_i32_214 : BitVec 32 := 1024#32
  let v386 : BitVec 32 := Scalar.muli arg9 c1024_i32_214
  v386
def k0_mult63 (i : grid0.Coords) (v5 : BitVec 32) (k0_t2 : Fin (k0_t2_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_38 : BitVec 32 := 1#32
  let arg9 : BitVec 32 := Scf.iv v64 c1_i32_38 k0_t2
  let c1024_i32_220 : BitVec 32 := 1024#32
  let v393 : BitVec 32 := Scalar.muli arg9 c1024_i32_220
  v393
def k0_mult64 (i : grid0.Coords) (v5 : BitVec 32) (k0_t2 : Fin (k0_t2_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_38 : BitVec 32 := 1#32
  let arg9 : BitVec 32 := Scf.iv v64 c1_i32_38 k0_t2
  let c1024_i32_226 : BitVec 32 := 1024#32
  let v400 : BitVec 32 := Scalar.muli arg9 c1024_i32_226
  v400
def k0_off24 (i : grid0.Coords) (v5 : BitVec 32) (k0_t2 : Fin (k0_t2_loop i v5).trips) (c0_i32_233 : BitVec 32) : Fin 5 → Nat :=
  let c0_234 : Index := 0#32
  let c0_235 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_38 : BitVec 32 := 1#32
  let arg9 : BitVec 32 := Scf.iv v64 c1_i32_38 k0_t2
  let c2_i32_232 : BitVec 32 := 2#32
  let v407 : BitVec 32 := Scalar.muli arg9 c2_i32_232
  let v408 : BitVec 32 := Scalar.addi v407 c0_i32_233
  let v409 : Index := Scalar.indexCast v408
  let c0_236 : Index := 0#32
  let c0_237 : Index := 0#32
  ![0, 0, v409.toNat, 0, 0]
def k0_mult65 (i : grid0.Coords) (v5 : BitVec 32) (k0_t2 : Fin (k0_t2_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_38 : BitVec 32 := 1#32
  let arg9 : BitVec 32 := Scf.iv v64 c1_i32_38 k0_t2
  let c1024_i32_240 : BitVec 32 := 1024#32
  let v425 : BitVec 32 := Scalar.muli arg9 c1024_i32_240
  v425
def k0_mult66 (i : grid0.Coords) (v5 : BitVec 32) (k0_t2 : Fin (k0_t2_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_38 : BitVec 32 := 1#32
  let arg9 : BitVec 32 := Scf.iv v64 c1_i32_38 k0_t2
  let c1024_i32_254 : BitVec 32 := 1024#32
  let v450 : BitVec 32 := Scalar.muli arg9 c1024_i32_254
  v450
def k0_mult67 (i : grid0.Coords) (v5 : BitVec 32) (k0_t2 : Fin (k0_t2_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_38 : BitVec 32 := 1#32
  let arg9 : BitVec 32 := Scf.iv v64 c1_i32_38 k0_t2
  let c1024_i32_268 : BitVec 32 := 1024#32
  let v475 : BitVec 32 := Scalar.muli arg9 c1024_i32_268
  v475
def k0_mult68 (i : grid0.Coords) (v5 : BitVec 32) (k0_t2 : Fin (k0_t2_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_38 : BitVec 32 := 1#32
  let arg9 : BitVec 32 := Scf.iv v64 c1_i32_38 k0_t2
  let c1024_i32_282 : BitVec 32 := 1024#32
  let v500 : BitVec 32 := Scalar.muli arg9 c1024_i32_282
  v500
def k0_off25 (i : grid0.Coords) (v5 : BitVec 32) (k0_t2 : Fin (k0_t2_loop i v5).trips) (c0_i32_289 : BitVec 32) : Fin 5 → Nat :=
  let c0_290 : Index := 0#32
  let c0_291 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_38 : BitVec 32 := 1#32
  let arg9 : BitVec 32 := Scf.iv v64 c1_i32_38 k0_t2
  let c2_i32_288 : BitVec 32 := 2#32
  let v507 : BitVec 32 := Scalar.muli arg9 c2_i32_288
  let v508 : BitVec 32 := Scalar.addi v507 c0_i32_289
  let v509 : Index := Scalar.indexCast v508
  let c0_292 : Index := 0#32
  let c256_293 : Index := 256#32
  ![0, 0, v509.toNat, 0, 256]
def k0_mult69 (i : grid0.Coords) (v5 : BitVec 32) (k0_t2 : Fin (k0_t2_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_38 : BitVec 32 := 1#32
  let arg9 : BitVec 32 := Scf.iv v64 c1_i32_38 k0_t2
  let c1024_i32_296 : BitVec 32 := 1024#32
  let v525 : BitVec 32 := Scalar.muli arg9 c1024_i32_296
  v525
def k0_mult70 (i : grid0.Coords) (v5 : BitVec 32) (k0_t2 : Fin (k0_t2_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_38 : BitVec 32 := 1#32
  let arg9 : BitVec 32 := Scf.iv v64 c1_i32_38 k0_t2
  let c1024_i32_310 : BitVec 32 := 1024#32
  let v550 : BitVec 32 := Scalar.muli arg9 c1024_i32_310
  v550
def k0_mult71 (i : grid0.Coords) (v5 : BitVec 32) (k0_t2 : Fin (k0_t2_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_38 : BitVec 32 := 1#32
  let arg9 : BitVec 32 := Scf.iv v64 c1_i32_38 k0_t2
  let c1024_i32_324 : BitVec 32 := 1024#32
  let v575 : BitVec 32 := Scalar.muli arg9 c1024_i32_324
  v575
def k0_mult72 (i : grid0.Coords) (v5 : BitVec 32) (k0_t2 : Fin (k0_t2_loop i v5).trips) : BitVec 32 :=
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_38 : BitVec 32 := 1#32
  let arg9 : BitVec 32 := Scf.iv v64 c1_i32_38 k0_t2
  let c1_i32_338 : BitVec 32 := 1#32
  let v600 : BitVec 32 := Scalar.addi arg9 c1_i32_338
  let c1024_i32_339 : BitVec 32 := 1024#32
  let v601 : BitVec 32 := Scalar.muli v600 c1024_i32_339
  v601
def k0_off26 (i : grid0.Coords) (v5 : BitVec 32) (k0_t2 : Fin (k0_t2_loop i v5).trips) : Fin 4 → Nat :=
  let c0_341 : Index := 0#32
  let c0_342 : Index := 0#32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4_i32 : BitVec 32 := 4#32
  let c0_i32_2 : BitVec 32 := 0#32
  let v12 : BitVec 1 := Scalar.cmpi .sgt c4_i32 c0_i32_2
  let v13 : BitVec 32 := Scalar.extui v12
  let c0_i32_3 : BitVec 32 := 0#32
  let v14 : BitVec 1 := Scalar.cmpi .slt c4_i32 c0_i32_3
  let v15 : BitVec 32 := Scalar.extui v14
  let v16 : BitVec 32 := Scalar.subi v13 v15
  let v17 : BitVec 1 := Scalar.cmpi .ne v11 v16
  let v18 : BitVec 32 := Scalar.remsi v5 c4_i32
  let c0_i32_4 : BitVec 32 := 0#32
  let v19 : BitVec 1 := Scalar.cmpi .ne v18 c0_i32_4
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c1_i32_35 : BitVec 32 := 1#32
  let v59 : BitVec 32 := Scalar.addi v22 c1_i32_35
  let arg2 : BitVec 32 := BitVec.ofNat 32 (i 2).val
  let v60 : BitVec 32 := Scalar.subi arg2 v59
  let c1_i32_36 : BitVec 32 := 1#32
  let v62 : BitVec 32 := Scalar.divsi v60 c1_i32_36
  let v63 : BitVec 32 := Scalar.muli v62 c1_i32_36
  let v64 : BitVec 32 := Scalar.addi v59 v63
  let c1_i32_38 : BitVec 32 := 1#32
  let arg9 : BitVec 32 := Scf.iv v64 c1_i32_38 k0_t2
  let c1_i32_338 : BitVec 32 := 1#32
  let v600 : BitVec 32 := Scalar.addi arg9 c1_i32_338
  let c1024_i32_339 : BitVec 32 := 1024#32
  let v601 : BitVec 32 := Scalar.muli v600 c1024_i32_339
  let v602 : BitVec 32 := v601
  let c0_i32_340 : BitVec 32 := 0#32
  let v603 : BitVec 32 := Scalar.addi v602 c0_i32_340
  let v604 : Index := Scalar.indexCast v603
  let c0_343 : Index := 0#32
  ![0, 0, v604.toNat, 0]

def k0_chk1_0 (i : grid0.Coords) (v5 : BitVec 32) : Prop :=
  (∀ (k0_h1 : k0_cond1 i v5 = 1#1), ∀ (k0_h2 : k0_cond2 i v5 = 1#1), ∀ (k0_h3 : k0_cond3 i v5 = 1#1), ∀ (k0_h4 : k0_cond4 i v5 = 1#1), 1024 ∣ (k0_mult1 v5).toNat) ∧
  (∀ (k0_h1 : k0_cond1 i v5 = 1#1), ∀ (k0_h2 : k0_cond2 i v5 = 1#1), ∀ (k0_h3 : k0_cond3 i v5 = 1#1), ∀ (k0_h4 : k0_cond4 i v5 = 1#1), ∀ (r : Fin 2), ∀ a, (k0_off2 v5 (BitVec.ofNat 32 (512 + 256 * r.val))) a + S1x1x256x128.size a ≤ S1x1x8192x128.size a) ∧
  (∀ (k0_h1 : k0_cond1 i v5 = 1#1), ∀ (k0_h2 : k0_cond2 i v5 = 1#1), ∀ (k0_h3 : k0_cond3 i v5 = 1#1), ∀ (k0_h4 : k0_cond4 i v5 = 1#1), 1024 ∣ (k0_mult2 v5).toNat) ∧
  (∀ (k0_h1 : k0_cond1 i v5 = 1#1), ∀ (k0_h2 : k0_cond2 i v5 = 1#1), ∀ (k0_h3 : k0_cond3 i v5 = 1#1), ∀ (k0_h4 : k0_cond4 i v5 = 1#1), 1024 ∣ (k0_mult3 v5).toNat) ∧
  (∀ (k0_h1 : k0_cond1 i v5 = 1#1), ∀ (k0_h2 : k0_cond2 i v5 = 1#1), ∀ (k0_h3 : k0_cond3 i v5 = 1#1), ∀ (k0_h4 : k0_cond4 i v5 = 1#1), 1024 ∣ (k0_mult4 v5).toNat) ∧
  (∀ (k0_h1 : k0_cond1 i v5 = 1#1), ∀ (k0_h2 : k0_cond2 i v5 = 1#1), ∀ (k0_h3 : k0_cond3 i v5 = 1#1), ∀ (k0_h4 : k0_cond4 i v5 = 1#1), ∀ a, (k0_off3 v5) a + S1x1x256x128.size a ≤ S1x1x8192x128.size a) ∧
  (∀ (k0_h1 : k0_cond1 i v5 = 1#1), ∀ (k0_h2 : k0_cond2 i v5 = 1#1), ∀ (k0_h3 : k0_cond3 i v5 = 1#1), ∀ (k0_h4 : k0_cond4 i v5 = 1#1), ∀ a, (k0_off4 v5) a + S1x1x1x80x256.size a ≤ S1x1x16x80x512.size a) ∧
  (∀ (k0_h1 : k0_cond1 i v5 = 1#1), ∀ (k0_h2 : k0_cond2 i v5 = 1#1), ∀ (k0_h3 : k0_cond3 i v5 = 1#1), ∀ (k0_h4 : k0_cond4 i v5 = 1#1), ∀ a, (k0_off5 v5) a + S1x1x1x80x256.size a ≤ S1x1x16x80x512.size a) ∧
  (∀ (k0_h1 : k0_cond1 i v5 = 1#1), ∀ (k0_h2 : k0_cond2 i v5 = 1#1), ∀ (k0_h3 : k0_cond3 i v5 = 1#1), ∀ (k0_h4 : ¬(k0_cond4 i v5 = 1#1)), 1024 ∣ (k0_mult5 v5).toNat) ∧
  (∀ (k0_h1 : k0_cond1 i v5 = 1#1), ∀ (k0_h2 : k0_cond2 i v5 = 1#1), ∀ (k0_h3 : k0_cond3 i v5 = 1#1), ∀ (k0_h4 : ¬(k0_cond4 i v5 = 1#1)), ∀ (r : Fin 3), ∀ a, (k0_off6 v5 (BitVec.ofNat 32 (256 + 256 * r.val))) a + S1x1x256x128.size a ≤ S1x1x8192x128.size a) ∧
  (∀ (k0_h1 : k0_cond1 i v5 = 1#1), ∀ (k0_h2 : k0_cond2 i v5 = 1#1), ∀ (k0_h3 : k0_cond3 i v5 = 1#1), ∀ (k0_h4 : ¬(k0_cond4 i v5 = 1#1)), 1024 ∣ (k0_mult6 v5).toNat) ∧
  (∀ (k0_h1 : k0_cond1 i v5 = 1#1), ∀ (k0_h2 : k0_cond2 i v5 = 1#1), ∀ (k0_h3 : k0_cond3 i v5 = 1#1), ∀ (k0_h4 : ¬(k0_cond4 i v5 = 1#1)), 1024 ∣ (k0_mult7 v5).toNat) ∧
  (∀ (k0_h1 : k0_cond1 i v5 = 1#1), ∀ (k0_h2 : k0_cond2 i v5 = 1#1), ∀ (k0_h3 : k0_cond3 i v5 = 1#1), ∀ (k0_h4 : ¬(k0_cond4 i v5 = 1#1)), 1024 ∣ (k0_mult8 v5).toNat) ∧
  (∀ (k0_h1 : k0_cond1 i v5 = 1#1), ∀ (k0_h2 : k0_cond2 i v5 = 1#1), ∀ (k0_h3 : k0_cond3 i v5 = 1#1), ∀ (k0_h4 : ¬(k0_cond4 i v5 = 1#1)), 1024 ∣ (k0_mult9 v5).toNat) ∧
  (∀ (k0_h1 : k0_cond1 i v5 = 1#1), ∀ (k0_h2 : k0_cond2 i v5 = 1#1), ∀ (k0_h3 : k0_cond3 i v5 = 1#1), ∀ (k0_h4 : ¬(k0_cond4 i v5 = 1#1)), 1024 ∣ (k0_mult10 v5).toNat) ∧
  (∀ (k0_h1 : k0_cond1 i v5 = 1#1), ∀ (k0_h2 : k0_cond2 i v5 = 1#1), ∀ (k0_h3 : k0_cond3 i v5 = 1#1), ∀ (k0_h4 : ¬(k0_cond4 i v5 = 1#1)), 1024 ∣ (k0_mult11 v5).toNat) ∧
  (∀ (k0_h1 : k0_cond1 i v5 = 1#1), ∀ (k0_h2 : k0_cond2 i v5 = 1#1), ∀ (k0_h3 : k0_cond3 i v5 = 1#1), ∀ (k0_h4 : ¬(k0_cond4 i v5 = 1#1)), ∀ a, (k0_off7 v5) a + S1x1x256x128.size a ≤ S1x1x8192x128.size a) ∧
  (∀ (k0_h1 : k0_cond1 i v5 = 1#1), ∀ (k0_h2 : k0_cond2 i v5 = 1#1), ∀ (k0_h3 : k0_cond3 i v5 = 1#1), ∀ (k0_h4 : ¬(k0_cond4 i v5 = 1#1)), ∀ (r : Fin 2), ∀ a, (k0_off8 v5 (BitVec.ofNat 32 r.val)) a + S1x1x1x80x256.size a ≤ S1x1x16x80x512.size a) ∧
  (∀ (k0_h1 : k0_cond1 i v5 = 1#1), ∀ (k0_h2 : k0_cond2 i v5 = 1#1), ∀ (k0_h3 : k0_cond3 i v5 = 1#1), ∀ (k0_h4 : ¬(k0_cond4 i v5 = 1#1)), ∀ a, (k0_off9 v5) a + S1x1x1x80x256.size a ≤ S1x1x16x80x512.size a) ∧
  (∀ (k0_h1 : k0_cond1 i v5 = 1#1), ∀ (k0_h2 : k0_cond2 i v5 = 1#1), ∀ (k0_h3 : ¬(k0_cond3 i v5 = 1#1)), 1024 ∣ (k0_mult12 v5).toNat) ∧
  (∀ (k0_h1 : k0_cond1 i v5 = 1#1), ∀ (k0_h2 : k0_cond2 i v5 = 1#1), ∀ (k0_h3 : ¬(k0_cond3 i v5 = 1#1)), ∀ (r : Fin 4), ∀ a, (k0_off10 v5 (BitVec.ofNat 32 (256 * r.val))) a + S1x1x256x128.size a ≤ S1x1x8192x128.size a) ∧
  (∀ (k0_h1 : k0_cond1 i v5 = 1#1), ∀ (k0_h2 : k0_cond2 i v5 = 1#1), ∀ (k0_h3 : ¬(k0_cond3 i v5 = 1#1)), 1024 ∣ (k0_mult13 v5).toNat) ∧
  (∀ (k0_h1 : k0_cond1 i v5 = 1#1), ∀ (k0_h2 : k0_cond2 i v5 = 1#1), ∀ (k0_h3 : ¬(k0_cond3 i v5 = 1#1)), 1024 ∣ (k0_mult14 v5).toNat) ∧
  (∀ (k0_h1 : k0_cond1 i v5 = 1#1), ∀ (k0_h2 : k0_cond2 i v5 = 1#1), ∀ (k0_h3 : ¬(k0_cond3 i v5 = 1#1)), 1024 ∣ (k0_mult15 v5).toNat) ∧
  (∀ (k0_h1 : k0_cond1 i v5 = 1#1), ∀ (k0_h2 : k0_cond2 i v5 = 1#1), ∀ (k0_h3 : ¬(k0_cond3 i v5 = 1#1)), 1024 ∣ (k0_mult16 v5).toNat) ∧
  (∀ (k0_h1 : k0_cond1 i v5 = 1#1), ∀ (k0_h2 : k0_cond2 i v5 = 1#1), ∀ (k0_h3 : ¬(k0_cond3 i v5 = 1#1)), 1024 ∣ (k0_mult17 v5).toNat) ∧
  (∀ (k0_h1 : k0_cond1 i v5 = 1#1), ∀ (k0_h2 : k0_cond2 i v5 = 1#1), ∀ (k0_h3 : ¬(k0_cond3 i v5 = 1#1)), 1024 ∣ (k0_mult18 v5).toNat) ∧
  (∀ (k0_h1 : k0_cond1 i v5 = 1#1), ∀ (k0_h2 : k0_cond2 i v5 = 1#1), ∀ (k0_h3 : ¬(k0_cond3 i v5 = 1#1)), 1024 ∣ (k0_mult19 v5).toNat) ∧
  (∀ (k0_h1 : k0_cond1 i v5 = 1#1), ∀ (k0_h2 : k0_cond2 i v5 = 1#1), ∀ (k0_h3 : ¬(k0_cond3 i v5 = 1#1)), 1024 ∣ (k0_mult20 v5).toNat) ∧
  (∀ (k0_h1 : k0_cond1 i v5 = 1#1), ∀ (k0_h2 : k0_cond2 i v5 = 1#1), ∀ (k0_h3 : ¬(k0_cond3 i v5 = 1#1)), ∀ (r : Fin 2), ∀ a, (k0_off11 v5 (BitVec.ofNat 32 r.val)) a + S1x1x1x80x256.size a ≤ S1x1x16x80x512.size a) ∧
  (∀ (k0_h1 : k0_cond1 i v5 = 1#1), ∀ (k0_h2 : k0_cond2 i v5 = 1#1), ∀ (k0_h3 : ¬(k0_cond3 i v5 = 1#1)), 1024 ∣ (k0_mult21 v5).toNat) ∧
  (∀ (k0_h1 : k0_cond1 i v5 = 1#1), ∀ (k0_h2 : k0_cond2 i v5 = 1#1), ∀ (k0_h3 : ¬(k0_cond3 i v5 = 1#1)), ∀ (r : Fin 2), ∀ a, (k0_off12 v5 (BitVec.ofNat 32 r.val)) a + S1x1x1x80x256.size a ≤ S1x1x16x80x512.size a)
def k0_chk1_1 (i : grid0.Coords) (v5 : BitVec 32) : Prop :=
  (∀ (k0_h1 : k0_cond1 i v5 = 1#1), ∀ (k0_h2 : k0_cond2 i v5 = 1#1), ∀ (k0_h3 : ¬(k0_cond3 i v5 = 1#1)), 1024 ∣ (k0_mult22 v5).toNat) ∧
  (∀ (k0_h1 : k0_cond1 i v5 = 1#1), ∀ (k0_h2 : k0_cond2 i v5 = 1#1), ∀ (k0_h3 : ¬(k0_cond3 i v5 = 1#1)), ∀ a, (k0_off13 v5) a + S1x1x256x128.size a ≤ S1x1x8192x128.size a) ∧
  (∀ (k0_h1 : k0_cond1 i v5 = 1#1), ∀ (k0_h2 : ¬(k0_cond2 i v5 = 1#1)), 1024 ∣ (k0_mult23 v5).toNat) ∧
  (∀ (k0_h1 : k0_cond1 i v5 = 1#1), ∀ (k0_h2 : ¬(k0_cond2 i v5 = 1#1)), ∀ (r : Fin 4), ∀ a, (k0_off14 v5 (BitVec.ofNat 32 (256 * r.val))) a + S1x1x256x128.size a ≤ S1x1x8192x128.size a) ∧
  (∀ (k0_h1 : k0_cond1 i v5 = 1#1), ∀ (k0_h2 : ¬(k0_cond2 i v5 = 1#1)), 1024 ∣ (k0_mult24 v5).toNat) ∧
  (∀ (k0_h1 : k0_cond1 i v5 = 1#1), ∀ (k0_h2 : ¬(k0_cond2 i v5 = 1#1)), 1024 ∣ (k0_mult25 v5).toNat) ∧
  (∀ (k0_h1 : k0_cond1 i v5 = 1#1), ∀ (k0_h2 : ¬(k0_cond2 i v5 = 1#1)), 1024 ∣ (k0_mult26 v5).toNat) ∧
  (∀ (k0_h1 : k0_cond1 i v5 = 1#1), ∀ (k0_h2 : ¬(k0_cond2 i v5 = 1#1)), 1024 ∣ (k0_mult27 v5).toNat) ∧
  (∀ (k0_h1 : k0_cond1 i v5 = 1#1), ∀ (k0_h2 : ¬(k0_cond2 i v5 = 1#1)), 1024 ∣ (k0_mult28 v5).toNat) ∧
  (∀ (k0_h1 : k0_cond1 i v5 = 1#1), ∀ (k0_h2 : ¬(k0_cond2 i v5 = 1#1)), 1024 ∣ (k0_mult29 v5).toNat) ∧
  (∀ (k0_h1 : k0_cond1 i v5 = 1#1), ∀ (k0_h2 : ¬(k0_cond2 i v5 = 1#1)), 1024 ∣ (k0_mult30 v5).toNat) ∧
  (∀ (k0_h1 : k0_cond1 i v5 = 1#1), ∀ (k0_h2 : ¬(k0_cond2 i v5 = 1#1)), 1024 ∣ (k0_mult31 v5).toNat) ∧
  (∀ (k0_h1 : k0_cond1 i v5 = 1#1), ∀ (k0_h2 : ¬(k0_cond2 i v5 = 1#1)), ∀ (r : Fin 2), ∀ a, (k0_off15 v5 (BitVec.ofNat 32 r.val)) a + S1x1x1x80x256.size a ≤ S1x1x16x80x512.size a) ∧
  (∀ (k0_h1 : k0_cond1 i v5 = 1#1), ∀ (k0_h2 : ¬(k0_cond2 i v5 = 1#1)), 1024 ∣ (k0_mult32 v5).toNat) ∧
  (∀ (k0_h1 : k0_cond1 i v5 = 1#1), ∀ (k0_h2 : ¬(k0_cond2 i v5 = 1#1)), 1024 ∣ (k0_mult33 v5).toNat) ∧
  (∀ (k0_h1 : k0_cond1 i v5 = 1#1), ∀ (k0_h2 : ¬(k0_cond2 i v5 = 1#1)), 1024 ∣ (k0_mult34 v5).toNat) ∧
  (∀ (k0_h1 : k0_cond1 i v5 = 1#1), ∀ (k0_h2 : ¬(k0_cond2 i v5 = 1#1)), 1024 ∣ (k0_mult35 v5).toNat) ∧
  (∀ (k0_h1 : k0_cond1 i v5 = 1#1), ∀ (k0_h2 : ¬(k0_cond2 i v5 = 1#1)), ∀ (r : Fin 2), ∀ a, (k0_off16 v5 (BitVec.ofNat 32 r.val)) a + S1x1x1x80x256.size a ≤ S1x1x16x80x512.size a) ∧
  (∀ (k0_h1 : k0_cond1 i v5 = 1#1), ∀ (k0_h2 : ¬(k0_cond2 i v5 = 1#1)), 1024 ∣ (k0_mult36 v5).toNat) ∧
  (∀ (k0_h1 : k0_cond1 i v5 = 1#1), ∀ (k0_h2 : ¬(k0_cond2 i v5 = 1#1)), 1024 ∣ (k0_mult37 v5).toNat) ∧
  (∀ (k0_h1 : k0_cond1 i v5 = 1#1), ∀ (k0_h2 : ¬(k0_cond2 i v5 = 1#1)), 1024 ∣ (k0_mult38 v5).toNat) ∧
  (∀ (k0_h1 : k0_cond1 i v5 = 1#1), ∀ (k0_h2 : ¬(k0_cond2 i v5 = 1#1)), 1024 ∣ (k0_mult39 v5).toNat) ∧
  (∀ (k0_h1 : k0_cond1 i v5 = 1#1), ∀ (k0_h2 : ¬(k0_cond2 i v5 = 1#1)), ∀ a, (k0_off17 v5) a + S1x1x256x128.size a ≤ S1x1x8192x128.size a) ∧
  ((k0_t1_loop i v5).OK) ∧
  (∀ k0_t1 : Fin (k0_t1_loop i v5).trips, 1024 ∣ (k0_mult41 i v5 k0_t1).toNat) ∧
  (∀ k0_t1 : Fin (k0_t1_loop i v5).trips, ∀ (r : Fin 4), ∀ a, (k0_off19 i v5 k0_t1 (BitVec.ofNat 32 (256 * r.val))) a + S1x1x256x128.size a ≤ S1x1x8192x128.size a) ∧
  (∀ k0_t1 : Fin (k0_t1_loop i v5).trips, 1024 ∣ (k0_mult42 i v5 k0_t1).toNat) ∧
  (∀ k0_t1 : Fin (k0_t1_loop i v5).trips, 1024 ∣ (k0_mult43 i v5 k0_t1).toNat) ∧
  (∀ k0_t1 : Fin (k0_t1_loop i v5).trips, 1024 ∣ (k0_mult44 i v5 k0_t1).toNat) ∧
  (∀ k0_t1 : Fin (k0_t1_loop i v5).trips, 1024 ∣ (k0_mult45 i v5 k0_t1).toNat) ∧
  (∀ k0_t1 : Fin (k0_t1_loop i v5).trips, 1024 ∣ (k0_mult46 i v5 k0_t1).toNat) ∧
  (∀ k0_t1 : Fin (k0_t1_loop i v5).trips, 1024 ∣ (k0_mult47 i v5 k0_t1).toNat)
def k0_chk1_2 (i : grid0.Coords) (v5 : BitVec 32) : Prop :=
  (∀ k0_t1 : Fin (k0_t1_loop i v5).trips, 1024 ∣ (k0_mult48 i v5 k0_t1).toNat) ∧
  (∀ k0_t1 : Fin (k0_t1_loop i v5).trips, ∀ (r : Fin 2), ∀ a, (k0_off20 i v5 k0_t1 (BitVec.ofNat 32 r.val)) a + S1x1x1x80x256.size a ≤ S1x1x16x80x512.size a) ∧
  (∀ k0_t1 : Fin (k0_t1_loop i v5).trips, 1024 ∣ (k0_mult49 i v5 k0_t1).toNat) ∧
  (∀ k0_t1 : Fin (k0_t1_loop i v5).trips, 1024 ∣ (k0_mult50 i v5 k0_t1).toNat) ∧
  (∀ k0_t1 : Fin (k0_t1_loop i v5).trips, 1024 ∣ (k0_mult51 i v5 k0_t1).toNat) ∧
  (∀ k0_t1 : Fin (k0_t1_loop i v5).trips, 1024 ∣ (k0_mult52 i v5 k0_t1).toNat) ∧
  (∀ k0_t1 : Fin (k0_t1_loop i v5).trips, ∀ (r : Fin 2), ∀ a, (k0_off21 i v5 k0_t1 (BitVec.ofNat 32 r.val)) a + S1x1x1x80x256.size a ≤ S1x1x16x80x512.size a) ∧
  (∀ k0_t1 : Fin (k0_t1_loop i v5).trips, 1024 ∣ (k0_mult53 i v5 k0_t1).toNat) ∧
  (∀ k0_t1 : Fin (k0_t1_loop i v5).trips, 1024 ∣ (k0_mult54 i v5 k0_t1).toNat) ∧
  (∀ k0_t1 : Fin (k0_t1_loop i v5).trips, 1024 ∣ (k0_mult55 i v5 k0_t1).toNat) ∧
  (∀ k0_t1 : Fin (k0_t1_loop i v5).trips, 1024 ∣ (k0_mult56 i v5 k0_t1).toNat) ∧
  (∀ k0_t1 : Fin (k0_t1_loop i v5).trips, ∀ a, (k0_off22 i v5 k0_t1) a + S1x1x256x128.size a ≤ S1x1x8192x128.size a) ∧
  ((k0_t2_loop i v5).OK) ∧
  (∀ k0_t2 : Fin (k0_t2_loop i v5).trips, 1024 ∣ (k0_mult57 i v5 k0_t2).toNat) ∧
  (∀ k0_t2 : Fin (k0_t2_loop i v5).trips, ∀ (r : Fin 4), ∀ a, (k0_off23 i v5 k0_t2 (BitVec.ofNat 32 (256 * r.val))) a + S1x1x256x128.size a ≤ S1x1x8192x128.size a) ∧
  (∀ k0_t2 : Fin (k0_t2_loop i v5).trips, 1024 ∣ (k0_mult58 i v5 k0_t2).toNat) ∧
  (∀ k0_t2 : Fin (k0_t2_loop i v5).trips, 1024 ∣ (k0_mult59 i v5 k0_t2).toNat) ∧
  (∀ k0_t2 : Fin (k0_t2_loop i v5).trips, 1024 ∣ (k0_mult60 i v5 k0_t2).toNat) ∧
  (∀ k0_t2 : Fin (k0_t2_loop i v5).trips, 1024 ∣ (k0_mult61 i v5 k0_t2).toNat) ∧
  (∀ k0_t2 : Fin (k0_t2_loop i v5).trips, 1024 ∣ (k0_mult62 i v5 k0_t2).toNat) ∧
  (∀ k0_t2 : Fin (k0_t2_loop i v5).trips, 1024 ∣ (k0_mult63 i v5 k0_t2).toNat) ∧
  (∀ k0_t2 : Fin (k0_t2_loop i v5).trips, 1024 ∣ (k0_mult64 i v5 k0_t2).toNat) ∧
  (∀ k0_t2 : Fin (k0_t2_loop i v5).trips, ∀ (r : Fin 2), ∀ a, (k0_off24 i v5 k0_t2 (BitVec.ofNat 32 r.val)) a + S1x1x1x80x256.size a ≤ S1x1x16x80x512.size a) ∧
  (∀ k0_t2 : Fin (k0_t2_loop i v5).trips, 1024 ∣ (k0_mult65 i v5 k0_t2).toNat) ∧
  (∀ k0_t2 : Fin (k0_t2_loop i v5).trips, 1024 ∣ (k0_mult66 i v5 k0_t2).toNat) ∧
  (∀ k0_t2 : Fin (k0_t2_loop i v5).trips, 1024 ∣ (k0_mult67 i v5 k0_t2).toNat) ∧
  (∀ k0_t2 : Fin (k0_t2_loop i v5).trips, 1024 ∣ (k0_mult68 i v5 k0_t2).toNat) ∧
  (∀ k0_t2 : Fin (k0_t2_loop i v5).trips, ∀ (r : Fin 2), ∀ a, (k0_off25 i v5 k0_t2 (BitVec.ofNat 32 r.val)) a + S1x1x1x80x256.size a ≤ S1x1x16x80x512.size a) ∧
  (∀ k0_t2 : Fin (k0_t2_loop i v5).trips, 1024 ∣ (k0_mult69 i v5 k0_t2).toNat) ∧
  (∀ k0_t2 : Fin (k0_t2_loop i v5).trips, 1024 ∣ (k0_mult70 i v5 k0_t2).toNat) ∧
  (∀ k0_t2 : Fin (k0_t2_loop i v5).trips, 1024 ∣ (k0_mult71 i v5 k0_t2).toNat) ∧
  (∀ k0_t2 : Fin (k0_t2_loop i v5).trips, 1024 ∣ (k0_mult72 i v5 k0_t2).toNat)
def k0_chk1_3 (i : grid0.Coords) (v5 : BitVec 32) : Prop :=
  (∀ k0_t2 : Fin (k0_t2_loop i v5).trips, ∀ a, (k0_off26 i v5 k0_t2) a + S1x1x256x128.size a ≤ S1x1x8192x128.size a)
def k0_chk1 (i : grid0.Coords) (v5 : BitVec 32) : Prop :=
  k0_chk1_0 i v5 ∧
  k0_chk1_1 i v5 ∧
  k0_chk1_2 i v5 ∧
  k0_chk1_3 i v5
theorem k0_mult1_dvd : ∀ (i : grid0.Coords) (v5 : BitVec 32) (k0_hw1 : k0_chk1 i v5), ∀ (k0_h1 : k0_cond1 i v5 = 1#1), ∀ (k0_h2 : k0_cond2 i v5 = 1#1), ∀ (k0_h3 : k0_cond3 i v5 = 1#1), ∀ (k0_h4 : k0_cond4 i v5 = 1#1), 1024 ∣ (k0_mult1 v5).toNat := fun i v5 k0_hw1 k0_h1 k0_h2 k0_h3 k0_h4 => k0_hw1.1.1 k0_h1 k0_h2 k0_h3 k0_h4
theorem k0_off2_inb : ∀ (i : grid0.Coords) (v5 : BitVec 32) (k0_hw1 : k0_chk1 i v5), ∀ (k0_h1 : k0_cond1 i v5 = 1#1), ∀ (k0_h2 : k0_cond2 i v5 = 1#1), ∀ (k0_h3 : k0_cond3 i v5 = 1#1), ∀ (k0_h4 : k0_cond4 i v5 = 1#1), ∀ (r : Fin 2), ∀ a, (k0_off2 v5 (BitVec.ofNat 32 (512 + 256 * r.val))) a + S1x1x256x128.size a ≤ S1x1x8192x128.size a := fun i v5 k0_hw1 k0_h1 k0_h2 k0_h3 k0_h4 r => k0_hw1.1.2.1 k0_h1 k0_h2 k0_h3 k0_h4 r
theorem k0_mult2_dvd : ∀ (i : grid0.Coords) (v5 : BitVec 32) (k0_hw1 : k0_chk1 i v5), ∀ (k0_h1 : k0_cond1 i v5 = 1#1), ∀ (k0_h2 : k0_cond2 i v5 = 1#1), ∀ (k0_h3 : k0_cond3 i v5 = 1#1), ∀ (k0_h4 : k0_cond4 i v5 = 1#1), 1024 ∣ (k0_mult2 v5).toNat := fun i v5 k0_hw1 k0_h1 k0_h2 k0_h3 k0_h4 => k0_hw1.1.2.2.1 k0_h1 k0_h2 k0_h3 k0_h4
theorem k0_mult3_dvd : ∀ (i : grid0.Coords) (v5 : BitVec 32) (k0_hw1 : k0_chk1 i v5), ∀ (k0_h1 : k0_cond1 i v5 = 1#1), ∀ (k0_h2 : k0_cond2 i v5 = 1#1), ∀ (k0_h3 : k0_cond3 i v5 = 1#1), ∀ (k0_h4 : k0_cond4 i v5 = 1#1), 1024 ∣ (k0_mult3 v5).toNat := fun i v5 k0_hw1 k0_h1 k0_h2 k0_h3 k0_h4 => k0_hw1.1.2.2.2.1 k0_h1 k0_h2 k0_h3 k0_h4
theorem k0_mult4_dvd : ∀ (i : grid0.Coords) (v5 : BitVec 32) (k0_hw1 : k0_chk1 i v5), ∀ (k0_h1 : k0_cond1 i v5 = 1#1), ∀ (k0_h2 : k0_cond2 i v5 = 1#1), ∀ (k0_h3 : k0_cond3 i v5 = 1#1), ∀ (k0_h4 : k0_cond4 i v5 = 1#1), 1024 ∣ (k0_mult4 v5).toNat := fun i v5 k0_hw1 k0_h1 k0_h2 k0_h3 k0_h4 => k0_hw1.1.2.2.2.2.1 k0_h1 k0_h2 k0_h3 k0_h4
theorem k0_off3_inb : ∀ (i : grid0.Coords) (v5 : BitVec 32) (k0_hw1 : k0_chk1 i v5), ∀ (k0_h1 : k0_cond1 i v5 = 1#1), ∀ (k0_h2 : k0_cond2 i v5 = 1#1), ∀ (k0_h3 : k0_cond3 i v5 = 1#1), ∀ (k0_h4 : k0_cond4 i v5 = 1#1), ∀ a, (k0_off3 v5) a + S1x1x256x128.size a ≤ S1x1x8192x128.size a := fun i v5 k0_hw1 k0_h1 k0_h2 k0_h3 k0_h4 => k0_hw1.1.2.2.2.2.2.1 k0_h1 k0_h2 k0_h3 k0_h4
theorem k0_off4_inb : ∀ (i : grid0.Coords) (v5 : BitVec 32) (k0_hw1 : k0_chk1 i v5), ∀ (k0_h1 : k0_cond1 i v5 = 1#1), ∀ (k0_h2 : k0_cond2 i v5 = 1#1), ∀ (k0_h3 : k0_cond3 i v5 = 1#1), ∀ (k0_h4 : k0_cond4 i v5 = 1#1), ∀ a, (k0_off4 v5) a + S1x1x1x80x256.size a ≤ S1x1x16x80x512.size a := fun i v5 k0_hw1 k0_h1 k0_h2 k0_h3 k0_h4 => k0_hw1.1.2.2.2.2.2.2.1 k0_h1 k0_h2 k0_h3 k0_h4
theorem k0_off5_inb : ∀ (i : grid0.Coords) (v5 : BitVec 32) (k0_hw1 : k0_chk1 i v5), ∀ (k0_h1 : k0_cond1 i v5 = 1#1), ∀ (k0_h2 : k0_cond2 i v5 = 1#1), ∀ (k0_h3 : k0_cond3 i v5 = 1#1), ∀ (k0_h4 : k0_cond4 i v5 = 1#1), ∀ a, (k0_off5 v5) a + S1x1x1x80x256.size a ≤ S1x1x16x80x512.size a := fun i v5 k0_hw1 k0_h1 k0_h2 k0_h3 k0_h4 => k0_hw1.1.2.2.2.2.2.2.2.1 k0_h1 k0_h2 k0_h3 k0_h4
theorem k0_mult5_dvd : ∀ (i : grid0.Coords) (v5 : BitVec 32) (k0_hw1 : k0_chk1 i v5), ∀ (k0_h1 : k0_cond1 i v5 = 1#1), ∀ (k0_h2 : k0_cond2 i v5 = 1#1), ∀ (k0_h3 : k0_cond3 i v5 = 1#1), ∀ (k0_h4 : ¬(k0_cond4 i v5 = 1#1)), 1024 ∣ (k0_mult5 v5).toNat := fun i v5 k0_hw1 k0_h1 k0_h2 k0_h3 k0_h4 => k0_hw1.1.2.2.2.2.2.2.2.2.1 k0_h1 k0_h2 k0_h3 k0_h4
theorem k0_off6_inb : ∀ (i : grid0.Coords) (v5 : BitVec 32) (k0_hw1 : k0_chk1 i v5), ∀ (k0_h1 : k0_cond1 i v5 = 1#1), ∀ (k0_h2 : k0_cond2 i v5 = 1#1), ∀ (k0_h3 : k0_cond3 i v5 = 1#1), ∀ (k0_h4 : ¬(k0_cond4 i v5 = 1#1)), ∀ (r : Fin 3), ∀ a, (k0_off6 v5 (BitVec.ofNat 32 (256 + 256 * r.val))) a + S1x1x256x128.size a ≤ S1x1x8192x128.size a := fun i v5 k0_hw1 k0_h1 k0_h2 k0_h3 k0_h4 r => k0_hw1.1.2.2.2.2.2.2.2.2.2.1 k0_h1 k0_h2 k0_h3 k0_h4 r
theorem k0_mult6_dvd : ∀ (i : grid0.Coords) (v5 : BitVec 32) (k0_hw1 : k0_chk1 i v5), ∀ (k0_h1 : k0_cond1 i v5 = 1#1), ∀ (k0_h2 : k0_cond2 i v5 = 1#1), ∀ (k0_h3 : k0_cond3 i v5 = 1#1), ∀ (k0_h4 : ¬(k0_cond4 i v5 = 1#1)), 1024 ∣ (k0_mult6 v5).toNat := fun i v5 k0_hw1 k0_h1 k0_h2 k0_h3 k0_h4 => k0_hw1.1.2.2.2.2.2.2.2.2.2.2.1 k0_h1 k0_h2 k0_h3 k0_h4
theorem k0_mult7_dvd : ∀ (i : grid0.Coords) (v5 : BitVec 32) (k0_hw1 : k0_chk1 i v5), ∀ (k0_h1 : k0_cond1 i v5 = 1#1), ∀ (k0_h2 : k0_cond2 i v5 = 1#1), ∀ (k0_h3 : k0_cond3 i v5 = 1#1), ∀ (k0_h4 : ¬(k0_cond4 i v5 = 1#1)), 1024 ∣ (k0_mult7 v5).toNat := fun i v5 k0_hw1 k0_h1 k0_h2 k0_h3 k0_h4 => k0_hw1.1.2.2.2.2.2.2.2.2.2.2.2.1 k0_h1 k0_h2 k0_h3 k0_h4
theorem k0_mult8_dvd : ∀ (i : grid0.Coords) (v5 : BitVec 32) (k0_hw1 : k0_chk1 i v5), ∀ (k0_h1 : k0_cond1 i v5 = 1#1), ∀ (k0_h2 : k0_cond2 i v5 = 1#1), ∀ (k0_h3 : k0_cond3 i v5 = 1#1), ∀ (k0_h4 : ¬(k0_cond4 i v5 = 1#1)), 1024 ∣ (k0_mult8 v5).toNat := fun i v5 k0_hw1 k0_h1 k0_h2 k0_h3 k0_h4 => k0_hw1.1.2.2.2.2.2.2.2.2.2.2.2.2.1 k0_h1 k0_h2 k0_h3 k0_h4
theorem k0_mult9_dvd : ∀ (i : grid0.Coords) (v5 : BitVec 32) (k0_hw1 : k0_chk1 i v5), ∀ (k0_h1 : k0_cond1 i v5 = 1#1), ∀ (k0_h2 : k0_cond2 i v5 = 1#1), ∀ (k0_h3 : k0_cond3 i v5 = 1#1), ∀ (k0_h4 : ¬(k0_cond4 i v5 = 1#1)), 1024 ∣ (k0_mult9 v5).toNat := fun i v5 k0_hw1 k0_h1 k0_h2 k0_h3 k0_h4 => k0_hw1.1.2.2.2.2.2.2.2.2.2.2.2.2.2.1 k0_h1 k0_h2 k0_h3 k0_h4
theorem k0_mult10_dvd : ∀ (i : grid0.Coords) (v5 : BitVec 32) (k0_hw1 : k0_chk1 i v5), ∀ (k0_h1 : k0_cond1 i v5 = 1#1), ∀ (k0_h2 : k0_cond2 i v5 = 1#1), ∀ (k0_h3 : k0_cond3 i v5 = 1#1), ∀ (k0_h4 : ¬(k0_cond4 i v5 = 1#1)), 1024 ∣ (k0_mult10 v5).toNat := fun i v5 k0_hw1 k0_h1 k0_h2 k0_h3 k0_h4 => k0_hw1.1.2.2.2.2.2.2.2.2.2.2.2.2.2.2.1 k0_h1 k0_h2 k0_h3 k0_h4
theorem k0_mult11_dvd : ∀ (i : grid0.Coords) (v5 : BitVec 32) (k0_hw1 : k0_chk1 i v5), ∀ (k0_h1 : k0_cond1 i v5 = 1#1), ∀ (k0_h2 : k0_cond2 i v5 = 1#1), ∀ (k0_h3 : k0_cond3 i v5 = 1#1), ∀ (k0_h4 : ¬(k0_cond4 i v5 = 1#1)), 1024 ∣ (k0_mult11 v5).toNat := fun i v5 k0_hw1 k0_h1 k0_h2 k0_h3 k0_h4 => k0_hw1.1.2.2.2.2.2.2.2.2.2.2.2.2.2.2.2.1 k0_h1 k0_h2 k0_h3 k0_h4
theorem k0_off7_inb : ∀ (i : grid0.Coords) (v5 : BitVec 32) (k0_hw1 : k0_chk1 i v5), ∀ (k0_h1 : k0_cond1 i v5 = 1#1), ∀ (k0_h2 : k0_cond2 i v5 = 1#1), ∀ (k0_h3 : k0_cond3 i v5 = 1#1), ∀ (k0_h4 : ¬(k0_cond4 i v5 = 1#1)), ∀ a, (k0_off7 v5) a + S1x1x256x128.size a ≤ S1x1x8192x128.size a := fun i v5 k0_hw1 k0_h1 k0_h2 k0_h3 k0_h4 => k0_hw1.1.2.2.2.2.2.2.2.2.2.2.2.2.2.2.2.2.1 k0_h1 k0_h2 k0_h3 k0_h4
theorem k0_off8_inb : ∀ (i : grid0.Coords) (v5 : BitVec 32) (k0_hw1 : k0_chk1 i v5), ∀ (k0_h1 : k0_cond1 i v5 = 1#1), ∀ (k0_h2 : k0_cond2 i v5 = 1#1), ∀ (k0_h3 : k0_cond3 i v5 = 1#1), ∀ (k0_h4 : ¬(k0_cond4 i v5 = 1#1)), ∀ (r : Fin 2), ∀ a, (k0_off8 v5 (BitVec.ofNat 32 r.val)) a + S1x1x1x80x256.size a ≤ S1x1x16x80x512.size a := fun i v5 k0_hw1 k0_h1 k0_h2 k0_h3 k0_h4 r => k0_hw1.1.2.2.2.2.2.2.2.2.2.2.2.2.2.2.2.2.2.1 k0_h1 k0_h2 k0_h3 k0_h4 r
theorem k0_off9_inb : ∀ (i : grid0.Coords) (v5 : BitVec 32) (k0_hw1 : k0_chk1 i v5), ∀ (k0_h1 : k0_cond1 i v5 = 1#1), ∀ (k0_h2 : k0_cond2 i v5 = 1#1), ∀ (k0_h3 : k0_cond3 i v5 = 1#1), ∀ (k0_h4 : ¬(k0_cond4 i v5 = 1#1)), ∀ a, (k0_off9 v5) a + S1x1x1x80x256.size a ≤ S1x1x16x80x512.size a := fun i v5 k0_hw1 k0_h1 k0_h2 k0_h3 k0_h4 => k0_hw1.1.2.2.2.2.2.2.2.2.2.2.2.2.2.2.2.2.2.2.1 k0_h1 k0_h2 k0_h3 k0_h4
theorem k0_mult12_dvd : ∀ (i : grid0.Coords) (v5 : BitVec 32) (k0_hw1 : k0_chk1 i v5), ∀ (k0_h1 : k0_cond1 i v5 = 1#1), ∀ (k0_h2 : k0_cond2 i v5 = 1#1), ∀ (k0_h3 : ¬(k0_cond3 i v5 = 1#1)), 1024 ∣ (k0_mult12 v5).toNat := fun i v5 k0_hw1 k0_h1 k0_h2 k0_h3 => k0_hw1.1.2.2.2.2.2.2.2.2.2.2.2.2.2.2.2.2.2.2.2.1 k0_h1 k0_h2 k0_h3
theorem k0_off10_inb : ∀ (i : grid0.Coords) (v5 : BitVec 32) (k0_hw1 : k0_chk1 i v5), ∀ (k0_h1 : k0_cond1 i v5 = 1#1), ∀ (k0_h2 : k0_cond2 i v5 = 1#1), ∀ (k0_h3 : ¬(k0_cond3 i v5 = 1#1)), ∀ (r : Fin 4), ∀ a, (k0_off10 v5 (BitVec.ofNat 32 (256 * r.val))) a + S1x1x256x128.size a ≤ S1x1x8192x128.size a := fun i v5 k0_hw1 k0_h1 k0_h2 k0_h3 r => k0_hw1.1.2.2.2.2.2.2.2.2.2.2.2.2.2.2.2.2.2.2.2.2.1 k0_h1 k0_h2 k0_h3 r
theorem k0_mult13_dvd : ∀ (i : grid0.Coords) (v5 : BitVec 32) (k0_hw1 : k0_chk1 i v5), ∀ (k0_h1 : k0_cond1 i v5 = 1#1), ∀ (k0_h2 : k0_cond2 i v5 = 1#1), ∀ (k0_h3 : ¬(k0_cond3 i v5 = 1#1)), 1024 ∣ (k0_mult13 v5).toNat := fun i v5 k0_hw1 k0_h1 k0_h2 k0_h3 => k0_hw1.1.2.2.2.2.2.2.2.2.2.2.2.2.2.2.2.2.2.2.2.2.2.1 k0_h1 k0_h2 k0_h3
theorem k0_mult14_dvd : ∀ (i : grid0.Coords) (v5 : BitVec 32) (k0_hw1 : k0_chk1 i v5), ∀ (k0_h1 : k0_cond1 i v5 = 1#1), ∀ (k0_h2 : k0_cond2 i v5 = 1#1), ∀ (k0_h3 : ¬(k0_cond3 i v5 = 1#1)), 1024 ∣ (k0_mult14 v5).toNat := fun i v5 k0_hw1 k0_h1 k0_h2 k0_h3 => k0_hw1.1.2.2.2.2.2.2.2.2.2.2.2.2.2.2.2.2.2.2.2.2.2.2.1 k0_h1 k0_h2 k0_h3
theorem k0_mult15_dvd : ∀ (i : grid0.Coords) (v5 : BitVec 32) (k0_hw1 : k0_chk1 i v5), ∀ (k0_h1 : k0_cond1 i v5 = 1#1), ∀ (k0_h2 : k0_cond2 i v5 = 1#1), ∀ (k0_h3 : ¬(k0_cond3 i v5 = 1#1)), 1024 ∣ (k0_mult15 v5).toNat := fun i v5 k0_hw1 k0_h1 k0_h2 k0_h3 => k0_hw1.1.2.2.2.2.2.2.2.2.2.2.2.2.2.2.2.2.2.2.2.2.2.2.2.1 k0_h1 k0_h2 k0_h3
theorem k0_mult16_dvd : ∀ (i : grid0.Coords) (v5 : BitVec 32) (k0_hw1 : k0_chk1 i v5), ∀ (k0_h1 : k0_cond1 i v5 = 1#1), ∀ (k0_h2 : k0_cond2 i v5 = 1#1), ∀ (k0_h3 : ¬(k0_cond3 i v5 = 1#1)), 1024 ∣ (k0_mult16 v5).toNat := fun i v5 k0_hw1 k0_h1 k0_h2 k0_h3 => k0_hw1.1.2.2.2.2.2.2.2.2.2.2.2.2.2.2.2.2.2.2.2.2.2.2.2.2.1 k0_h1 k0_h2 k0_h3
theorem k0_mult17_dvd : ∀ (i : grid0.Coords) (v5 : BitVec 32) (k0_hw1 : k0_chk1 i v5), ∀ (k0_h1 : k0_cond1 i v5 = 1#1), ∀ (k0_h2 : k0_cond2 i v5 = 1#1), ∀ (k0_h3 : ¬(k0_cond3 i v5 = 1#1)), 1024 ∣ (k0_mult17 v5).toNat := fun i v5 k0_hw1 k0_h1 k0_h2 k0_h3 => k0_hw1.1.2.2.2.2.2.2.2.2.2.2.2.2.2.2.2.2.2.2.2.2.2.2.2.2.2.1 k0_h1 k0_h2 k0_h3
theorem k0_mult18_dvd : ∀ (i : grid0.Coords) (v5 : BitVec 32) (k0_hw1 : k0_chk1 i v5), ∀ (k0_h1 : k0_cond1 i v5 = 1#1), ∀ (k0_h2 : k0_cond2 i v5 = 1#1), ∀ (k0_h3 : ¬(k0_cond3 i v5 = 1#1)), 1024 ∣ (k0_mult18 v5).toNat := fun i v5 k0_hw1 k0_h1 k0_h2 k0_h3 => k0_hw1.1.2.2.2.2.2.2.2.2.2.2.2.2.2.2.2.2.2.2.2.2.2.2.2.2.2.2.1 k0_h1 k0_h2 k0_h3
theorem k0_mult19_dvd : ∀ (i : grid0.Coords) (v5 : BitVec 32) (k0_hw1 : k0_chk1 i v5), ∀ (k0_h1 : k0_cond1 i v5 = 1#1), ∀ (k0_h2 : k0_cond2 i v5 = 1#1), ∀ (k0_h3 : ¬(k0_cond3 i v5 = 1#1)), 1024 ∣ (k0_mult19 v5).toNat := fun i v5 k0_hw1 k0_h1 k0_h2 k0_h3 => k0_hw1.1.2.2.2.2.2.2.2.2.2.2.2.2.2.2.2.2.2.2.2.2.2.2.2.2.2.2.2.1 k0_h1 k0_h2 k0_h3
theorem k0_mult20_dvd : ∀ (i : grid0.Coords) (v5 : BitVec 32) (k0_hw1 : k0_chk1 i v5), ∀ (k0_h1 : k0_cond1 i v5 = 1#1), ∀ (k0_h2 : k0_cond2 i v5 = 1#1), ∀ (k0_h3 : ¬(k0_cond3 i v5 = 1#1)), 1024 ∣ (k0_mult20 v5).toNat := fun i v5 k0_hw1 k0_h1 k0_h2 k0_h3 => k0_hw1.1.2.2.2.2.2.2.2.2.2.2.2.2.2.2.2.2.2.2.2.2.2.2.2.2.2.2.2.2.1 k0_h1 k0_h2 k0_h3
theorem k0_off11_inb : ∀ (i : grid0.Coords) (v5 : BitVec 32) (k0_hw1 : k0_chk1 i v5), ∀ (k0_h1 : k0_cond1 i v5 = 1#1), ∀ (k0_h2 : k0_cond2 i v5 = 1#1), ∀ (k0_h3 : ¬(k0_cond3 i v5 = 1#1)), ∀ (r : Fin 2), ∀ a, (k0_off11 v5 (BitVec.ofNat 32 r.val)) a + S1x1x1x80x256.size a ≤ S1x1x16x80x512.size a := fun i v5 k0_hw1 k0_h1 k0_h2 k0_h3 r => k0_hw1.1.2.2.2.2.2.2.2.2.2.2.2.2.2.2.2.2.2.2.2.2.2.2.2.2.2.2.2.2.2.1 k0_h1 k0_h2 k0_h3 r
theorem k0_mult21_dvd : ∀ (i : grid0.Coords) (v5 : BitVec 32) (k0_hw1 : k0_chk1 i v5), ∀ (k0_h1 : k0_cond1 i v5 = 1#1), ∀ (k0_h2 : k0_cond2 i v5 = 1#1), ∀ (k0_h3 : ¬(k0_cond3 i v5 = 1#1)), 1024 ∣ (k0_mult21 v5).toNat := fun i v5 k0_hw1 k0_h1 k0_h2 k0_h3 => k0_hw1.1.2.2.2.2.2.2.2.2.2.2.2.2.2.2.2.2.2.2.2.2.2.2.2.2.2.2.2.2.2.2.1 k0_h1 k0_h2 k0_h3
theorem k0_off12_inb : ∀ (i : grid0.Coords) (v5 : BitVec 32) (k0_hw1 : k0_chk1 i v5), ∀ (k0_h1 : k0_cond1 i v5 = 1#1), ∀ (k0_h2 : k0_cond2 i v5 = 1#1), ∀ (k0_h3 : ¬(k0_cond3 i v5 = 1#1)), ∀ (r : Fin 2), ∀ a, (k0_off12 v5 (BitVec.ofNat 32 r.val)) a + S1x1x1x80x256.size a ≤ S1x1x16x80x512.size a := fun i v5 k0_hw1 k0_h1 k0_h2 k0_h3 r => k0_hw1.1.2.2.2.2.2.2.2.2.2.2.2.2.2.2.2.2.2.2.2.2.2.2.2.2.2.2.2.2.2.2.2 k0_h1 k0_h2 k0_h3 r
theorem k0_mult22_dvd : ∀ (i : grid0.Coords) (v5 : BitVec 32) (k0_hw1 : k0_chk1 i v5), ∀ (k0_h1 : k0_cond1 i v5 = 1#1), ∀ (k0_h2 : k0_cond2 i v5 = 1#1), ∀ (k0_h3 : ¬(k0_cond3 i v5 = 1#1)), 1024 ∣ (k0_mult22 v5).toNat := fun i v5 k0_hw1 k0_h1 k0_h2 k0_h3 => k0_hw1.2.1.1 k0_h1 k0_h2 k0_h3
theorem k0_off13_inb : ∀ (i : grid0.Coords) (v5 : BitVec 32) (k0_hw1 : k0_chk1 i v5), ∀ (k0_h1 : k0_cond1 i v5 = 1#1), ∀ (k0_h2 : k0_cond2 i v5 = 1#1), ∀ (k0_h3 : ¬(k0_cond3 i v5 = 1#1)), ∀ a, (k0_off13 v5) a + S1x1x256x128.size a ≤ S1x1x8192x128.size a := fun i v5 k0_hw1 k0_h1 k0_h2 k0_h3 => k0_hw1.2.1.2.1 k0_h1 k0_h2 k0_h3
theorem k0_mult23_dvd : ∀ (i : grid0.Coords) (v5 : BitVec 32) (k0_hw1 : k0_chk1 i v5), ∀ (k0_h1 : k0_cond1 i v5 = 1#1), ∀ (k0_h2 : ¬(k0_cond2 i v5 = 1#1)), 1024 ∣ (k0_mult23 v5).toNat := fun i v5 k0_hw1 k0_h1 k0_h2 => k0_hw1.2.1.2.2.1 k0_h1 k0_h2
theorem k0_off14_inb : ∀ (i : grid0.Coords) (v5 : BitVec 32) (k0_hw1 : k0_chk1 i v5), ∀ (k0_h1 : k0_cond1 i v5 = 1#1), ∀ (k0_h2 : ¬(k0_cond2 i v5 = 1#1)), ∀ (r : Fin 4), ∀ a, (k0_off14 v5 (BitVec.ofNat 32 (256 * r.val))) a + S1x1x256x128.size a ≤ S1x1x8192x128.size a := fun i v5 k0_hw1 k0_h1 k0_h2 r => k0_hw1.2.1.2.2.2.1 k0_h1 k0_h2 r
theorem k0_mult24_dvd : ∀ (i : grid0.Coords) (v5 : BitVec 32) (k0_hw1 : k0_chk1 i v5), ∀ (k0_h1 : k0_cond1 i v5 = 1#1), ∀ (k0_h2 : ¬(k0_cond2 i v5 = 1#1)), 1024 ∣ (k0_mult24 v5).toNat := fun i v5 k0_hw1 k0_h1 k0_h2 => k0_hw1.2.1.2.2.2.2.1 k0_h1 k0_h2
theorem k0_mult25_dvd : ∀ (i : grid0.Coords) (v5 : BitVec 32) (k0_hw1 : k0_chk1 i v5), ∀ (k0_h1 : k0_cond1 i v5 = 1#1), ∀ (k0_h2 : ¬(k0_cond2 i v5 = 1#1)), 1024 ∣ (k0_mult25 v5).toNat := fun i v5 k0_hw1 k0_h1 k0_h2 => k0_hw1.2.1.2.2.2.2.2.1 k0_h1 k0_h2
theorem k0_mult26_dvd : ∀ (i : grid0.Coords) (v5 : BitVec 32) (k0_hw1 : k0_chk1 i v5), ∀ (k0_h1 : k0_cond1 i v5 = 1#1), ∀ (k0_h2 : ¬(k0_cond2 i v5 = 1#1)), 1024 ∣ (k0_mult26 v5).toNat := fun i v5 k0_hw1 k0_h1 k0_h2 => k0_hw1.2.1.2.2.2.2.2.2.1 k0_h1 k0_h2
theorem k0_mult27_dvd : ∀ (i : grid0.Coords) (v5 : BitVec 32) (k0_hw1 : k0_chk1 i v5), ∀ (k0_h1 : k0_cond1 i v5 = 1#1), ∀ (k0_h2 : ¬(k0_cond2 i v5 = 1#1)), 1024 ∣ (k0_mult27 v5).toNat := fun i v5 k0_hw1 k0_h1 k0_h2 => k0_hw1.2.1.2.2.2.2.2.2.2.1 k0_h1 k0_h2
theorem k0_mult28_dvd : ∀ (i : grid0.Coords) (v5 : BitVec 32) (k0_hw1 : k0_chk1 i v5), ∀ (k0_h1 : k0_cond1 i v5 = 1#1), ∀ (k0_h2 : ¬(k0_cond2 i v5 = 1#1)), 1024 ∣ (k0_mult28 v5).toNat := fun i v5 k0_hw1 k0_h1 k0_h2 => k0_hw1.2.1.2.2.2.2.2.2.2.2.1 k0_h1 k0_h2
theorem k0_mult29_dvd : ∀ (i : grid0.Coords) (v5 : BitVec 32) (k0_hw1 : k0_chk1 i v5), ∀ (k0_h1 : k0_cond1 i v5 = 1#1), ∀ (k0_h2 : ¬(k0_cond2 i v5 = 1#1)), 1024 ∣ (k0_mult29 v5).toNat := fun i v5 k0_hw1 k0_h1 k0_h2 => k0_hw1.2.1.2.2.2.2.2.2.2.2.2.1 k0_h1 k0_h2
theorem k0_mult30_dvd : ∀ (i : grid0.Coords) (v5 : BitVec 32) (k0_hw1 : k0_chk1 i v5), ∀ (k0_h1 : k0_cond1 i v5 = 1#1), ∀ (k0_h2 : ¬(k0_cond2 i v5 = 1#1)), 1024 ∣ (k0_mult30 v5).toNat := fun i v5 k0_hw1 k0_h1 k0_h2 => k0_hw1.2.1.2.2.2.2.2.2.2.2.2.2.1 k0_h1 k0_h2
theorem k0_mult31_dvd : ∀ (i : grid0.Coords) (v5 : BitVec 32) (k0_hw1 : k0_chk1 i v5), ∀ (k0_h1 : k0_cond1 i v5 = 1#1), ∀ (k0_h2 : ¬(k0_cond2 i v5 = 1#1)), 1024 ∣ (k0_mult31 v5).toNat := fun i v5 k0_hw1 k0_h1 k0_h2 => k0_hw1.2.1.2.2.2.2.2.2.2.2.2.2.2.1 k0_h1 k0_h2
theorem k0_off15_inb : ∀ (i : grid0.Coords) (v5 : BitVec 32) (k0_hw1 : k0_chk1 i v5), ∀ (k0_h1 : k0_cond1 i v5 = 1#1), ∀ (k0_h2 : ¬(k0_cond2 i v5 = 1#1)), ∀ (r : Fin 2), ∀ a, (k0_off15 v5 (BitVec.ofNat 32 r.val)) a + S1x1x1x80x256.size a ≤ S1x1x16x80x512.size a := fun i v5 k0_hw1 k0_h1 k0_h2 r => k0_hw1.2.1.2.2.2.2.2.2.2.2.2.2.2.2.1 k0_h1 k0_h2 r
theorem k0_mult32_dvd : ∀ (i : grid0.Coords) (v5 : BitVec 32) (k0_hw1 : k0_chk1 i v5), ∀ (k0_h1 : k0_cond1 i v5 = 1#1), ∀ (k0_h2 : ¬(k0_cond2 i v5 = 1#1)), 1024 ∣ (k0_mult32 v5).toNat := fun i v5 k0_hw1 k0_h1 k0_h2 => k0_hw1.2.1.2.2.2.2.2.2.2.2.2.2.2.2.2.1 k0_h1 k0_h2
theorem k0_mult33_dvd : ∀ (i : grid0.Coords) (v5 : BitVec 32) (k0_hw1 : k0_chk1 i v5), ∀ (k0_h1 : k0_cond1 i v5 = 1#1), ∀ (k0_h2 : ¬(k0_cond2 i v5 = 1#1)), 1024 ∣ (k0_mult33 v5).toNat := fun i v5 k0_hw1 k0_h1 k0_h2 => k0_hw1.2.1.2.2.2.2.2.2.2.2.2.2.2.2.2.2.1 k0_h1 k0_h2
theorem k0_mult34_dvd : ∀ (i : grid0.Coords) (v5 : BitVec 32) (k0_hw1 : k0_chk1 i v5), ∀ (k0_h1 : k0_cond1 i v5 = 1#1), ∀ (k0_h2 : ¬(k0_cond2 i v5 = 1#1)), 1024 ∣ (k0_mult34 v5).toNat := fun i v5 k0_hw1 k0_h1 k0_h2 => k0_hw1.2.1.2.2.2.2.2.2.2.2.2.2.2.2.2.2.2.1 k0_h1 k0_h2
theorem k0_mult35_dvd : ∀ (i : grid0.Coords) (v5 : BitVec 32) (k0_hw1 : k0_chk1 i v5), ∀ (k0_h1 : k0_cond1 i v5 = 1#1), ∀ (k0_h2 : ¬(k0_cond2 i v5 = 1#1)), 1024 ∣ (k0_mult35 v5).toNat := fun i v5 k0_hw1 k0_h1 k0_h2 => k0_hw1.2.1.2.2.2.2.2.2.2.2.2.2.2.2.2.2.2.2.1 k0_h1 k0_h2
theorem k0_off16_inb : ∀ (i : grid0.Coords) (v5 : BitVec 32) (k0_hw1 : k0_chk1 i v5), ∀ (k0_h1 : k0_cond1 i v5 = 1#1), ∀ (k0_h2 : ¬(k0_cond2 i v5 = 1#1)), ∀ (r : Fin 2), ∀ a, (k0_off16 v5 (BitVec.ofNat 32 r.val)) a + S1x1x1x80x256.size a ≤ S1x1x16x80x512.size a := fun i v5 k0_hw1 k0_h1 k0_h2 r => k0_hw1.2.1.2.2.2.2.2.2.2.2.2.2.2.2.2.2.2.2.2.1 k0_h1 k0_h2 r
theorem k0_mult36_dvd : ∀ (i : grid0.Coords) (v5 : BitVec 32) (k0_hw1 : k0_chk1 i v5), ∀ (k0_h1 : k0_cond1 i v5 = 1#1), ∀ (k0_h2 : ¬(k0_cond2 i v5 = 1#1)), 1024 ∣ (k0_mult36 v5).toNat := fun i v5 k0_hw1 k0_h1 k0_h2 => k0_hw1.2.1.2.2.2.2.2.2.2.2.2.2.2.2.2.2.2.2.2.2.1 k0_h1 k0_h2
theorem k0_mult37_dvd : ∀ (i : grid0.Coords) (v5 : BitVec 32) (k0_hw1 : k0_chk1 i v5), ∀ (k0_h1 : k0_cond1 i v5 = 1#1), ∀ (k0_h2 : ¬(k0_cond2 i v5 = 1#1)), 1024 ∣ (k0_mult37 v5).toNat := fun i v5 k0_hw1 k0_h1 k0_h2 => k0_hw1.2.1.2.2.2.2.2.2.2.2.2.2.2.2.2.2.2.2.2.2.2.1 k0_h1 k0_h2
theorem k0_mult38_dvd : ∀ (i : grid0.Coords) (v5 : BitVec 32) (k0_hw1 : k0_chk1 i v5), ∀ (k0_h1 : k0_cond1 i v5 = 1#1), ∀ (k0_h2 : ¬(k0_cond2 i v5 = 1#1)), 1024 ∣ (k0_mult38 v5).toNat := fun i v5 k0_hw1 k0_h1 k0_h2 => k0_hw1.2.1.2.2.2.2.2.2.2.2.2.2.2.2.2.2.2.2.2.2.2.2.1 k0_h1 k0_h2
theorem k0_mult39_dvd : ∀ (i : grid0.Coords) (v5 : BitVec 32) (k0_hw1 : k0_chk1 i v5), ∀ (k0_h1 : k0_cond1 i v5 = 1#1), ∀ (k0_h2 : ¬(k0_cond2 i v5 = 1#1)), 1024 ∣ (k0_mult39 v5).toNat := fun i v5 k0_hw1 k0_h1 k0_h2 => k0_hw1.2.1.2.2.2.2.2.2.2.2.2.2.2.2.2.2.2.2.2.2.2.2.2.1 k0_h1 k0_h2
theorem k0_off17_inb : ∀ (i : grid0.Coords) (v5 : BitVec 32) (k0_hw1 : k0_chk1 i v5), ∀ (k0_h1 : k0_cond1 i v5 = 1#1), ∀ (k0_h2 : ¬(k0_cond2 i v5 = 1#1)), ∀ a, (k0_off17 v5) a + S1x1x256x128.size a ≤ S1x1x8192x128.size a := fun i v5 k0_hw1 k0_h1 k0_h2 => k0_hw1.2.1.2.2.2.2.2.2.2.2.2.2.2.2.2.2.2.2.2.2.2.2.2.2.1 k0_h1 k0_h2
theorem k0_t1_ok : ∀ (i : grid0.Coords) (v5 : BitVec 32) (k0_hw1 : k0_chk1 i v5), (k0_t1_loop i v5).OK := fun i v5 k0_hw1 => k0_hw1.2.1.2.2.2.2.2.2.2.2.2.2.2.2.2.2.2.2.2.2.2.2.2.2.2.1
theorem k0_mult41_dvd : ∀ (i : grid0.Coords) (v5 : BitVec 32) (k0_hw1 : k0_chk1 i v5) (k0_t1 : Fin (k0_t1_loop i v5).trips), 1024 ∣ (k0_mult41 i v5 k0_t1).toNat := fun i v5 k0_hw1 k0_t1 => k0_hw1.2.1.2.2.2.2.2.2.2.2.2.2.2.2.2.2.2.2.2.2.2.2.2.2.2.2.1 k0_t1
theorem k0_off19_inb : ∀ (i : grid0.Coords) (v5 : BitVec 32) (k0_hw1 : k0_chk1 i v5) (k0_t1 : Fin (k0_t1_loop i v5).trips), ∀ (r : Fin 4), ∀ a, (k0_off19 i v5 k0_t1 (BitVec.ofNat 32 (256 * r.val))) a + S1x1x256x128.size a ≤ S1x1x8192x128.size a := fun i v5 k0_hw1 k0_t1 r => k0_hw1.2.1.2.2.2.2.2.2.2.2.2.2.2.2.2.2.2.2.2.2.2.2.2.2.2.2.2.1 k0_t1 r
theorem k0_mult42_dvd : ∀ (i : grid0.Coords) (v5 : BitVec 32) (k0_hw1 : k0_chk1 i v5) (k0_t1 : Fin (k0_t1_loop i v5).trips), 1024 ∣ (k0_mult42 i v5 k0_t1).toNat := fun i v5 k0_hw1 k0_t1 => k0_hw1.2.1.2.2.2.2.2.2.2.2.2.2.2.2.2.2.2.2.2.2.2.2.2.2.2.2.2.2.1 k0_t1
theorem k0_mult43_dvd : ∀ (i : grid0.Coords) (v5 : BitVec 32) (k0_hw1 : k0_chk1 i v5) (k0_t1 : Fin (k0_t1_loop i v5).trips), 1024 ∣ (k0_mult43 i v5 k0_t1).toNat := fun i v5 k0_hw1 k0_t1 => k0_hw1.2.1.2.2.2.2.2.2.2.2.2.2.2.2.2.2.2.2.2.2.2.2.2.2.2.2.2.2.2.1 k0_t1
theorem k0_mult44_dvd : ∀ (i : grid0.Coords) (v5 : BitVec 32) (k0_hw1 : k0_chk1 i v5) (k0_t1 : Fin (k0_t1_loop i v5).trips), 1024 ∣ (k0_mult44 i v5 k0_t1).toNat := fun i v5 k0_hw1 k0_t1 => k0_hw1.2.1.2.2.2.2.2.2.2.2.2.2.2.2.2.2.2.2.2.2.2.2.2.2.2.2.2.2.2.2.1 k0_t1
theorem k0_mult45_dvd : ∀ (i : grid0.Coords) (v5 : BitVec 32) (k0_hw1 : k0_chk1 i v5) (k0_t1 : Fin (k0_t1_loop i v5).trips), 1024 ∣ (k0_mult45 i v5 k0_t1).toNat := fun i v5 k0_hw1 k0_t1 => k0_hw1.2.1.2.2.2.2.2.2.2.2.2.2.2.2.2.2.2.2.2.2.2.2.2.2.2.2.2.2.2.2.2.1 k0_t1
theorem k0_mult46_dvd : ∀ (i : grid0.Coords) (v5 : BitVec 32) (k0_hw1 : k0_chk1 i v5) (k0_t1 : Fin (k0_t1_loop i v5).trips), 1024 ∣ (k0_mult46 i v5 k0_t1).toNat := fun i v5 k0_hw1 k0_t1 => k0_hw1.2.1.2.2.2.2.2.2.2.2.2.2.2.2.2.2.2.2.2.2.2.2.2.2.2.2.2.2.2.2.2.2.1 k0_t1
theorem k0_mult47_dvd : ∀ (i : grid0.Coords) (v5 : BitVec 32) (k0_hw1 : k0_chk1 i v5) (k0_t1 : Fin (k0_t1_loop i v5).trips), 1024 ∣ (k0_mult47 i v5 k0_t1).toNat := fun i v5 k0_hw1 k0_t1 => k0_hw1.2.1.2.2.2.2.2.2.2.2.2.2.2.2.2.2.2.2.2.2.2.2.2.2.2.2.2.2.2.2.2.2.2 k0_t1
theorem k0_mult48_dvd : ∀ (i : grid0.Coords) (v5 : BitVec 32) (k0_hw1 : k0_chk1 i v5) (k0_t1 : Fin (k0_t1_loop i v5).trips), 1024 ∣ (k0_mult48 i v5 k0_t1).toNat := fun i v5 k0_hw1 k0_t1 => k0_hw1.2.2.1.1 k0_t1
theorem k0_off20_inb : ∀ (i : grid0.Coords) (v5 : BitVec 32) (k0_hw1 : k0_chk1 i v5) (k0_t1 : Fin (k0_t1_loop i v5).trips), ∀ (r : Fin 2), ∀ a, (k0_off20 i v5 k0_t1 (BitVec.ofNat 32 r.val)) a + S1x1x1x80x256.size a ≤ S1x1x16x80x512.size a := fun i v5 k0_hw1 k0_t1 r => k0_hw1.2.2.1.2.1 k0_t1 r
theorem k0_mult49_dvd : ∀ (i : grid0.Coords) (v5 : BitVec 32) (k0_hw1 : k0_chk1 i v5) (k0_t1 : Fin (k0_t1_loop i v5).trips), 1024 ∣ (k0_mult49 i v5 k0_t1).toNat := fun i v5 k0_hw1 k0_t1 => k0_hw1.2.2.1.2.2.1 k0_t1
theorem k0_mult50_dvd : ∀ (i : grid0.Coords) (v5 : BitVec 32) (k0_hw1 : k0_chk1 i v5) (k0_t1 : Fin (k0_t1_loop i v5).trips), 1024 ∣ (k0_mult50 i v5 k0_t1).toNat := fun i v5 k0_hw1 k0_t1 => k0_hw1.2.2.1.2.2.2.1 k0_t1
theorem k0_mult51_dvd : ∀ (i : grid0.Coords) (v5 : BitVec 32) (k0_hw1 : k0_chk1 i v5) (k0_t1 : Fin (k0_t1_loop i v5).trips), 1024 ∣ (k0_mult51 i v5 k0_t1).toNat := fun i v5 k0_hw1 k0_t1 => k0_hw1.2.2.1.2.2.2.2.1 k0_t1
theorem k0_mult52_dvd : ∀ (i : grid0.Coords) (v5 : BitVec 32) (k0_hw1 : k0_chk1 i v5) (k0_t1 : Fin (k0_t1_loop i v5).trips), 1024 ∣ (k0_mult52 i v5 k0_t1).toNat := fun i v5 k0_hw1 k0_t1 => k0_hw1.2.2.1.2.2.2.2.2.1 k0_t1
theorem k0_off21_inb : ∀ (i : grid0.Coords) (v5 : BitVec 32) (k0_hw1 : k0_chk1 i v5) (k0_t1 : Fin (k0_t1_loop i v5).trips), ∀ (r : Fin 2), ∀ a, (k0_off21 i v5 k0_t1 (BitVec.ofNat 32 r.val)) a + S1x1x1x80x256.size a ≤ S1x1x16x80x512.size a := fun i v5 k0_hw1 k0_t1 r => k0_hw1.2.2.1.2.2.2.2.2.2.1 k0_t1 r
theorem k0_mult53_dvd : ∀ (i : grid0.Coords) (v5 : BitVec 32) (k0_hw1 : k0_chk1 i v5) (k0_t1 : Fin (k0_t1_loop i v5).trips), 1024 ∣ (k0_mult53 i v5 k0_t1).toNat := fun i v5 k0_hw1 k0_t1 => k0_hw1.2.2.1.2.2.2.2.2.2.2.1 k0_t1
theorem k0_mult54_dvd : ∀ (i : grid0.Coords) (v5 : BitVec 32) (k0_hw1 : k0_chk1 i v5) (k0_t1 : Fin (k0_t1_loop i v5).trips), 1024 ∣ (k0_mult54 i v5 k0_t1).toNat := fun i v5 k0_hw1 k0_t1 => k0_hw1.2.2.1.2.2.2.2.2.2.2.2.1 k0_t1
theorem k0_mult55_dvd : ∀ (i : grid0.Coords) (v5 : BitVec 32) (k0_hw1 : k0_chk1 i v5) (k0_t1 : Fin (k0_t1_loop i v5).trips), 1024 ∣ (k0_mult55 i v5 k0_t1).toNat := fun i v5 k0_hw1 k0_t1 => k0_hw1.2.2.1.2.2.2.2.2.2.2.2.2.1 k0_t1
theorem k0_mult56_dvd : ∀ (i : grid0.Coords) (v5 : BitVec 32) (k0_hw1 : k0_chk1 i v5) (k0_t1 : Fin (k0_t1_loop i v5).trips), 1024 ∣ (k0_mult56 i v5 k0_t1).toNat := fun i v5 k0_hw1 k0_t1 => k0_hw1.2.2.1.2.2.2.2.2.2.2.2.2.2.1 k0_t1
theorem k0_off22_inb : ∀ (i : grid0.Coords) (v5 : BitVec 32) (k0_hw1 : k0_chk1 i v5) (k0_t1 : Fin (k0_t1_loop i v5).trips), ∀ a, (k0_off22 i v5 k0_t1) a + S1x1x256x128.size a ≤ S1x1x8192x128.size a := fun i v5 k0_hw1 k0_t1 => k0_hw1.2.2.1.2.2.2.2.2.2.2.2.2.2.2.1 k0_t1
theorem k0_t2_ok : ∀ (i : grid0.Coords) (v5 : BitVec 32) (k0_hw1 : k0_chk1 i v5), (k0_t2_loop i v5).OK := fun i v5 k0_hw1 => k0_hw1.2.2.1.2.2.2.2.2.2.2.2.2.2.2.2.1
theorem k0_mult57_dvd : ∀ (i : grid0.Coords) (v5 : BitVec 32) (k0_hw1 : k0_chk1 i v5) (k0_t2 : Fin (k0_t2_loop i v5).trips), 1024 ∣ (k0_mult57 i v5 k0_t2).toNat := fun i v5 k0_hw1 k0_t2 => k0_hw1.2.2.1.2.2.2.2.2.2.2.2.2.2.2.2.2.1 k0_t2
theorem k0_off23_inb : ∀ (i : grid0.Coords) (v5 : BitVec 32) (k0_hw1 : k0_chk1 i v5) (k0_t2 : Fin (k0_t2_loop i v5).trips), ∀ (r : Fin 4), ∀ a, (k0_off23 i v5 k0_t2 (BitVec.ofNat 32 (256 * r.val))) a + S1x1x256x128.size a ≤ S1x1x8192x128.size a := fun i v5 k0_hw1 k0_t2 r => k0_hw1.2.2.1.2.2.2.2.2.2.2.2.2.2.2.2.2.2.1 k0_t2 r
theorem k0_mult58_dvd : ∀ (i : grid0.Coords) (v5 : BitVec 32) (k0_hw1 : k0_chk1 i v5) (k0_t2 : Fin (k0_t2_loop i v5).trips), 1024 ∣ (k0_mult58 i v5 k0_t2).toNat := fun i v5 k0_hw1 k0_t2 => k0_hw1.2.2.1.2.2.2.2.2.2.2.2.2.2.2.2.2.2.2.1 k0_t2
theorem k0_mult59_dvd : ∀ (i : grid0.Coords) (v5 : BitVec 32) (k0_hw1 : k0_chk1 i v5) (k0_t2 : Fin (k0_t2_loop i v5).trips), 1024 ∣ (k0_mult59 i v5 k0_t2).toNat := fun i v5 k0_hw1 k0_t2 => k0_hw1.2.2.1.2.2.2.2.2.2.2.2.2.2.2.2.2.2.2.2.1 k0_t2
theorem k0_mult60_dvd : ∀ (i : grid0.Coords) (v5 : BitVec 32) (k0_hw1 : k0_chk1 i v5) (k0_t2 : Fin (k0_t2_loop i v5).trips), 1024 ∣ (k0_mult60 i v5 k0_t2).toNat := fun i v5 k0_hw1 k0_t2 => k0_hw1.2.2.1.2.2.2.2.2.2.2.2.2.2.2.2.2.2.2.2.2.1 k0_t2
theorem k0_mult61_dvd : ∀ (i : grid0.Coords) (v5 : BitVec 32) (k0_hw1 : k0_chk1 i v5) (k0_t2 : Fin (k0_t2_loop i v5).trips), 1024 ∣ (k0_mult61 i v5 k0_t2).toNat := fun i v5 k0_hw1 k0_t2 => k0_hw1.2.2.1.2.2.2.2.2.2.2.2.2.2.2.2.2.2.2.2.2.2.1 k0_t2
theorem k0_mult62_dvd : ∀ (i : grid0.Coords) (v5 : BitVec 32) (k0_hw1 : k0_chk1 i v5) (k0_t2 : Fin (k0_t2_loop i v5).trips), 1024 ∣ (k0_mult62 i v5 k0_t2).toNat := fun i v5 k0_hw1 k0_t2 => k0_hw1.2.2.1.2.2.2.2.2.2.2.2.2.2.2.2.2.2.2.2.2.2.2.1 k0_t2
theorem k0_mult63_dvd : ∀ (i : grid0.Coords) (v5 : BitVec 32) (k0_hw1 : k0_chk1 i v5) (k0_t2 : Fin (k0_t2_loop i v5).trips), 1024 ∣ (k0_mult63 i v5 k0_t2).toNat := fun i v5 k0_hw1 k0_t2 => k0_hw1.2.2.1.2.2.2.2.2.2.2.2.2.2.2.2.2.2.2.2.2.2.2.2.1 k0_t2
theorem k0_mult64_dvd : ∀ (i : grid0.Coords) (v5 : BitVec 32) (k0_hw1 : k0_chk1 i v5) (k0_t2 : Fin (k0_t2_loop i v5).trips), 1024 ∣ (k0_mult64 i v5 k0_t2).toNat := fun i v5 k0_hw1 k0_t2 => k0_hw1.2.2.1.2.2.2.2.2.2.2.2.2.2.2.2.2.2.2.2.2.2.2.2.2.1 k0_t2
theorem k0_off24_inb : ∀ (i : grid0.Coords) (v5 : BitVec 32) (k0_hw1 : k0_chk1 i v5) (k0_t2 : Fin (k0_t2_loop i v5).trips), ∀ (r : Fin 2), ∀ a, (k0_off24 i v5 k0_t2 (BitVec.ofNat 32 r.val)) a + S1x1x1x80x256.size a ≤ S1x1x16x80x512.size a := fun i v5 k0_hw1 k0_t2 r => k0_hw1.2.2.1.2.2.2.2.2.2.2.2.2.2.2.2.2.2.2.2.2.2.2.2.2.2.1 k0_t2 r
theorem k0_mult65_dvd : ∀ (i : grid0.Coords) (v5 : BitVec 32) (k0_hw1 : k0_chk1 i v5) (k0_t2 : Fin (k0_t2_loop i v5).trips), 1024 ∣ (k0_mult65 i v5 k0_t2).toNat := fun i v5 k0_hw1 k0_t2 => k0_hw1.2.2.1.2.2.2.2.2.2.2.2.2.2.2.2.2.2.2.2.2.2.2.2.2.2.2.1 k0_t2
theorem k0_mult66_dvd : ∀ (i : grid0.Coords) (v5 : BitVec 32) (k0_hw1 : k0_chk1 i v5) (k0_t2 : Fin (k0_t2_loop i v5).trips), 1024 ∣ (k0_mult66 i v5 k0_t2).toNat := fun i v5 k0_hw1 k0_t2 => k0_hw1.2.2.1.2.2.2.2.2.2.2.2.2.2.2.2.2.2.2.2.2.2.2.2.2.2.2.2.1 k0_t2
theorem k0_mult67_dvd : ∀ (i : grid0.Coords) (v5 : BitVec 32) (k0_hw1 : k0_chk1 i v5) (k0_t2 : Fin (k0_t2_loop i v5).trips), 1024 ∣ (k0_mult67 i v5 k0_t2).toNat := fun i v5 k0_hw1 k0_t2 => k0_hw1.2.2.1.2.2.2.2.2.2.2.2.2.2.2.2.2.2.2.2.2.2.2.2.2.2.2.2.2.1 k0_t2
theorem k0_mult68_dvd : ∀ (i : grid0.Coords) (v5 : BitVec 32) (k0_hw1 : k0_chk1 i v5) (k0_t2 : Fin (k0_t2_loop i v5).trips), 1024 ∣ (k0_mult68 i v5 k0_t2).toNat := fun i v5 k0_hw1 k0_t2 => k0_hw1.2.2.1.2.2.2.2.2.2.2.2.2.2.2.2.2.2.2.2.2.2.2.2.2.2.2.2.2.2.1 k0_t2
theorem k0_off25_inb : ∀ (i : grid0.Coords) (v5 : BitVec 32) (k0_hw1 : k0_chk1 i v5) (k0_t2 : Fin (k0_t2_loop i v5).trips), ∀ (r : Fin 2), ∀ a, (k0_off25 i v5 k0_t2 (BitVec.ofNat 32 r.val)) a + S1x1x1x80x256.size a ≤ S1x1x16x80x512.size a := fun i v5 k0_hw1 k0_t2 r => k0_hw1.2.2.1.2.2.2.2.2.2.2.2.2.2.2.2.2.2.2.2.2.2.2.2.2.2.2.2.2.2.2.1 k0_t2 r
theorem k0_mult69_dvd : ∀ (i : grid0.Coords) (v5 : BitVec 32) (k0_hw1 : k0_chk1 i v5) (k0_t2 : Fin (k0_t2_loop i v5).trips), 1024 ∣ (k0_mult69 i v5 k0_t2).toNat := fun i v5 k0_hw1 k0_t2 => k0_hw1.2.2.1.2.2.2.2.2.2.2.2.2.2.2.2.2.2.2.2.2.2.2.2.2.2.2.2.2.2.2.2.1 k0_t2
theorem k0_mult70_dvd : ∀ (i : grid0.Coords) (v5 : BitVec 32) (k0_hw1 : k0_chk1 i v5) (k0_t2 : Fin (k0_t2_loop i v5).trips), 1024 ∣ (k0_mult70 i v5 k0_t2).toNat := fun i v5 k0_hw1 k0_t2 => k0_hw1.2.2.1.2.2.2.2.2.2.2.2.2.2.2.2.2.2.2.2.2.2.2.2.2.2.2.2.2.2.2.2.2.1 k0_t2
theorem k0_mult71_dvd : ∀ (i : grid0.Coords) (v5 : BitVec 32) (k0_hw1 : k0_chk1 i v5) (k0_t2 : Fin (k0_t2_loop i v5).trips), 1024 ∣ (k0_mult71 i v5 k0_t2).toNat := fun i v5 k0_hw1 k0_t2 => k0_hw1.2.2.1.2.2.2.2.2.2.2.2.2.2.2.2.2.2.2.2.2.2.2.2.2.2.2.2.2.2.2.2.2.2.1 k0_t2
theorem k0_mult72_dvd : ∀ (i : grid0.Coords) (v5 : BitVec 32) (k0_hw1 : k0_chk1 i v5) (k0_t2 : Fin (k0_t2_loop i v5).trips), 1024 ∣ (k0_mult72 i v5 k0_t2).toNat := fun i v5 k0_hw1 k0_t2 => k0_hw1.2.2.1.2.2.2.2.2.2.2.2.2.2.2.2.2.2.2.2.2.2.2.2.2.2.2.2.2.2.2.2.2.2.2 k0_t2
theorem k0_off26_inb : ∀ (i : grid0.Coords) (v5 : BitVec 32) (k0_hw1 : k0_chk1 i v5) (k0_t2 : Fin (k0_t2_loop i v5).trips), ∀ a, (k0_off26 i v5 k0_t2) a + S1x1x256x128.size a ≤ S1x1x8192x128.size a := fun i v5 k0_hw1 k0_t2 => k0_hw1.2.2.2 k0_t2

def k0_mult73 (i : grid0.Coords) : BitVec 32 :=
  let arg2 : BitVec 32 := BitVec.ofNat 32 (i 2).val
  let c1024_i32 : BitVec 32 := 1024#32
  let v67 : BitVec 32 := Scalar.muli arg2 c1024_i32
  v67
def k0_off27 (i : grid0.Coords) (c0_i32_39 : BitVec 32) : Fin 4 → Nat :=
  let c0_40 : Index := 0#32
  let c0_41 : Index := 0#32
  let arg2 : BitVec 32 := BitVec.ofNat 32 (i 2).val
  let c1024_i32 : BitVec 32 := 1024#32
  let v67 : BitVec 32 := Scalar.muli arg2 c1024_i32
  let v68 : BitVec 32 := v67
  let v69 : BitVec 32 := Scalar.addi v68 c0_i32_39
  let v70 : Index := Scalar.indexCast v69
  let c0_42 : Index := 0#32
  ![0, 0, v70.toNat, 0]
def k0_mult74 (i : grid0.Coords) : BitVec 32 :=
  let arg2 : BitVec 32 := BitVec.ofNat 32 (i 2).val
  let c1024_i32_44 : BitVec 32 := 1024#32
  let v74 : BitVec 32 := Scalar.muli arg2 c1024_i32_44
  v74
def k0_mult75 (i : grid0.Coords) : BitVec 32 :=
  let arg2 : BitVec 32 := BitVec.ofNat 32 (i 2).val
  let c1024_i32_50 : BitVec 32 := 1024#32
  let v81 : BitVec 32 := Scalar.muli arg2 c1024_i32_50
  v81
def k0_mult76 (i : grid0.Coords) : BitVec 32 :=
  let arg2 : BitVec 32 := BitVec.ofNat 32 (i 2).val
  let c1024_i32_56 : BitVec 32 := 1024#32
  let v88 : BitVec 32 := Scalar.muli arg2 c1024_i32_56
  v88
def k0_mult77 (i : grid0.Coords) : BitVec 32 :=
  let arg2 : BitVec 32 := BitVec.ofNat 32 (i 2).val
  let c1024_i32_61 : BitVec 32 := 1024#32
  let v95 : BitVec 32 := Scalar.muli arg2 c1024_i32_61
  v95
def k0_mult78 (i : grid0.Coords) : BitVec 32 :=
  let arg2 : BitVec 32 := BitVec.ofNat 32 (i 2).val
  let c1024_i32_67 : BitVec 32 := 1024#32
  let v102 : BitVec 32 := Scalar.muli arg2 c1024_i32_67
  v102
def k0_mult79 (i : grid0.Coords) : BitVec 32 :=
  let arg2 : BitVec 32 := BitVec.ofNat 32 (i 2).val
  let c1024_i32_73 : BitVec 32 := 1024#32
  let v109 : BitVec 32 := Scalar.muli arg2 c1024_i32_73
  v109
def k0_mult80 (i : grid0.Coords) : BitVec 32 :=
  let arg2 : BitVec 32 := BitVec.ofNat 32 (i 2).val
  let c1024_i32_78 : BitVec 32 := 1024#32
  let v116 : BitVec 32 := Scalar.muli arg2 c1024_i32_78
  v116
def k0_off28 (i : grid0.Coords) (c0_i32_84 : BitVec 32) : Fin 5 → Nat :=
  let c0_85 : Index := 0#32
  let c0_86 : Index := 0#32
  let arg2 : BitVec 32 := BitVec.ofNat 32 (i 2).val
  let c2_i32 : BitVec 32 := 2#32
  let v123 : BitVec 32 := Scalar.muli arg2 c2_i32
  let v124 : BitVec 32 := Scalar.addi v123 c0_i32_84
  let v125 : Index := Scalar.indexCast v124
  let c0_87 : Index := 0#32
  let c0_88 : Index := 0#32
  ![0, 0, v125.toNat, 0, 0]
def k0_mult81 (i : grid0.Coords) : BitVec 32 :=
  let arg2 : BitVec 32 := BitVec.ofNat 32 (i 2).val
  let c1024_i32_93 : BitVec 32 := 1024#32
  let v145 : BitVec 32 := Scalar.muli arg2 c1024_i32_93
  v145
def k0_off29 (i : grid0.Coords) (c0_i32_123 : BitVec 32) : Fin 5 → Nat :=
  let c0_124 : Index := 0#32
  let c0_125 : Index := 0#32
  let arg2 : BitVec 32 := BitVec.ofNat 32 (i 2).val
  let c2_i32_122 : BitVec 32 := 2#32
  let v206 : BitVec 32 := Scalar.muli arg2 c2_i32_122
  let v207 : BitVec 32 := Scalar.addi v206 c0_i32_123
  let v208 : Index := Scalar.indexCast v207
  let c0_126 : Index := 0#32
  let c256_127 : Index := 256#32
  ![0, 0, v208.toNat, 0, 256]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S128 : Shape := ⟨1, ![128]⟩
abbrev S2x8x128x8192 : Shape := ⟨4, ![2, 8, 128, 8192]⟩
abbrev S2x8x8192x128 : Shape := ⟨4, ![2, 8, 8192, 128]⟩
abbrev S2x8x16x80x512 : Shape := ⟨5, ![2, 8, 16, 80, 512]⟩
abbrev S2x8x64x8192 : Shape := ⟨4, ![2, 8, 64, 8192]⟩
abbrev S2x8x8192x8192 : Shape := ⟨4, ![2, 8, 8192, 8192]⟩
abbrev S2x8x1x8x1 : Shape := ⟨5, ![2, 8, 1, 8, 1]⟩
abbrev S2x8x8192x8x1024 : Shape := ⟨5, ![2, 8, 8192, 8, 1024]⟩
abbrev S_ : Shape := ⟨0, ![]⟩
abbrev S2x8x8192 : Shape := ⟨3, ![2, 8, 8192]⟩
abbrev S2x8x1x8192 : Shape := ⟨4, ![2, 8, 1, 8192]⟩
abbrev S2x8x80x16x512 : Shape := ⟨5, ![2, 8, 80, 16, 512]⟩
abbrev S2x8x80x8192 : Shape := ⟨4, ![2, 8, 80, 8192]⟩

abbrev nBuf : Space → Nat
  | .hbm => 79
  | .vmem => 0
  | .smem => 0
  | _ => 0

abbrev bufTy : (tb : Table) → Fin (tcTables nBuf tb) → BufTy
  | .hbm, ⟨0, _⟩ => ⟨S128, .i32⟩
  | .hbm, ⟨1, _⟩ => ⟨S2x8x128x8192, .bf16⟩
  | .hbm, ⟨2, _⟩ => ⟨S2x8x8192x128, .bf16⟩
  | .hbm, ⟨3, _⟩ => ⟨S2x8x16x80x512, .bf16⟩
  | .hbm, ⟨4, _⟩ => ⟨S2x8x64x8192, .bf16⟩
  | .hbm, ⟨5, _⟩ => ⟨S2x8x8192x8192, .f32⟩
  | .hbm, ⟨6, _⟩ => ⟨S2x8x8192x8192, .i32⟩
  | .hbm, ⟨7, _⟩ => ⟨S2x8x8192x8192, .i32⟩
  | .hbm, ⟨8, _⟩ => ⟨S2x8x1x8x1, .i32⟩
  | .hbm, ⟨9, _⟩ => ⟨S2x8x8192x8x1024, .i32⟩
  | .hbm, ⟨10, _⟩ => ⟨S2x8x8192x8192, .i32⟩
  | .hbm, ⟨11, _⟩ => ⟨S_, .i32⟩
  | .hbm, ⟨12, _⟩ => ⟨S2x8x8192x8192, .i32⟩
  | .hbm, ⟨13, _⟩ => ⟨S2x8x8192x8192, .i32⟩
  | .hbm, ⟨14, _⟩ => ⟨S_, .i32⟩
  | .hbm, ⟨15, _⟩ => ⟨S2x8x8192x8192, .i32⟩
  | .hbm, ⟨16, _⟩ => ⟨S2x8x8192x8192, .i32⟩
  | .hbm, ⟨17, _⟩ => ⟨S_, .i32⟩
  | .hbm, ⟨18, _⟩ => ⟨S2x8x8192x8192, .i32⟩
  | .hbm, ⟨19, _⟩ => ⟨S2x8x8192x8192, .i32⟩
  | .hbm, ⟨20, _⟩ => ⟨S_, .i32⟩
  | .hbm, ⟨21, _⟩ => ⟨S2x8x8192x8192, .i32⟩
  | .hbm, ⟨22, _⟩ => ⟨S2x8x8192x8192, .i32⟩
  | .hbm, ⟨23, _⟩ => ⟨S_, .i32⟩
  | .hbm, ⟨24, _⟩ => ⟨S2x8x8192x8192, .i32⟩
  | .hbm, ⟨25, _⟩ => ⟨S2x8x8192x8192, .i32⟩
  | .hbm, ⟨26, _⟩ => ⟨S_, .i32⟩
  | .hbm, ⟨27, _⟩ => ⟨S2x8x8192x8192, .i32⟩
  | .hbm, ⟨28, _⟩ => ⟨S2x8x8192x8192, .i32⟩
  | .hbm, ⟨29, _⟩ => ⟨S_, .i32⟩
  | .hbm, ⟨30, _⟩ => ⟨S2x8x8192x8192, .i32⟩
  | .hbm, ⟨31, _⟩ => ⟨S2x8x8192x8192, .i32⟩
  | .hbm, ⟨32, _⟩ => ⟨S_, .i32⟩
  | .hbm, ⟨33, _⟩ => ⟨S2x8x8192x8192, .i32⟩
  | .hbm, ⟨34, _⟩ => ⟨S2x8x8192x8192, .i32⟩
  | .hbm, ⟨35, _⟩ => ⟨S2x8x8192x8192, .i32⟩
  | .hbm, ⟨36, _⟩ => ⟨S2x8x8192x8192, .i1⟩
  | .hbm, ⟨37, _⟩ => ⟨S_, .i32⟩
  | .hbm, ⟨38, _⟩ => ⟨S2x8x8192x8192, .i32⟩
  | .hbm, ⟨39, _⟩ => ⟨S2x8x8192x8192, .i1⟩
  | .hbm, ⟨40, _⟩ => ⟨S_, .i32⟩
  | .hbm, ⟨41, _⟩ => ⟨S2x8x8192x8192, .i32⟩
  | .hbm, ⟨42, _⟩ => ⟨S2x8x8192x8192, .i32⟩
  | .hbm, ⟨43, _⟩ => ⟨S2x8x8192x8192, .i1⟩
  | .hbm, ⟨44, _⟩ => ⟨S2x8x8192x8192, .i1⟩
  | .hbm, ⟨45, _⟩ => ⟨S2x8x8192x8192, .i1⟩
  | .hbm, ⟨46, _⟩ => ⟨S2x8x8192x8192, .i1⟩
  | .hbm, ⟨47, _⟩ => ⟨S2x8x8192x8192, .i1⟩
  | .hbm, ⟨48, _⟩ => ⟨S2x8x8192x8192, .i1⟩
  | .hbm, ⟨49, _⟩ => ⟨S2x8x8192x8192, .i1⟩
  | .hbm, ⟨50, _⟩ => ⟨S2x8x8192x8192, .i1⟩
  | .hbm, ⟨51, _⟩ => ⟨S2x8x8192x8192, .i1⟩
  | .hbm, ⟨52, _⟩ => ⟨S2x8x8192x8192, .i1⟩
  | .hbm, ⟨53, _⟩ => ⟨S2x8x8192x8192, .i1⟩
  | .hbm, ⟨54, _⟩ => ⟨S_, .f32⟩
  | .hbm, ⟨55, _⟩ => ⟨S_, .f32⟩
  | .hbm, ⟨56, _⟩ => ⟨S2x8x8192x8192, .f32⟩
  | .hbm, ⟨57, _⟩ => ⟨S2x8x8192x8192, .f32⟩
  | .hbm, ⟨58, _⟩ => ⟨S_, .f32⟩
  | .hbm, ⟨59, _⟩ => ⟨S2x8x8192, .f32⟩
  | .hbm, ⟨60, _⟩ => ⟨S2x8x1x8192, .f32⟩
  | .hbm, ⟨61, _⟩ => ⟨S2x8x8192x8192, .f32⟩
  | .hbm, ⟨62, _⟩ => ⟨S2x8x8192x8192, .f32⟩
  | .hbm, ⟨63, _⟩ => ⟨S_, .f32⟩
  | .hbm, ⟨64, _⟩ => ⟨S_, .f32⟩
  | .hbm, ⟨65, _⟩ => ⟨S2x8x8192x8192, .f32⟩
  | .hbm, ⟨66, _⟩ => ⟨S2x8x8192x8192, .f32⟩
  | .hbm, ⟨67, _⟩ => ⟨S2x8x8192x8192, .f32⟩
  | .hbm, ⟨68, _⟩ => ⟨S2x8x8192x8192, .bf16⟩
  | .hbm, ⟨69, _⟩ => ⟨S2x8x80x16x512, .bf16⟩
  | .hbm, ⟨70, _⟩ => ⟨S2x8x80x8192, .bf16⟩
  | .hbm, ⟨71, _⟩ => ⟨S2x8x80x8192, .f32⟩
  | .hbm, ⟨72, _⟩ => ⟨S2x8x64x8192, .f32⟩
  | .hbm, ⟨73, _⟩ => ⟨S2x8x1x8192, .f32⟩
  | .hbm, ⟨74, _⟩ => ⟨S2x8x64x8192, .f32⟩
  | .hbm, ⟨75, _⟩ => ⟨S2x8x64x8192, .f32⟩
  | .hbm, ⟨76, _⟩ => ⟨S2x8x64x8192, .f32⟩
  | .hbm, ⟨77, _⟩ => ⟨S2x8x64x8192, .f32⟩
  | .hbm, ⟨78, _⟩ => ⟨S2x8x64x8192, .bf16⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_7 : Ref sig .tc := ⟨.hbm, 37, rfl⟩
abbrev main_v24 : Ref sig .tc := ⟨.hbm, 38, rfl⟩
abbrev main_v25 : Ref sig .tc := ⟨.hbm, 39, rfl⟩
abbrev main_c_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst : Ref sig .tc := ⟨.hbm, 54, rfl⟩
abbrev main_call0_v0 : Ref sig .tc := ⟨.hbm, 55, rfl⟩
abbrev main_call0_v1 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== KernelPost.lean ====
abbrev S2x8192x1024 : Shape := ⟨3, ![2, 8192, 1024]⟩
abbrev S2x8x64x8192 : Shape := ⟨4, ![2, 8, 64, 8192]⟩
abbrev S2x8192x512 : Shape := ⟨3, ![2, 8192, 512]⟩
abbrev S2x2x8192x256 : Shape := ⟨4, ![2, 2, 8192, 256]⟩
abbrev S2x1024x1024 : Shape := ⟨3, ![2, 1024, 1024]⟩
abbrev S2x1024 : Shape := ⟨2, ![2, 1024]⟩
abbrev S2x256x1024 : Shape := ⟨3, ![2, 256, 1024]⟩
abbrev S16384x1024 : Shape := ⟨2, ![16384, 1024]⟩
abbrev S2x16384x256 : Shape := ⟨3, ![2, 16384, 256]⟩
abbrev S2x512x8192 : Shape := ⟨3, ![2, 512, 8192]⟩
abbrev S16384x512 : Shape := ⟨2, ![16384, 512]⟩
abbrev S1x1024 : Shape := ⟨2, ![1, 1024]⟩
abbrev S1024 : Shape := ⟨1, ![1024]⟩
abbrev S1024x1024 : Shape := ⟨2, ![1024, 1024]⟩
abbrev S1x512x1024 : Shape := ⟨3, ![1, 512, 1024]⟩
abbrev S1024x512 : Shape := ⟨2, ![1024, 512]⟩
abbrev S1x1024x256 : Shape := ⟨3, ![1, 1024, 256]⟩
abbrev S1x1024x1024 : Shape := ⟨3, ![1, 1024, 1024]⟩
abbrev S1x256x1024 : Shape := ⟨3, ![1, 256, 1024]⟩
abbrev S256x1024 : Shape := ⟨2, ![256, 1024]⟩
abbrev S512x1024 : Shape := ⟨2, ![512, 1024]⟩
abbrev S1024x1 : Shape := ⟨2, ![1024, 1]⟩
abbrev S1024x256 : Shape := ⟨2, ![1024, 256]⟩

abbrev nBuf : Space → Nat
  | .hbm => 16
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x8x64x8192, .bf16⟩
  | .hbm, ⟨2, _⟩ => ⟨S2x8192x512, .bf16⟩
  | .hbm, ⟨3, _⟩ => ⟨S2x2x8192x256, .f32⟩
  | .hbm, ⟨4, _⟩ => ⟨S2x1024x1024, .f32⟩
  | .hbm, ⟨5, _⟩ => ⟨S2x1024, .f32⟩
  | .hbm, ⟨6, _⟩ => ⟨S2x1024x1024, .f32⟩
  | .hbm, ⟨7, _⟩ => ⟨S2x256x1024, .f32⟩
  | .hbm, ⟨8, _⟩ => ⟨S16384x1024, .f32⟩
  | .hbm, ⟨9, _⟩ => ⟨S2x16384x256, .f32⟩
  | .hbm, ⟨10, _⟩ => ⟨S2x512x8192, .bf16⟩
  | .hbm, ⟨11, _⟩ => ⟨S16384x512, .bf16⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x512, .bf16⟩
  | .local _ .vmem, ⟨5, _⟩ => ⟨S1024x512, .bf16⟩
  | .local _ .vmem, ⟨6, _⟩ => ⟨S1x1024x256, .f32⟩
  | .local _ .vmem, ⟨7, _⟩ => ⟨S1x1024x256, .f32⟩
  | .local _ .vmem, ⟨8, _⟩ => ⟨S1x1024x1024, .f32⟩
  | .local _ .vmem, ⟨9, _⟩ => ⟨S1x1024, .f32⟩
  | .local _ .vmem, ⟨10, _⟩ => ⟨S1x1024x1024, .f32⟩
  | .local _ .vmem, ⟨11, _⟩ => ⟨S1x256x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S256x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferencePostIdeal.lean ====
abbrev S2x8192x1024 : Shape := ⟨3, ![2, 8192, 1024]⟩
abbrev S2x8x64x8192 : Shape := ⟨4, ![2, 8, 64, 8192]⟩
abbrev S2x8192x512 : Shape := ⟨3, ![2, 8192, 512]⟩
abbrev S2x2x8192x256 : Shape := ⟨4, ![2, 2, 8192, 256]⟩
abbrev S2x1024x1024 : Shape := ⟨3, ![2, 1024, 1024]⟩
abbrev S2x1024 : Shape := ⟨2, ![2, 1024]⟩
abbrev S2x256x1024 : Shape := ⟨3, ![2, 256, 1024]⟩
abbrev S2x8192x8x64 : Shape := ⟨4, ![2, 8192, 8, 64]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x2x8192x256 : Shape := ⟨4, ![1, 2, 8192, 256]⟩
abbrev S2x8192x256 : Shape := ⟨3, ![2, 8192, 256]⟩
abbrev S1x256x1024 : Shape := ⟨3, ![1, 256, 1024]⟩
abbrev S256x1024 : Shape := ⟨2, ![256, 1024]⟩
abbrev S16384x1024 : Shape := ⟨2, ![16384, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8x64x8192, .bf16⟩
  | .hbm, ⟨2, _⟩ => ⟨S2x8192x512, .bf16⟩
  | .hbm, ⟨3, _⟩ => ⟨S2x2x8192x256, .f32⟩
  | .hbm, ⟨4, _⟩ => ⟨S2x1024x1024, .f32⟩
  | .hbm, ⟨5, _⟩ => ⟨S2x1024, .f32⟩
  | .hbm, ⟨6, _⟩ => ⟨S2x1024x1024, .f32⟩
  | .hbm, ⟨7, _⟩ => ⟨S2x256x1024, .f32⟩
  | .hbm, ⟨8, _⟩ => ⟨S2x8192x8x64, .bf16⟩
  | .hbm, ⟨9, _⟩ => ⟨S2x8192x512, .bf16⟩
  | .hbm, ⟨10, _⟩ => ⟨S2x8192x1024, .bf16⟩
  | .hbm, ⟨11, _⟩ => ⟨S2x8192x1024, .f32⟩
  | .hbm, ⟨12, _⟩ => ⟨S1x1024x1024, .f32⟩
  | .hbm, ⟨13, _⟩ => ⟨S1024x1024, .f32⟩
  | .hbm, ⟨14, _⟩ => ⟨S2x8192x1024, .f32⟩
  | .hbm, ⟨15, _⟩ => ⟨S2x8192x1024, .f32⟩
  | .hbm, ⟨16, _⟩ => ⟨S1x1024, .f32⟩
  | .hbm, ⟨17, _⟩ => ⟨S1024, .f32⟩
  | .hbm, ⟨18, _⟩ => ⟨S2x8192x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S1x1x1024, .f32⟩
  | .hbm, ⟨32, _⟩ => ⟨S2x8192x1024, .f32⟩
  | .hbm, ⟨33, _⟩ => ⟨S2x8192x1024, .f32⟩
  | .hbm, ⟨34, _⟩ => ⟨S1x1024x1024, .f32⟩
  | .hbm, ⟨35, _⟩ => ⟨S1024x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S_, .f32⟩
  | .hbm, ⟨40, _⟩ => ⟨S2x8192x1024, .f32⟩
  | .hbm, ⟨41, _⟩ => ⟨S2x8192x1024, .f32⟩
  | .hbm, ⟨42, _⟩ => ⟨S_, .f32⟩
  | .hbm, ⟨43, _⟩ => ⟨S2x8192x1024, .f32⟩
  | .hbm, ⟨44, _⟩ => ⟨S2x8192x1024, .f32⟩
  | .hbm, ⟨45, _⟩ => ⟨S1x2x8192x256, .f32⟩
  | .hbm, ⟨46, _⟩ => ⟨S2x8192x256, .f32⟩
  | .hbm, ⟨47, _⟩ => ⟨S1x256x1024, .f32⟩
  | .hbm, ⟨48, _⟩ => ⟨S256x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Proof.Ref.lean ====
module

public import proofs.«01_k».proof.Proof.Gen.ReferenceIdeal
public import proofs.«01_k».proof.Proof.Gen.ReferenceIdeal.Run
public import proofs.«01_k».proof.Proof.Gen.ReferenceIdeal.Read

@[expose] public section

end
-- ==== Proof.RefFrame.lean ====
/- The reference's run leaves its arguments unchanged; and the mask constant's ledger entry. -/
module

public import proofs.«01_k».proof.Defs
public import proofs.«01_k».proof.Proof.Ref
public import proofs.«01_k».proof.Proof.Gen.KernelIdeal
public import Idealize.ShloMosaic.Lib.Quiescent
public import Idealize.ShloMosaic.Adequacy

@[expose] public section

noncomputable section

namespace Cert.ReferenceIdeal.Fox

open Idealize.ShloMosaic Idealize.SL.Sem Cert.ReferenceIdeal

/-- The reference runs, its arguments unchanged; it has no counter. -/
theorem claim_frame [Cert.Pre_plan_nonneg.Facts] : Cert.quiescent_ReferenceIdeal := fun m ρ _ =>
  (θ_run defs _ _).mono (fun r h => ⟨fun c => (h c).2, sem_eq_zero_of_no_sems (by decide) r.2⟩) (Value.run m ρ)

/-- The finite mask stands for −∞: the entry's statement. -/
theorem claim_preserves : Cert.preserves_Kernel_KernelIdeal :=
  IdealRules.named_const.statement Cert.KernelIdeal.κ "mask" .f32 0xF149F2CA#32 ⊥ rfl

end Cert.ReferenceIdeal.Fox

end
-- ==== Proof.Online.lean ====
/- Sums weighted by powers of two, taken block by block: the largest logit so far and the sum so far, rescaled when
   the largest logit moves. On the extended reals, where a logit of `⊥` weighs nothing. -/
module

public import Idealize.ShloMosaic.Lib.Pointwise

@[expose] public section

noncomputable section

namespace Cert.Online

open Idealize.ShloMosaic

theorem exp2_nonneg (x : EReal) : 0 ≤ Ideal.exp2 x := by
  induction x with
  | bot => simp
  | top => simp
  | coe r => rw [Ideal.exp2_coe]; exact_mod_cast (Real.rpow_pos_of_pos (by norm_num) r).le

theorem exp2_pos (r : ℝ) : 0 < Ideal.exp2 (r : EReal) := by
  rw [Ideal.exp2_coe]; exact_mod_cast Real.rpow_pos_of_pos (by norm_num) r

/-- `2^(m - m') * 2^(l - m) = 2^(l - m')` for `l ≤ m ≤ m'`, at the infinities too. -/
theorem exp2_shift {l m m' : EReal} (h : l ≤ m) (h' : m ≤ m') :
    Ideal.exp2 (m - m') * Ideal.exp2 (l - m) = Ideal.exp2 (l - m') := by
  induction m with
  | bot =>
    obtain rfl : l = ⊥ := le_bot_iff.mp h
    simp [sub_eq_add_neg]
  | top =>
    obtain rfl : m' = ⊤ := top_le_iff.mp h'
    simp [sub_eq_add_neg]
  | coe m =>
    induction m' with
    | bot => simp at h'
    | top => simp [sub_eq_add_neg]
    | coe m' =>
      induction l with
      | bot => simp [sub_eq_add_neg]
      | top => simp at h
      | coe l =>
        rw [← EReal.coe_sub, ← EReal.coe_sub, ← EReal.coe_sub, Ideal.exp2_coe, Ideal.exp2_coe, Ideal.exp2_coe, ← EReal.coe_mul]
        congr 1
        show (2 : ℝ) ^ (m - m') * (2 : ℝ) ^ (l - m) = (2 : ℝ) ^ (l - m')
        rw [← Real.rpow_add (by norm_num)]
        congr 1; ring

/-- A power of a difference that is not positive is finite. -/
theorem exp2_sub_ne_top {m m' : EReal} (h : m ≤ m') : Ideal.exp2 (m - m') ≠ ⊤ := by
  induction m with
  | bot => simp [sub_eq_add_neg]
  | top =>
    obtain rfl : m' = ⊤ := top_le_iff.mp h
    simp [sub_eq_add_neg]
  | coe m =>
    induction m' with
    | bot => simp at h
    | top => simp [sub_eq_add_neg]
    | coe m' => rw [← EReal.coe_sub, Ideal.exp2_coe]; exact EReal.coe_ne_top _

theorem mul_sum {ι : Type} (c : EReal) (h0 : 0 ≤ c) (ht : c ≠ ⊤) (s : Finset ι) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- The largest of the logits `lo ≤ n < hi`. -/
def Mx (l : ℕ → EReal) (lo hi : ℕ) : EReal := (Finset.Ico lo hi).sup l

/-- The sum over `lo ≤ n < hi` of the values, each weighted by two to its logit less the largest. -/
def Ac (l V : ℕ → EReal) (lo hi : ℕ) : EReal := ∑ n ∈ Finset.Ico lo hi, Ideal.exp2 (l n - Mx l lo hi) * V n

theorem Mx_self (l : ℕ → EReal) (lo : ℕ) : Mx l lo lo = ⊥ := by simp [Mx]
theorem Ac_self (l V : ℕ → EReal) (lo : ℕ) : Ac l V lo lo = 0 := by simp [Ac]

theorem fold_eq_sup {N : ℕ} (f : Fin N → EReal) : Finset.univ.fold max ⊥ f = Finset.univ.sup f := by
  rfl

theorem Ico_eq_map (hi N : ℕ) : Finset.Ico hi (hi + N) = Finset.univ.image (fun k : Fin N => hi + k.val) := by
  ext n
  simp only [Finset.mem_Ico, Finset.mem_image, Finset.mem_univ, true_and]
  constructor
  · intro h; exact ⟨⟨n - hi, by omega⟩, by simp; omega⟩
  · rintro ⟨k, rfl⟩; have := k.isLt; omega

theorem sup_block (l : ℕ → EReal) (hi N : ℕ) : (Finset.Ico hi (hi + N)).sup l = Finset.univ.sup fun k : Fin N => l (hi + k) := by
  rw [Ico_eq_map, Finset.sup_image]; rfl

theorem sum_block (g : ℕ → EReal) (hi N : ℕ) : ∑ n ∈ Finset.Ico hi (hi + N), g n = ∑ k : Fin N, g (hi + k) := by
  rw [Ico_eq_map, Finset.sum_image]
  intro a _ b _ h; exact Fin.ext (by simpa using h)

/-- The largest logit after one more block. -/
theorem Mx_step (l : ℕ → EReal) {lo hi : ℕ} (N : ℕ) (h : lo ≤ hi) :
    Mx l lo (hi + N) = max (Mx l lo hi) (Finset.univ.fold max ⊥ fun k : Fin N => l (hi + k)) := by
  rw [fold_eq_sup, ← sup_block]
  unfold Mx
  rw [← Finset.Ico_union_Ico_eq_Ico h (Nat.le_add_right hi N), Finset.sup_union]

theorem Mx_mono (l : ℕ → EReal) {lo hi hi' : ℕ} (h : hi ≤ hi') : Mx l lo hi ≤ Mx l lo hi' :=
  Finset.sup_mono (Finset.Ico_subset_Ico_right h)

theorem le_Mx (l : ℕ → EReal) {lo hi n : ℕ} (h : n ∈ Finset.Ico lo hi) : l n ≤ Mx l lo hi := Finset.le_sup h

/-- The weighted sum after one more block: the sum so far rescaled, plus the block's own. -/
theorem Ac_step (l V : ℕ → EReal) {lo hi : ℕ} (N : ℕ) (h : lo ≤ hi) :
    Ac l V lo (hi + N) = Ideal.exp2 (Mx l lo hi - Mx l lo (hi + N)) * Ac l V lo hi
      + ∑ k : Fin N, V (hi + k) * Ideal.exp2 (l (hi + k) - Mx l lo (hi + N)) := by
  have hm := Mx_mono l (lo := lo) (Nat.le_add_right hi N)
  unfold Ac
  rw [mul_sum _ (exp2_nonneg _) (exp2_sub_ne_top hm),
    ← Finset.sum_Ico_consecutive _ h (Nat.le_add_right hi N), sum_block _ hi N]
  congr 1
  · refine Finset.sum_congr rfl fun n hn => ?_
    rw [← mul_assoc, exp2_shift (le_Mx l hn) hm]
  · exact Finset.sum_congr rfl fun k _ => mul_comm _ _

/-- Where the logits outside `lo ≤ n < hi` are `⊥`, the whole range has the same largest logit. -/
theorem Mx_widen (l : ℕ → EReal) {lo hi N : ℕ} (h : hi ≤ N) (hb : ∀ n < N, (n < lo ∨ hi ≤ n) → l n = ⊥) :
    Mx l lo hi = Mx l 0 N := by
  refine le_antisymm (Finset.sup_mono (Finset.Ico_subset_Ico (Nat.zero_le _) h)) (Finset.sup_le fun n hn => ?_)
  rw [Finset.mem_Ico] at hn
  by_cases hc : n < lo ∨ hi ≤ n
  · rw [hb n hn.2 hc]; exact bot_le
  · exact le_Mx l (Finset.mem_Ico.mpr (by omega))

/-- Where the logits outside `lo ≤ n < hi` are `⊥`, the whole range has the same weighted sum. -/
theorem Ac_widen (l V : ℕ → EReal) {lo hi N : ℕ} (h : hi ≤ N) (hb : ∀ n < N, (n < lo ∨ hi ≤ n) → l n = ⊥) :
    Ac l V lo hi = Ac l V 0 N := by
  unfold Ac
  rw [Mx_widen l h hb]
  refine Finset.sum_subset (Finset.Ico_subset_Ico (Nat.zero_le _) h) fun n hn hn' => ?_
  rw [Finset.mem_Ico] at hn hn'
  rw [hb n hn.2 (by omega)]
  simp [sub_eq_add_neg]

/-- The natural exponential of a number that is not positive, times the logarithm of two, is the power of two. -/
theorem exp_log_two (x : EReal) (hx : x ≠ ⊤) : Ideal.exp (x * Ideal.log 2) = Ideal.exp2 x := by
  have h2 : Ideal.log 2 = ((Real.log 2 : ℝ) : EReal) := by
    rw [show (2 : EReal) = ((2 : ℝ) : EReal) from rfl, Ideal.log_coe]; norm_num
  have hp : (0 : ℝ) < Real.log 2 := Real.log_pos (by norm_num)
  rw [h2]
  induction x with
  | bot => rw [EReal.bot_mul_coe_of_pos hp]; rfl
  | top => exact absurd rfl hx
  | coe r =>
    rw [← EReal.coe_mul]
    show ((Real.exp _ : ℝ) : EReal) = ((Real.rpow 2 r : ℝ) : EReal)
    congr 1
    show _ = (2 : ℝ) ^ r
    rw [Real.rpow_def_of_pos (by norm_num), mul_comm]

end Cert.Online
-- ==== Proof.Attn.lean ====
/- The attention that the kernel and the reference are both shown to compute, over the arrays as functions of their
   indices. -/
module

public import proofs.«01_k».proof.Proof.Online

@[expose] public section

noncomputable section

namespace Cert.FoxAttn

open Idealize.ShloMosaic Cert.Online

/-- Key `n` is kept by query `j` of tile `q` under the plan's word `w`: it is not past the query, and it is in the
    query's tile, or past the word's first tile, or in that tile and not dropped by the word's edge. -/
def Kept (w q j n : ℕ) : Prop :=
  n ≤ 1024 * q + j ∧ (n / 1024 = q ∨ (w / 4 < q ∧ (w / 4 < n / 1024 ∨ (n / 1024 = w / 4 ∧
    (w % 4 = 0 ∨ j / 256 + w % 4 ≤ n % 1024 / 256 + 1)))))

section
variable (k : Fin 8192 → Fin 128 → EReal) (qj : Fin 128 → EReal) (v : Fin 16 → Fin 80 → Fin 512 → EReal)

/-- Key `n` at coordinate `d`. -/
def keyOf (n : ℕ) (d : Fin 128) : EReal := if h : n < 8192 then k ⟨n, h⟩ d else 0

/-- Row `r` of the values at key `n`. -/
def valOf (r : Fin 80) (n : ℕ) : EReal := if h : n < 8192 then v ⟨n / 512, by omega⟩ r ⟨n % 512, by omega⟩ else 0

open Classical in
/-- The logit of the query and key `n`, `⊥` where the key is not kept. -/
def logit (w q j n : ℕ) : EReal := if Kept w q j n then ∑ d : Fin 128, keyOf k n d * qj d else ⊥
end

/-- The attention at batch `b`, head `h`, row `r` and query `j`: the row's weighted sum over row 64's, times the gate. -/
def attn (plan : Fin 128 → BitVec 32) (qt : Fin 2 → Fin 8 → Fin 128 → Fin 8192 → EReal) (k : Fin 2 → Fin 8 → Fin 8192 → Fin 128 → EReal)
    (vt : Fin 2 → Fin 8 → Fin 16 → Fin 80 → Fin 512 → EReal) (gt : Fin 2 → Fin 8 → Fin 64 → Fin 8192 → EReal)
    (b : Fin 2) (h : Fin 8) (r : Fin 64) (j : Fin 8192) : EReal :=
  Ideal.div
    (Ac (logit (k b h) (fun d => qt b h d j) (plan ⟨64 * b.val + 8 * h.val + j.val / 1024, by omega⟩).toNat (j.val / 1024) (j.val % 1024))
      (valOf (vt b h) ⟨r.val, by omega⟩) 0 8192)
    (Ac (logit (k b h) (fun d => qt b h d j) (plan ⟨64 * b.val + 8 * h.val + j.val / 1024, by omega⟩).toNat (j.val / 1024) (j.val % 1024))
      (valOf (vt b h) 64) 0 8192)
  * gt b h r j

/-- The weighted sum over a range depends on the logits in it alone. -/
theorem Ac_congr {l l' V : ℕ → EReal} {lo hi : ℕ} (h : ∀ n, lo ≤ n → n < hi → l n = l' n) : Ac l V lo hi = Ac l' V lo hi := by
  have e : Mx l lo hi = Mx l' lo hi := Finset.sup_congr rfl fun n hn => h n (Finset.mem_Ico.mp hn).1 (Finset.mem_Ico.mp hn).2
  unfold Ac
  rw [e]
  exact Finset.sum_congr rfl fun n hn => by rw [h n (Finset.mem_Ico.mp hn).1 (Finset.mem_Ico.mp hn).2]

/-- A range holding every kept key, and no key that is dropped though not past the query, gives the whole sum. -/
theorem Ac_kept {k : Fin 8192 → Fin 128 → EReal} {qj : Fin 128 → EReal} {V : ℕ → EReal} {w q j lo hi : ℕ} {l : ℕ → EReal} (hhi : hi ≤ 8192)
    (hl : ∀ n, l n = if n ≤ 1024 * q + j then ∑ d : Fin 128, keyOf k n d * qj d else ⊥)
    (hin : ∀ n, lo ≤ n → n < hi → (Kept w q j n ↔ n ≤ 1024 * q + j)) (hout : ∀ n, (n < lo ∨ hi ≤ n) → ¬ Kept w q j n) :
    Ac l V lo hi = Ac (logit k qj w q j) V 0 8192 := by
  rw [← Ac_widen (logit k qj w q j) V hhi fun n _ h => by unfold logit; rw [if_neg (hout n h)]]
  refine Ac_congr fun n h1 h2 => ?_
  rw [hl n]
  unfold logit
  by_cases h : n ≤ 1024 * q + j
  · rw [if_pos h, if_pos ((hin n h1 h2).mpr h)]
  · rw [if_neg h, if_neg fun hk => h ((hin n h1 h2).mp hk)]

end Cert.FoxAttn

end
-- ==== Proof.Words.lean ====
/- The plan's word as the kernel takes it apart: `4 * first + edge`, by signed division and remainder with the
   corrections toward the floor that do nothing to a word that is not negative. -/
module

public import Idealize.ShloMosaic.PureOps
public import Idealize.ShloMosaic.Run
public import Idealize.ShloMosaic.Lib.Scf

@[expose] public section

namespace Cert.FoxWords

open Idealize.ShloMosaic

/-- The word's first tile, as the kernel computes it. -/
abbrev firstW (w : BitVec 32) : BitVec 32 :=
  Scalar.select (Scalar.andi (Scalar.cmpi .ne (Scalar.subi (Scalar.extui (Scalar.cmpi .sgt w 0#32)) (Scalar.extui (Scalar.cmpi .slt w 0#32)))
      (Scalar.subi (Scalar.extui (Scalar.cmpi .sgt 4#32 0#32)) (Scalar.extui (Scalar.cmpi .slt 4#32 0#32))))
    (Scalar.cmpi .ne (Scalar.remsi w 4#32) 0#32)) (Scalar.subi (Scalar.divsi w 4#32) 1#32) (Scalar.divsi w 4#32)

/-- The word's edge, as the kernel computes it. -/
abbrev edgeW (w : BitVec 32) : BitVec 32 :=
  Scalar.select (Scalar.andi (Scalar.xori (Scalar.cmpi .slt (Scalar.remsi w (Scalar.select (Scalar.cmpi .eq 4#32 0#32) 1#32 4#32)) 0#32)
      (Scalar.cmpi .slt (Scalar.select (Scalar.cmpi .eq 4#32 0#32) 1#32 4#32) 0#32))
    (Scalar.cmpi .ne (Scalar.remsi w (Scalar.select (Scalar.cmpi .eq 4#32 0#32) 1#32 4#32)) 0#32))
    (Scalar.addi (Scalar.remsi w (Scalar.select (Scalar.cmpi .eq 4#32 0#32) 1#32 4#32)) (Scalar.select (Scalar.cmpi .eq 4#32 0#32) 1#32 4#32))
    (Scalar.remsi w (Scalar.select (Scalar.cmpi .eq 4#32 0#32) 1#32 4#32))

variable {w : BitVec 32}

theorem msb_false (h : w.toNat < 2 ^ 31) : w.msb = false := by
  rw [BitVec.msb_eq_decide]; simp; omega

theorem corner (w : BitVec 32) : ¬ IntOp.SDivCorner w 4#32 := by
  unfold IntOp.SDivCorner; simp

theorem divsi_eq (h : w.toNat < 2 ^ 31) : Scalar.divsi w 4#32 = BitVec.ofNat 32 (w.toNat / 4) := by
  unfold Scalar.divsi IntOp.divsi
  rw [if_neg (corner w), BitVec.sdiv_eq, msb_false h]
  apply BitVec.eq_of_toNat_eq
  simp [BitVec.msb_eq_decide]
  omega

theorem remsi_eq (h : w.toNat < 2 ^ 31) : Scalar.remsi w 4#32 = BitVec.ofNat 32 (w.toNat % 4) := by
  unfold Scalar.remsi IntOp.remsi
  rw [if_neg (corner w), BitVec.srem_eq, msb_false h]
  apply BitVec.eq_of_toNat_eq
  simp [BitVec.msb_eq_decide]
  omega

theorem slt_zero (h : w.toNat < 2 ^ 31) : Scalar.cmpi .slt w 0#32 = 0#1 := by
  unfold Scalar.cmpi IntOp.cmpi
  have : w.slt 0#32 = false := by rw [BitVec.slt_zero_eq_msb, msb_false h]
  simp [this]

theorem firstW_eq (h : w.toNat < 2 ^ 31) : firstW w = BitVec.ofNat 32 (w.toNat / 4) := by
  unfold firstW
  rw [slt_zero h, remsi_eq h, divsi_eq h]
  by_cases h0 : w = 0#32
  · subst h0; decide
  · have hs : Scalar.cmpi .sgt w 0#32 = 1#1 := by
      unfold Scalar.cmpi IntOp.cmpi
      have : (0#32).slt w = true := by
        rw [BitVec.slt_iff_toInt_lt, BitVec.toInt_eq_toNat_of_lt (x := w) (by omega)]
        have : w.toNat ≠ 0 := fun hc => h0 (BitVec.eq_of_toNat_eq (by simpa using hc))
        simp; omega
      simp [this]
    rw [hs]
    have : Scalar.cmpi .ne (Scalar.subi (Scalar.extui 1#1) (Scalar.extui 0#1))
      (Scalar.subi (Scalar.extui (Scalar.cmpi .sgt 4#32 0#32)) (Scalar.extui (Scalar.cmpi .slt 4#32 0#32))) = 0#1 := by decide
    rw [this]
    unfold Scalar.select Scalar.andi IntOp.andi
    simp

theorem edgeW_eq (h : w.toNat < 2 ^ 31) : edgeW w = BitVec.ofNat 32 (w.toNat % 4) := by
  have h4 : Scalar.select (Scalar.cmpi .eq 4#32 0#32) 1#32 4#32 = 4#32 := by decide
  unfold edgeW
  rw [h4, remsi_eq h]
  have : w.toNat % 4 < 4 := Nat.mod_lt _ (by decide)
  generalize w.toNat % 4 = e at this
  revert e; decide

/-- The first tile is not below the query's tile exactly where the signed comparison says so. -/
theorem sge_first {q : Nat} (hq : q < 2 ^ 31) {i : Nat} (hi : i < 8) :
    Scalar.cmpi .sge (BitVec.ofNat 32 q) (BitVec.ofNat 32 i) = if i ≤ q then 1#1 else 0#1 := by
  unfold Scalar.cmpi IntOp.cmpi
  have : (BitVec.ofNat 32 i).sle (BitVec.ofNat 32 q) = decide (i ≤ q) := by
    rw [Bool.eq_iff_iff, BitVec.sle_iff_toInt_le, decide_eq_true_iff, BitVec.toInt_eq_toNat_of_lt (by simp; omega), BitVec.toInt_eq_toNat_of_lt (by simp; omega)]
    simp; omega
  simp only [this]
  split <;> rename_i h <;> simp [h]

/-- The loop's bounds: the trips from the tile after the first to the query's own, none where the first is not below. -/
theorem trips_eq {q : Nat} (hq : q < 2 ^ 30) {i : Nat} (hi : i < 8) :
    Scf.trips (Scalar.addi (BitVec.ofNat 32 q) 1#32)
      (Scalar.addi (Scalar.addi (BitVec.ofNat 32 q) 1#32) (Scalar.muli (Scalar.divsi (Scalar.subi (BitVec.ofNat 32 i) (Scalar.addi (BitVec.ofNat 32 q) 1#32)) 1#32) 1#32)) 1#32
      = i - (q + 1) := by
  have hd : ∀ x : BitVec 32, Scalar.divsi x 1#32 = x := fun x => by
    unfold Scalar.divsi IntOp.divsi
    rw [if_neg (by unfold IntOp.SDivCorner; simp)]
    simp
  rw [hd]
  have e1 : Scalar.addi (BitVec.ofNat 32 q) 1#32 = BitVec.ofNat 32 (q + 1) := by
    apply BitVec.eq_of_toNat_eq; simp [Scalar.addi, IntOp.addi]
  have e2 : Scalar.addi (BitVec.ofNat 32 (q + 1)) (Scalar.muli (Scalar.subi (BitVec.ofNat 32 i) (BitVec.ofNat 32 (q + 1))) 1#32) = BitVec.ofNat 32 i := by
    unfold Scalar.addi Scalar.muli Scalar.subi IntOp.addi IntOp.muli IntOp.subi
    rw [BitVec.mul_one, BitVec.add_comm, BitVec.sub_add_cancel]
  rw [e1, e2]
  unfold Scf.trips
  rw [BitVec.toInt_eq_toNat_of_lt (by simp; omega), BitVec.toInt_eq_toNat_of_lt (by simp; omega)]
  simp
  omega

end Cert.FoxWords
-- ==== Proof.RefMask.lean ====
/- The reference's mask at an index: a key is kept exactly where the plan's word keeps it. -/
module

public import proofs.«01_k».proof.Proof.Gen.ReferenceIdeal.Read
public import proofs.«01_k».proof.Proof.Attn
public import proofs.«01_k».proof.Proof.Words
public import Idealize.ShloMosaic.Lib.WordCmp

@[expose] public section

set_option maxRecDepth 16384

noncomputable section

namespace Cert.ReferenceIdeal.Fox

open Idealize.ShloMosaic Cert.ReferenceIdeal Cert.ReferenceIdeal.Read Idealize.ShloMosaic.WordCmp
open Cert.FoxAttn Cert.FoxWords

/-- The host's signed quotient of two small words is the quotient of the numbers. -/
theorem hdiv {a b : ℕ} (ha : a < 2 ^ 31) (hb : 0 < b) (hb' : b < 2 ^ 31) :
    IntOp.divsi .host (BitVec.ofNat 32 a) (BitVec.ofNat 32 b) = BitVec.ofNat 32 (a / b) := by
  have ea : (BitVec.ofNat 32 a).toNat = a := by simp; omega
  have eb : (BitVec.ofNat 32 b).toNat = b := by simp; omega
  have hc : ¬ IntOp.SDivCorner (BitVec.ofNat 32 a) (BitVec.ofNat 32 b) := by
    unfold IntOp.SDivCorner
    rintro (h | h)
    · have := congrArg BitVec.toNat h; rw [eb] at this; simp at this; omega
    · have := congrArg BitVec.toNat h.2; rw [eb] at this; simp at this; omega
  unfold IntOp.divsi
  rw [if_neg hc, BitVec.sdiv_eq, msb_false (by rw [ea]; exact ha), msb_false (by rw [eb]; exact hb')]
  apply BitVec.eq_of_toNat_eq
  have := Nat.div_le_self a b
  simp only [BitVec.udiv_eq, BitVec.toNat_udiv, ea, eb]
  rw [BitVec.toNat_ofNat, Nat.mod_eq_of_lt (lt_of_le_of_lt this (lt_trans ha (by norm_num)))]

/-- The host's signed remainder of two small words is the remainder of the numbers. -/
theorem hrem {a b : ℕ} (ha : a < 2 ^ 31) (hb : 0 < b) (hb' : b < 2 ^ 31) :
    IntOp.remsi .host (BitVec.ofNat 32 a) (BitVec.ofNat 32 b) = BitVec.ofNat 32 (a % b) := by
  have ea : (BitVec.ofNat 32 a).toNat = a := by simp; omega
  have eb : (BitVec.ofNat 32 b).toNat = b := by simp; omega
  have hc : ¬ IntOp.SDivCorner (BitVec.ofNat 32 a) (BitVec.ofNat 32 b) := by
    unfold IntOp.SDivCorner
    rintro (h | h)
    · have := congrArg BitVec.toNat h; rw [eb] at this; simp at this; omega
    · have := congrArg BitVec.toNat h.2; rw [eb] at this; simp at this; omega
  unfold IntOp.remsi
  rw [if_neg hc, BitVec.srem_eq, msb_false (by rw [ea]; exact ha), msb_false (by rw [eb]; exact hb')]
  apply BitVec.eq_of_toNat_eq
  have := Nat.mod_le a b
  simp only [BitVec.umod_eq, BitVec.toNat_umod, ea, eb]
  rw [BitVec.toNat_ofNat, Nat.mod_eq_of_lt (lt_of_le_of_lt this (lt_trans ha (by norm_num)))]

theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide

/-- The comparison of two differences of words below four is that of the numbers. -/
theorem ahead_fin : ∀ x y e : Fin 4, IntOp.cmpi .sge (IntOp.subi (BitVec.ofNat 32 x.val) (BitVec.ofNat 32 y.val))
    (IntOp.subi (BitVec.ofNat 32 e.val) 1#32) = 1#1 ↔ y.val + e.val ≤ x.val + 1 := by decide

theorem ahead {x y e : ℕ} (hx : x < 4) (hy : y < 4) (he : e < 4) : IntOp.cmpi .sge (IntOp.subi (BitVec.ofNat 32 x) (BitVec.ofNat 32 y))
    (IntOp.subi (BitVec.ofNat 32 e) 1#32) = 1#1 ↔ y + e ≤ x + 1 := ahead_fin ⟨x, hx⟩ ⟨y, hy⟩ ⟨e, he⟩

/-- The plan's word the mask reads. -/
theorem word_at (x0 : (⟨S128, .i32⟩ : BufTy).Contents (Elt Ideal)) (b : Fin 2) (h : Fin 8) (n j : Fin 8192) :
    val_main_v5 (F := Ideal) x0 (ix4 b h n j) = x0 (ix1 (⟨64 * b.val + 8 * h.val + j.val / 1024, by omega⟩ : Fin 128)) := by
  rw [val_main_v5_apply, val_main_v4_apply, val_main_v3_apply]
  refine congrArg x0 (funext fun a => ?_)
  match a with
  | ⟨0, _⟩ =>
    apply Fin.ext
    have hb := b.isLt
    have hh := h.isLt
    have hn := n.isLt
    have hj := j.isLt
    simp [ix4, ix1]
    omega

/-- The mask at batch `b`, head `h`, key `n` and query `j` is set exactly where the plan's word keeps the key. -/
theorem mask_at (x0 : (⟨S128, .i32⟩ : BufTy).Contents (Elt Ideal)) (b : Fin 2) (h : Fin 8) (n j : Fin 8192)
    (hw : (x0 (ix1 (⟨64 * b.val + 8 * h.val + j.val / 1024, by omega⟩ : Fin 128))).toNat < 2 ^ 31) :
    val_main_v38 (F := Ideal) x0 (ix4 b h n j) = 1#1
      ↔ Kept (x0 (ix1 (⟨64 * b.val + 8 * h.val + j.val / 1024, by omega⟩ : Fin 128))).toNat (j.val / 1024) (j.val % 1024) n.val := by
  have hn := n.isLt
  have hj := j.isLt
  have hv5 := word_at x0 b h n j
  generalize x0 (ix1 (⟨64 * b.val + 8 * h.val + j.val / 1024, by omega⟩ : Fin 128)) = w at hw hv5 ⊢
  have hv5' : val_main_v5 (F := Ideal) x0 (ix4 b h n j) = BitVec.ofNat 32 w.toNat := by rw [hv5]; simp
  have h1 : val_main_v1 (F := Ideal) (ix4 b h n j) = BitVec.ofNat 32 n.val := rfl
  have h2 : val_main_v2 (F := Ideal) (ix4 b h n j) = BitVec.ofNat 32 j.val := rfl
  have h7 : val_main_v7 (F := Ideal) x0 (ix4 b h n j) = BitVec.ofNat 32 (w.toNat / 4) := by
    rw [val_main_v7_apply, hv5', val_main_v6_apply, val_main_c_apply]; exact hdiv hw (by omega) (by omega)
  have h9 : val_main_v9 (F := Ideal) x0 (ix4 b h n j) = BitVec.ofNat 32 (w.toNat % 4) := by
    rw [val_main_v9_apply, hv5', val_main_v8_apply, val_main_c_0_apply]; exact hrem hw (by omega) (by omega)
  have h11 : val_main_v11 (F := Ideal) (ix4 b h n j) = BitVec.ofNat 32 (n.val / 1024) := by
    rw [val_main_v11_apply, h1, val_main_v10_apply, val_main_c_1_apply]; exact hdiv (by omega) (by omega) (by omega)
  have h13 : val_main_v13 (F := Ideal) (ix4 b h n j) = BitVec.ofNat 32 (j.val / 1024) := by
    rw [val_main_v13_apply, h2, val_main_v12_apply, val_main_c_2_apply]; exact hdiv (by omega) (by omega) (by omega)
  have h15 : val_main_v15 (F := Ideal) (ix4 b h n j) = BitVec.ofNat 32 (n.val % 1024) := by
    rw [val_main_v15_apply, h1, val_main_v14_apply, val_main_c_3_apply]; exact hrem (by omega) (by omega) (by omega)
  have h17 : val_main_v17 (F := Ideal) (ix4 b h n j) = BitVec.ofNat 32 (n.val % 1024 / 256) := by
    rw [val_main_v17_apply, h15, val_main_v16_apply, val_main_c_4_apply]; exact hdiv (by omega) (by omega) (by omega)
  have h19 : val_main_v19 (F := Ideal) (ix4 b h n j) = BitVec.ofNat 32 (j.val % 1024) := by
    rw [val_main_v19_apply, h2, val_main_v18_apply, val_main_c_5_apply]; exact hrem (by omega) (by omega) (by omega)
  have h21 : val_main_v21 (F := Ideal) (ix4 b h n j) = BitVec.ofNat 32 (j.val % 1024 / 256) := by
    rw [val_main_v21_apply, h19, val_main_v20_apply, val_main_c_6_apply]; exact hdiv (by omega) (by omega) (by omega)
  have h23 : val_main_v23 (F := Ideal) x0 (ix4 b h n j) = 1#1 ↔ n.val / 1024 = w.toNat / 4 := by
    rw [val_main_v23_apply, h11, h7]; exact cmpi_eq_ofNat_eq_one_iff (by omega) (by omega)
  have h25 : val_main_v25 (F := Ideal) x0 (ix4 b h n j) = 1#1 ↔ w.toNat % 4 = 0 := by
    rw [val_main_v25_apply, h9, val_main_v24_apply, val_main_c_7_apply]; exact cmpi_eq_ofNat_eq_one_iff (by omega) (by omega)
  have h28 : val_main_v28 (F := Ideal) x0 (ix4 b h n j) = 1#1 ↔ j.val % 1024 / 256 + w.toNat % 4 ≤ n.val % 1024 / 256 + 1 := by
    rw [val_main_v28_apply, val_main_v22_apply, val_main_v27_apply, h17, h21, h9, val_main_v26_apply, val_main_c_8_apply]
    exact ahead (by omega) (by omega) (by omega)
  have h31 : val_main_v31 (F := Ideal) (ix4 b h n j) = 1#1 ↔ n.val ≤ j.val := by
    rw [val_main_v31_apply, h1, h2]; exact cmpi_sle_ofNat_eq_one_iff (by omega) (by omega)
  have h32 : val_main_v32 (F := Ideal) (ix4 b h n j) = 1#1 ↔ n.val / 1024 = j.val / 1024 := by
    rw [val_main_v32_apply, h11, h13]; exact cmpi_eq_ofNat_eq_one_iff (by omega) (by omega)
  have h33 : val_main_v33 (F := Ideal) x0 (ix4 b h n j) = 1#1 ↔ w.toNat / 4 < j.val / 1024 := by
    rw [val_main_v33_apply, h7, h13]; exact cmpi_slt_ofNat_eq_one_iff (by omega) (by omega)
  have h34 : val_main_v34 (F := Ideal) x0 (ix4 b h n j) = 1#1 ↔ w.toNat / 4 < n.val / 1024 := by
    rw [val_main_v34_apply, h7, h11]; exact cmpi_sgt_ofNat_eq_one_iff (by omega) (by omega)
  rw [val_main_v38_apply, andi_one, h31, val_main_v37_apply, ori_one, h32, val_main_v36_apply, andi_one, h33, val_main_v35_apply,
    ori_one, h34, val_main_v30_apply, andi_one, h23, val_main_v29_apply, ori_one, h25, h28]
  unfold Kept
  rw [Nat.div_add_mod j.val 1024]

end Cert.ReferenceIdeal.Fox

end
-- ==== Proof.Ideal.Kit.lean ====
/- The launch of the attention call, seen from its body: where the pipeline fetches each window, what each
   staging buffer holds at a point, and the plan's words as the body reads them. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Kit
public import Idealize.ShloMosaic.Lib.Pipeline.FrameBody
public import Idealize.ShloMosaic.Lib.Tactic

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ)

/-- The body at point `t`, on the staging memrefs the pipeline hands it. -/
abbrev bodyAt (a : (pcfg0 (F := F)).Adm) (t : Fin (cfg0 a).N) : Prog (TpuEff nD τ sig (Elt F) Λ₀ .tc) PUnit :=
  cc0_fox_attention (grid0.coords t) (Memref.whole main_arg0) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))

/-- What a core's buffers hold when the region is entered: what they were launched with. -/
abbrev V (c : Dev nD) (b : Ref sig .tc) : Buf (Elt F) ((c : Thread nD τ).loc b) := m ((c : Thread nD τ).loc b)

set_option maxHeartbeats 800000 in
/-- `main` is the region alone. -/
theorem region (𝒱₀ : Variants) :
    Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The plan's words at launch. -/
def words : pre0.Contents (Elt F) := fun j => V m (0 : Dev nD) (pre0.ref j)

theorem V_words (c : Dev nD) (j : Fin 1) : V m c (pre0.ref j) = words m j := by
  obtain rfl : c = 0 := Subsingleton.elim _ _
  rfl

/-- No window's index map reads the plan, so its words are admissible whatever they are. -/
abbrev adm : (pcfg0 (F := F)).Adm := ⟨words m, trivial⟩

/-- The pipeline at the launched plan. -/
abbrev pipe : Pipeline.Cfg sig Λ₀ := cfg0 (adm m)

/-- The plan as the body is handed it. -/
abbrev planM : Memref sig .tc .smem S128 .i32 := Memref.whole main_arg0
abbrev planM_whole : planM.IsWhole := Memref.isWhole_whole _

abbrev PlanBuf (c : Dev nD) {S : Shape} {e : EltTy} (M : Memref sig .tc .smem S e) : Type :=
  Buf (Elt F) (M.view.loc (c : Thread nD τ))
/-- The body's read-only half of the plan. -/
abbrev planPt (c : Dev nD) {S : Shape} {e : EltTy} (M : Memref sig .tc .smem S e) (f : PlanBuf (F := F) c M) : sProp 𝕄 :=
  M.view.loc (c : Thread nD τ) ↦{fullShare.right} f

theorem tables_eq (c : Dev nD) : (Pipeline.ΦT pre0 (words m) c : sProp 𝕄) = iprop(planPt c planM (words m 0)) := by
  unfold Pipeline.ΦT Pipeline.prefHeld
  rw [show (Finset.univ : Finset (Fin 1)) = {(0 : Fin 1)} from by decide, bigSep_singleton]
  rfl

/-- The block of window `w` at point `t`, in the array as launched. -/
def blockAt (c : Dev nD) (w : Fin (pipe m).W) (t : Fin (pipe m).N) :
    (((pipe m).win w).xblock ((pipe m).grid.coords t)).Idx → Elt F ((pipe m).win w).elt :=
  (((pipe m).win w).blk t).view.read (Elt F) (V m c (Pipeline.arrRef spec0 w))

section inputs
variable {c : Dev nD} (dat : Dat τ (Elt F) Unit ℕ (UR sig nD τ) ℕ (pipe m) c)

/-! An input's staging buffer holds its block before the body at every point, whenever the body leaves it there. -/

theorem held_0 (hA : dat.A 0 = V m c (Pipeline.arrRef spec0 0)) (h : ∀ t, dat.after 0 t = blockAt m c 0 t)
    (t : Fin (pipe m).N) (d) : dat.before 0 t d = blockAt m c 0 t :=
  (dat.before_in_eq_fetched 0 rfl (fun _ => rfl) (fun _ _ _ => rfl)
      (fun t => by rw [h]; unfold Dat.blockOf blockAt; rw [hA]; try rfl) t d).trans
    (by unfold Dat.fetched Dat.blockOf blockAt; rw [hA]; try rfl)
theorem held_1 (hA : dat.A 1 = V m c (Pipeline.arrRef spec0 1)) (h : ∀ t, dat.after 1 t = blockAt m c 1 t)
    (t : Fin (pipe m).N) (d) : dat.before 1 t d = blockAt m c 1 t :=
  (dat.before_in_eq_fetched 1 rfl (fun _ => rfl) (fun _ _ _ => rfl)
      (fun t => by rw [h]; unfold Dat.blockOf blockAt; rw [hA]; try rfl) t d).trans
    (by unfold Dat.fetched Dat.blockOf blockAt; rw [hA]; try rfl)
theorem held_2 (hA : dat.A 2 = V m c (Pipeline.arrRef spec0 2)) (h : ∀ t, dat.after 2 t = blockAt m c 2 t)
    (t : Fin (pipe m).N) (d) : dat.before 2 t d = blockAt m c 2 t :=
  (dat.before_in_eq_fetched 2 rfl (fun _ => rfl) (fun _ _ _ => rfl)
      (fun t => by rw [h]; unfold Dat.blockOf blockAt; rw [hA]; try rfl) t d).trans
    (by unfold Dat.fetched Dat.blockOf blockAt; rw [hA]; try rfl)
theorem held_3 (hA : dat.A 3 = V m c (Pipeline.arrRef spec0 3)) (h : ∀ t, dat.after 3 t = blockAt m c 3 t)
    (t : Fin (pipe m).N) (d) : dat.before 3 t d = blockAt m c 3 t :=
  (dat.before_in_eq_fetched 3 rfl (fun _ => rfl) (fun _ _ _ => rfl)
      (fun t => by rw [h]; unfold Dat.blockOf blockAt; rw [hA]; try rfl) t d).trans
    (by unfold Dat.fetched Dat.blockOf blockAt; rw [hA]; try rfl)

end inputs

/-- Each window's staging memref at point `t`, and that it is whole. -/
abbrev mem_0 (t : Fin (pipe m).N) : Memref sig .tc .vmem S1x1x128x1024 .bf16 := spec0_0.stage ((pipe m).slots t 0)
abbrev whole_0 (t : Fin (pipe m).N) : (mem_0 m t).IsWhole := hstage0_0 (((pipe m).slots t 0).cast nbuf0_0)
abbrev mem_1 (t : Fin (pipe m).N) : Memref sig .tc .vmem S1x1x8192x128 .bf16 := spec0_1.stage ((pipe m).slots t 1)
abbrev whole_1 (t : Fin (pipe m).N) : (mem_1 m t).IsWhole := hstage0_1 (((pipe m).slots t 1).cast nbuf0_1)
abbrev mem_2 (t : Fin (pipe m).N) : Memref sig .tc .vmem S1x1x16x80x512 .bf16 := spec0_2.stage ((pipe m).slots t 2)
abbrev whole_2 (t : Fin (pipe m).N) : (mem_2 m t).IsWhole := hstage0_2 (((pipe m).slots t 2).cast nbuf0_2)
abbrev mem_3 (t : Fin (pipe m).N) : Memref sig .tc .vmem S1x1x64x1024 .bf16 := spec0_3.stage ((pipe m).slots t 3)
abbrev whole_3 (t : Fin (pipe m).N) : (mem_3 m t).IsWhole := hstage0_3 (((pipe m).slots t 3).cast nbuf0_3)
abbrev mem_4 (t : Fin (pipe m).N) : Memref sig .tc .vmem S1x1x64x1024 .bf16 := spec0_4.stage ((pipe m).slots t 4)
abbrev whole_4 (t : Fin (pipe m).N) : (mem_4 m t).IsWhole := hstage0_4 (((pipe m).slots t 4).cast nbuf0_4)

/-- The plan's word of the point `i`, as the body loads it. -/
abbrev wordAt (c : Dev nD) (i : grid0.Coords) (xt : PlanBuf (F := F) c planM) : BitVec 32 :=
  planM.view.readAt (Elt F) (Rect.unit (s := S128) (k0_off1 i) S1.size (k0_off1_inb i)).toLoadRect xt
    (Shape.Idx.first (numel1_S1.symm ▸ Nat.one_pos))

/-- What the body assumes of the plan's word, at every point. -/
def WordsOk : Prop := ∀ (c : Dev nD) (t : Fin (pipe m).N), k0_chk1 (grid0.coords t) (wordAt (F := F) c (grid0.coords t) (words m 0))

end Cert.KernelIdeal.Fox

end
-- ==== Proof.Ideal.Chk.lean ====
/- What the kernel assumes of the plan's words holds of every word that is not negative; the conditions of its
   five-way branch in terms of the word's first tile and edge. -/
module

public import proofs.«01_k».proof.Proof.Ideal.Kit
public import proofs.«01_k».proof.Proof.Words
public import Idealize.ShloMosaic.Lib.LoopRemainder

@[expose] public section

set_option maxRecDepth 16384

noncomputable section

namespace Cert.KernelIdeal.Fox

open Cert.KernelIdeal.Gen
open Idealize.ShloMosaic Idealize.ShloMosaic.TcCoe
open Cert.FoxWords

theorem dvd1024 (x : BitVec 32) : 1024 ∣ (Scalar.muli x 1024#32).toNat := by
  unfold Scalar.muli IntOp.muli
  rw [BitVec.toNat_mul]
  simp; omega

theorem keyLe {x c : BitVec 32} (hx : x.toNat < 8) (hc : c.toNat ≤ 768) : ∀ a,
    (![0, 0, (Scalar.indexCast (Scalar.addi (Scalar.muli x 1024#32) c)).toNat, 0] : Fin 4 → Nat) a + S1x1x256x128.size a ≤ S1x1x8192x128.size a := by
  have : (Scalar.indexCast (Scalar.addi (Scalar.muli x 1024#32) c)).toNat ≤ 7936 := by
    unfold Scalar.indexCast Scalar.addi Scalar.muli IntOp.addi IntOp.muli
    rw [BitVec.toNat_add, BitVec.toNat_mul]
    simp; omega
  intro a
  fin_cases a <;> simp [S1x1x256x128, S1x1x8192x128]
  omega

theorem valLe {x c : BitVec 32} (o : Nat) (ho : o ≤ 256) (hx : x.toNat < 8) (hc : c.toNat ≤ 1) : ∀ a,
    (![0, 0, (Scalar.indexCast (Scalar.addi (Scalar.muli x 2#32) c)).toNat, 0, o] : Fin 5 → Nat) a + S1x1x1x80x256.size a ≤ S1x1x16x80x512.size a := by
  have : (Scalar.indexCast (Scalar.addi (Scalar.muli x 2#32) c)).toNat ≤ 15 := by
    unfold Scalar.indexCast Scalar.addi Scalar.muli IntOp.addi IntOp.muli
    rw [BitVec.toNat_add, BitVec.toNat_mul]
    simp; omega
  intro a
  fin_cases a <;> simp [S1x1x1x80x256, S1x1x16x80x512] <;> omega

theorem i2_lt (i : grid0.Coords) : (i 2).val < 8 := (i 2).isLt

variable {w : BitVec 32} (i : grid0.Coords)

theorem cond1_iff (hw : w.toNat < 2 ^ 31) : k0_cond1 i w = 1#1 ↔ w.toNat / 4 < (i 2).val := by
  show Scalar.cmpi .ne (Scalar.minsi (Scalar.maxsi (Scalar.select (Scalar.cmpi .sge (firstW w) (BitVec.ofNat 32 (i 2).val)) 0#32
    (Scalar.addi (edgeW w) 1#32)) 0#32) 4#32) 0#32 = 1#1 ↔ _
  rw [firstW_eq hw, edgeW_eq hw, sge_first (by omega) (i2_lt i)]
  split <;> rename_i h
  · refine ⟨fun hc => absurd hc ?_, fun hc => absurd hc (by omega)⟩
    have : w.toNat % 4 < 4 := Nat.mod_lt _ (by decide)
    generalize w.toNat % 4 = e at this
    revert e; decide
  · refine ⟨fun _ => by omega, fun _ => ?_⟩
    have : w.toNat % 4 < 4 := Nat.mod_lt _ (by decide)
    generalize w.toNat % 4 = e at this
    revert e; decide

theorem cond2_iff (hw : w.toNat < 2 ^ 31) (h1 : k0_cond1 i w = 1#1) : k0_cond2 i w = 1#1 ↔ 1 ≤ w.toNat % 4 := by
  have h := (cond1_iff i hw).mp h1
  show Scalar.cmpi .ne (Scalar.subi (Scalar.minsi (Scalar.maxsi (Scalar.select (Scalar.cmpi .sge (firstW w) (BitVec.ofNat 32 (i 2).val)) 0#32
    (Scalar.addi (edgeW w) 1#32)) 0#32) 4#32) 1#32) 0#32 = 1#1 ↔ _
  rw [firstW_eq hw, edgeW_eq hw, sge_first (by omega) (i2_lt i), if_neg (by omega)]
  have : w.toNat % 4 < 4 := Nat.mod_lt _ (by decide)
  generalize w.toNat % 4 = e at this
  revert e; decide

theorem cond3_iff (hw : w.toNat < 2 ^ 31) (h1 : k0_cond1 i w = 1#1) (h2 : k0_cond2 i w = 1#1) :
    k0_cond3 i w = 1#1 ↔ 2 ≤ w.toNat % 4 := by
  have h := (cond1_iff i hw).mp h1
  have h' := (cond2_iff i hw h1).mp h2
  revert h'
  show _ → (Scalar.cmpi .ne (Scalar.subi (Scalar.subi (Scalar.minsi (Scalar.maxsi (Scalar.select (Scalar.cmpi .sge (firstW w) (BitVec.ofNat 32 (i 2).val)) 0#32
    (Scalar.addi (edgeW w) 1#32)) 0#32) 4#32) 1#32) 1#32) 0#32 = 1#1 ↔ _)
  rw [firstW_eq hw, edgeW_eq hw, sge_first (by omega) (i2_lt i), if_neg (by omega)]
  have : w.toNat % 4 < 4 := Nat.mod_lt _ (by decide)
  generalize w.toNat % 4 = e at this
  revert e; decide

theorem cond4_iff (hw : w.toNat < 2 ^ 31) (h1 : k0_cond1 i w = 1#1) (h2 : k0_cond2 i w = 1#1) (h3 : k0_cond3 i w = 1#1) :
    k0_cond4 i w = 1#1 ↔ w.toNat % 4 = 3 := by
  have h := (cond1_iff i hw).mp h1
  have h' := (cond3_iff i hw h1 h2).mp h3
  revert h'
  show _ → (Scalar.cmpi .ne (Scalar.subi (Scalar.subi (Scalar.subi (Scalar.minsi (Scalar.maxsi (Scalar.select (Scalar.cmpi .sge (firstW w) (BitVec.ofNat 32 (i 2).val)) 0#32
    (Scalar.addi (edgeW w) 1#32)) 0#32) 4#32) 1#32) 1#32) 1#32) 0#32 = 1#1 ↔ _)
  rw [firstW_eq hw, edgeW_eq hw, sge_first (by omega) (i2_lt i), if_neg (by omega)]
  have : w.toNat % 4 < 4 := Nat.mod_lt _ (by decide)
  generalize w.toNat % 4 = e at this
  revert e; decide

/-- The loop over the tiles between the first and the query's own makes one trip for each. -/
theorem t1_trips (hw : w.toNat < 2 ^ 31) : (k0_t1_loop i w).trips = (i 2).val - (w.toNat / 4 + 1) := by
  show Scf.trips (Scalar.addi (firstW w) 1#32) (Scalar.addi (Scalar.addi (firstW w) 1#32)
    (Scalar.muli (Scalar.divsi (Scalar.subi (BitVec.ofNat 32 (i 2).val) (Scalar.addi (firstW w) 1#32)) 1#32) 1#32)) 1#32 = _
  rw [firstW_eq hw]
  exact trips_eq (by omega) (i2_lt i)

/-- Trip `t` of that loop is over tile `first + 1 + t`. -/
theorem iv_eq (hw : w.toNat < 2 ^ 31) (t : Nat) (ht : t < 8) :
    Scf.iv (Scalar.addi (firstW w) 1#32) 1#32 t = BitVec.ofNat 32 (w.toNat / 4 + 1 + t) := by
  rw [firstW_eq hw]
  unfold Scf.iv Scalar.addi IntOp.addi
  apply BitVec.eq_of_toNat_eq
  simp

theorem t1_ok (hw : w.toNat < 2 ^ 31) : (k0_t1_loop i w).OK := by
  refine ⟨show 0 < (1#32).toInt by decide, ?_⟩
  have ht := t1_trips i hw
  unfold Scf.Loop.trips at ht
  rw [ht]
  show (Scalar.addi (firstW w) 1#32).toInt + _ * (1#32).toInt < _
  rw [firstW_eq hw]
  have : (Scalar.addi (BitVec.ofNat 32 (w.toNat / 4)) 1#32).toInt = w.toNat / 4 + 1 := by
    unfold Scalar.addi IntOp.addi
    rw [BitVec.toInt_eq_toNat_of_lt (by rw [BitVec.toNat_add]; simp; omega), BitVec.toNat_add]
    simp; omega
  rw [this]
  have := i2_lt i
  simp; omega

theorem t2_trips : (k0_t2_loop i w).trips = 0 := Scf.rem_trips _ _
theorem t2_ok (hw : w.toNat < 2 ^ 31) : (k0_t2_loop i w).OK := Scf.rem_ok _ _

set_option maxHeartbeats 4000000 in
/-- The kernel's assumption, for a word that is not negative. -/
theorem chk_ok (hw : w.toNat < 2 ^ 31) : k0_chk1 i w := by
  have hi := i2_lt i
  have hF : k0_cond1 i w = 1#1 → (firstW w).toNat < 7 := fun h => by
    rw [firstW_eq hw]; have := (cond1_iff i hw).mp h; simp; omega
  have hF' : k0_cond1 i w = 1#1 → (Scalar.addi (firstW w) 1#32).toNat < 8 := fun h => by
    have := hF h; unfold Scalar.addi IntOp.addi; rw [BitVec.toNat_add]; simp; omega
  have hT : ∀ t : Fin (k0_t1_loop i w).trips, (Scf.iv (Scalar.addi (firstW w) 1#32) 1#32 t).toNat < 7 := fun t => by
    have := lt_of_lt_of_eq t.isLt (t1_trips i hw)
    rw [iv_eq hw t (by omega)]; simp; omega
  have hT' : ∀ t : Fin (k0_t1_loop i w).trips, (Scalar.addi (Scf.iv (Scalar.addi (firstW w) 1#32) 1#32 t) 1#32).toNat < 8 := fun t => by
    have := hT t; unfold Scalar.addi IntOp.addi at *; rw [BitVec.toNat_add]; simp; omega
  have no2 : ∀ k : Fin (k0_t2_loop i w).trips, False := fun k => Nat.not_lt_zero k.val (lt_of_lt_of_eq k.isLt (t2_trips i))
  refine ⟨?_, ?_, ?_, ?_⟩
  · unfold k0_chk1_0
    exact ⟨fun _ _ _ _ => dvd1024 _,
      fun h1 _ _ _ r => keyLe (Nat.lt_succ_of_lt (hF h1)) (by revert r; decide),
      fun _ _ _ _ => dvd1024 _,
      fun _ _ _ _ => dvd1024 _,
      fun _ _ _ _ => dvd1024 _,
      fun h1 _ _ _ => keyLe (hF' h1) (by decide),
      fun h1 _ _ _ => valLe 0 (by decide) (Nat.lt_succ_of_lt (hF h1)) (by decide),
      fun h1 _ _ _ => valLe 256 (by decide) (Nat.lt_succ_of_lt (hF h1)) (by decide),
      fun _ _ _ _ => dvd1024 _,
      fun h1 _ _ _ r => keyLe (Nat.lt_succ_of_lt (hF h1)) (by revert r; decide),
      fun _ _ _ _ => dvd1024 _,
      fun _ _ _ _ => dvd1024 _,
      fun _ _ _ _ => dvd1024 _,
      fun _ _ _ _ => dvd1024 _,
      fun _ _ _ _ => dvd1024 _,
      fun _ _ _ _ => dvd1024 _,
      fun h1 _ _ _ => keyLe (hF' h1) (by decide),
      fun h1 _ _ _ r => valLe 256 (by decide) (Nat.lt_succ_of_lt (hF h1)) (by revert r; decide),
      fun h1 _ _ _ => valLe 0 (by decide) (Nat.lt_succ_of_lt (hF h1)) (by decide),
      fun _ _ _ => dvd1024 _,
      fun h1 _ _ r => keyLe (Nat.lt_succ_of_lt (hF h1)) (by revert r; decide),
      fun _ _ _ => dvd1024 _,
      fun _ _ _ => dvd1024 _,
      fun _ _ _ => dvd1024 _,
      fun _ _ _ => dvd1024 _,
      fun _ _ _ => dvd1024 _,
      fun _ _ _ => dvd1024 _,
      fun _ _ _ => dvd1024 _,
      fun _ _ _ => dvd1024 _,
      fun h1 _ _ r => valLe 0 (by decide) (Nat.lt_succ_of_lt (hF h1)) (by revert r; decide),
      fun _ _ _ => dvd1024 _,
      fun h1 _ _ r => valLe 256 (by decide) (Nat.lt_succ_of_lt (hF h1)) (by revert r; decide)⟩
  · unfold k0_chk1_1
    exact ⟨fun _ _ _ => dvd1024 _,
      fun h1 _ _ => keyLe (hF' h1) (by decide),
      fun _ _ => dvd1024 _,
      fun h1 _ r => keyLe (Nat.lt_succ_of_lt (hF h1)) (by revert r; decide),
      fun _ _ => dvd1024 _,
      fun _ _ => dvd1024 _,
      fun _ _ => dvd1024 _,
      fun _ _ => dvd1024 _,
      fun _ _ => dvd1024 _,
      fun _ _ => dvd1024 _,
      fun _ _ => dvd1024 _,
      fun _ _ => dvd1024 _,
      fun h1 _ r => valLe 0 (by decide) (Nat.lt_succ_of_lt (hF h1)) (by revert r; decide),
      fun _ _ => dvd1024 _,
      fun _ _ => dvd1024 _,
      fun _ _ => dvd1024 _,
      fun _ _ => dvd1024 _,
      fun h1 _ r => valLe 256 (by decide) (Nat.lt_succ_of_lt (hF h1)) (by revert r; decide),
      fun _ _ => dvd1024 _,
      fun _ _ => dvd1024 _,
      fun _ _ => dvd1024 _,
      fun _ _ => dvd1024 _,
      fun h1 _ => keyLe (hF' h1) (by decide),
      t1_ok i hw,
      fun _ => dvd1024 _,
      fun t r => keyLe (Nat.lt_succ_of_lt (hT t)) (by revert r; decide),
      fun _ => dvd1024 _,
      fun _ => dvd1024 _,
      fun _ => dvd1024 _,
      fun _ => dvd1024 _,
      fun _ => dvd1024 _,
      fun _ => dvd1024 _⟩
  · unfold k0_chk1_2
    exact ⟨fun _ => dvd1024 _,
      fun t r => valLe 0 (by decide) (Nat.lt_succ_of_lt (hT t)) (by revert r; decide),
      fun _ => dvd1024 _,
      fun _ => dvd1024 _,
      fun _ => dvd1024 _,
      fun _ => dvd1024 _,
      fun t r => valLe 256 (by decide) (Nat.lt_succ_of_lt (hT t)) (by revert r; decide),
      fun _ => dvd1024 _,
      fun _ => dvd1024 _,
      fun _ => dvd1024 _,
      fun _ => dvd1024 _,
      fun t => keyLe (hT' t) (by decide),
      t2_ok i hw,
      fun k => (no2 k).elim,
      fun k => (no2 k).elim,
      fun k => (no2 k).elim,
      fun k => (no2 k).elim,
      fun k => (no2 k).elim,
      fun k => (no2 k).elim,
      fun k => (no2 k).elim,
      fun k => (no2 k).elim,
      fun k => (no2 k).elim,
      fun k => (no2 k).elim,
      fun k => (no2 k).elim,
      fun k => (no2 k).elim,
      fun k => (no2 k).elim,
      fun k => (no2 k).elim,
      fun k => (no2 k).elim,
      fun k => (no2 k).elim,
      fun k => (no2 k).elim,
      fun k => (no2 k).elim,
      fun k => (no2 k).elim⟩
  · unfold k0_chk1_3
    exact fun k => (no2 k).elim

end Cert.KernelIdeal.Fox

end
-- ==== Proof.Ideal.Step.lean ====
/- One block of 256 keys against one sub-block of 256 queries, over the extended reals: the logits, the causal mask on
   the diagonal, and the running largest logit and weighted sum before and after the block. -/
module

public import proofs.«01_k».proof.Proof.Ideal.Chk
public import proofs.«01_k».proof.Proof.Online

@[expose] public section

set_option maxRecDepth 16384

noncomputable section

namespace Cert.KernelIdeal.Fox

open Cert.KernelIdeal.Gen
open Idealize.ShloMosaic Idealize.ShloMosaic.TcCoe
open Cert.Online

/-- The word of minus infinity is `⊥`. -/
theorem ofBits_minus_inf : Ideal.ofBits .f32 0xFF800000#32 = ⊥ := by
  simp [Ideal.ofBits, Ideal.ieee]

/-- The mask's constant is `⊥`. -/
theorem mask_bot : Named.named (F := Ideal) (φ := .f32) κ "mask" 0xF149F2CA#32 = (⊥ : EReal) := rfl

/-- The difference of two small words, read as signed, is not positive where the first is not the larger. -/
theorem sle_small (a b : ℕ) (ha : a < 256) (hb : b < 256) :
    IntOp.cmpi .sle (IntOp.subi (BitVec.ofNat 32 a) (BitVec.ofNat 32 b)) 0#32 = if a ≤ b then 1#1 else 0#1 := by
  unfold IntOp.cmpi IntOp.subi
  have e : (BitVec.ofNat 32 a - BitVec.ofNat 32 b).toInt = (a : ℤ) - b := by
    rw [BitVec.toInt_sub, BitVec.toInt_eq_toNat_of_lt (by simp; omega), BitVec.toInt_eq_toNat_of_lt (by simp; omega)]
    simp
    rw [Int.emod_eq_of_lt (by omega) (by omega), Int.emod_eq_of_lt (by omega) (by omega), Int.bmod_eq_of_le (by omega) (by omega)]
  have hd : (BitVec.ofNat 32 a - BitVec.ofNat 32 b).sle 0#32 = decide (a ≤ b) := by
    unfold BitVec.sle
    rw [e]
    exact decide_eq_decide.mpr (by simp)
  show BitVec.ofBool ((BitVec.ofNat 32 a - BitVec.ofNat 32 b).sle 0#32) = _
  rw [hd]
  by_cases h : a ≤ b <;> simp [h]

/-- A block's key `n` at coordinate `d`. -/
def key (x1 : Vec Ideal S1x1x8192x128 .bf16) (n : ℕ) (d : Fin 128) : EReal :=
  if h : n < 8192 then x1 (ix4 0 0 ⟨n, h⟩ d) else 0

/-- A block's value row `r` at key `n`. -/
def val (x2 : Vec Ideal S1x1x16x80x512 .bf16) (r : Fin 80) (n : ℕ) : EReal :=
  if h : n < 8192 then x2 (ix5 0 0 ⟨n / 512, by omega⟩ r ⟨n % 512, by omega⟩) else 0

/-- The logit of the block's query `j` and key `n`. -/
def lg (x0 : Vec Ideal S1x1x128x1024 .bf16) (x1 : Vec Ideal S1x1x8192x128 .bf16) (j : Fin 1024) (n : ℕ) : EReal :=
  ∑ d : Fin 128, key x1 n d * x0 (ix4 0 0 d j)

/-- The same logit, `⊥` for a key past the query; `q` is the query tile. -/
def lm (q : ℕ) (x0 : Vec Ideal S1x1x128x1024 .bf16) (x1 : Vec Ideal S1x1x8192x128 .bf16) (j : Fin 1024) (n : ℕ) : EReal :=
  if n ≤ 1024 * q + j.val then lg x0 x1 j n else ⊥

/-- Query `c` of sub-block `a`. -/
def col (a : Fin 4) (c : Fin 256) : Fin 1024 := ⟨256 * a.val + c.val, by omega⟩

section
variable (q : ℕ) (x0 : Vec Ideal S1x1x128x1024 .bf16) (x1 : Vec Ideal S1x1x8192x128 .bf16) (x2 : Vec Ideal S1x1x16x80x512 .bf16)

/-- The vector holds keys `256n` to `256n + 255`. -/
def IsK (n : ℕ) (kb : Vec Ideal S1x1x256x128 .bf16) : Prop :=
  ∀ (k : Fin 256) (d : Fin 128), kb (ix4 0 0 k d) = key x1 (256 * n + k) d

/-- The vector holds sub-block `a`'s queries. -/
def IsQ (a : Fin 4) (qb : Vec Ideal S1x1x128x256 .bf16) : Prop :=
  ∀ (d : Fin 128) (c : Fin 256), qb (ix4 0 0 d c) = x0 (ix4 0 0 d (col a c))

/-- The vector holds the values at keys `256n` to `256n + 255`. -/
def IsV (n : ℕ) (v : Vec Ideal S1x1x1x80x256 .bf16) : Prop :=
  ∀ (r : Fin 80) (k : Fin 256), v (ix5 0 0 0 r k) = val x2 r (256 * n + k)

/-- The matrix holds the logits of sub-block `a` against keys `256n` to `256n + 255`. -/
def IsR (a : Fin 4) (n : ℕ) (s : FVec Ideal S256x256 .f32) : Prop :=
  ∀ k c : Fin 256, s (ix2 k c) = lg x0 x1 (col a c) (256 * n + k)

/-- The matrix holds those logits with the causal mask. -/
def IsS (a : Fin 4) (n : ℕ) (s : FVec Ideal S256x256 .f32) : Prop :=
  ∀ k c : Fin 256, s (ix2 k c) = lm q x0 x1 (col a c) (256 * n + k)

/-- The running largest logit and weighted sum of sub-block `a` over keys `256·lo` to `256·hi - 1`. -/
def St (a : Fin 4) (lo hi : ℕ) (m : FVec Ideal S1x256 .f32) (acc : FVec Ideal S80x256 .f32) : Prop :=
  lo ≤ hi ∧ (∀ c : Fin 256, m (ix2 0 c) = Mx (lm q x0 x1 (col a c)) (256 * lo) (256 * hi))
    ∧ ∀ (r : Fin 80) (c : Fin 256), acc (ix2 r c) = Ac (lm q x0 x1 (col a c)) (val x2 r) (256 * lo) (256 * hi)

variable {q x0 x1 x2}

/-- The logits as the kernel takes them. -/
abbrev scoresOf (kb : Vec Ideal S1x1x256x128 .bf16) (qb : Vec Ideal S1x1x128x256 .bf16) : FVec Ideal S256x256 .f32 :=
  matmul (F := Ideal) dot_S256x128_S128x256_S256x256_1_0_0_1_n_n none (shapeCast S256x128 kb shapeCasts_S1x1x256x128_S256x128 : FVec Ideal S256x128 .bf16)
    (shapeCast S128x256 qb shapeCasts_S1x1x128x256_S128x256 : FVec Ideal S128x256 .bf16) (constant S256x256 .f32 0x00000000#32)

/-- The new largest logit as the kernel takes it. -/
abbrev newM (m : FVec Ideal S1x256 .f32) (s : FVec Ideal S256x256 .f32) : FVec Ideal S1x256 .f32 :=
  maximumf m (shapeCast S1x256 (multiReduction (F := Ideal) .maximumf [0] S256 s 0xFF800000#32 reduces_S256x256_S256 (.inl rfl) rfl)
    shapeCasts_S256_S1x256)

/-- The new weighted sum as the kernel takes it, from the old and new largest logits. -/
abbrev newA (m m' : FVec Ideal S1x256 .f32) (acc : FVec Ideal S80x256 .f32) (s : FVec Ideal S256x256 .f32) (v : Vec Ideal S1x1x1x80x256 .bf16) :
    FVec Ideal S80x256 .f32 :=
  addf (mulf (broadcastTo S80x256 (exp2 (subf m m')) broadcasts_S1x256_S80x256) acc)
    (matmul (F := Ideal) dot_S80x256_S256x256_S80x256_1_0_0_1_n_n none (shapeCast S80x256 v shapeCasts_S1x1x1x80x256_S80x256 : FVec Ideal S80x256 .bf16)
      (exp2 (truncf .bf16 (subf s (broadcastTo S256x256 m' broadcasts_S1x256_S256x256)) bitsLt_bf16_f32) : FVec Ideal S256x256 .bf16)
      (constant S80x256 .f32 0x00000000#32))

/-- The diagonal's mask as the kernel lays it over the logits. -/
abbrev maskOf (s : FVec Ideal S256x256 .f32) : FVec Ideal S256x256 .f32 :=
  select (cmpi .sle (subi (iota .tc S256x256 32 [0] iota_S256x256_d0_w32) (iota .tc S256x256 32 [1] iota_S256x256_d1_w32)) (broadcast S256x256 0#32))
    s (broadcast S256x256 (Named.named (F := Ideal) κ "mask" 0xF149F2CA#32))

theorem isR_of {a : Fin 4} {n : ℕ} {kb : Vec Ideal S1x1x256x128 .bf16} {qb : Vec Ideal S1x1x128x256 .bf16} {s : FVec Ideal S256x256 .f32}
    (hk : IsK x1 n kb) (hq : IsQ x0 a qb) (hs : s = scoresOf kb qb) : IsR x0 x1 a n s := by
  intro k c
  subst hs
  pointwise []
  unfold lg
  refine Finset.sum_congr rfl fun d _ => ?_
  rw [← hk k d, ← hq d c]
  first | rfl | skip

theorem isS_of_isR {a : Fin 4} {n : ℕ} {s : FVec Ideal S256x256 .f32} (hn : n < 4 * q + a.val) (hr : IsR x0 x1 a n s) : IsS q x0 x1 a n s := by
  intro k c
  rw [hr k c]
  unfold lm
  rw [if_pos]
  have := k.isLt
  show _ ≤ 1024 * q + (256 * a.val + c.val)
  omega

theorem isS_of_mask {a : Fin 4} {s s' : FVec Ideal S256x256 .f32} (hr : IsR x0 x1 a (4 * q + a.val) s) (hs : s' = maskOf s) :
    IsS q x0 x1 a (4 * q + a.val) s' := by
  intro k c
  subst hs
  pointwise []
  rw [sle_small _ _ k.isLt c.isLt, mask_bot, hr k c]
  unfold lm
  have e : (256 * (4 * q + a.val) + k.val ≤ 1024 * q + (col a c).val) ↔ k.val ≤ c.val := by
    show _ ≤ 1024 * q + (256 * a.val + c.val) ↔ _
    omega
  simp only [e]
  split <;> simp [Scalar.select]

theorem st_start (a : Fin 4) (lo : ℕ) {m : FVec Ideal S1x256 .f32} {acc : FVec Ideal S80x256 .f32}
    (hm : m = broadcast S1x256 (Named.named (F := Ideal) κ "mask" 0xF149F2CA#32)) (ha : acc = broadcast S80x256 (Scalar.ofBits (F := Ideal) .f32 0x00000000#32)) :
    St q x0 x1 x2 a lo lo m acc := by
  subst hm; subst ha
  refine ⟨le_rfl, fun c => ?_, fun r c => ?_⟩
  · rw [Mx_self]; rfl
  · rw [Ac_self]; pointwise []

theorem step {a : Fin 4} {lo n : ℕ} {m m' : FVec Ideal S1x256 .f32} {acc acc' : FVec Ideal S80x256 .f32} {s : FVec Ideal S256x256 .f32}
    {v : Vec Ideal S1x1x1x80x256 .bf16} (hst : St q x0 x1 x2 a lo n m acc) (hs : IsS q x0 x1 a n s) (hv : IsV x2 n v)
    (hm : m' = newM m s) (ha : acc' = newA m m' acc s v) : St q x0 x1 x2 a lo (n + 1) m' acc' := by
  obtain ⟨hle, h1, h2⟩ := hst
  have e : 256 * (n + 1) = 256 * n + 256 := by ring
  have hm' : ∀ c : Fin 256, m' (ix2 0 c) = Mx (lm q x0 x1 (col a c)) (256 * lo) (256 * n + 256) := by
    intro c
    rw [Mx_step _ 256 (by omega), ← h1 c]
    subst hm
    pointwise []
    rw [ofBits_minus_inf]
    exact congrArg _ (congrArg (fun f => Finset.fold max ⊥ f Finset.univ) (funext fun k => hs k c))
  refine ⟨by omega, fun c => by rw [e]; exact hm' c, fun r c => ?_⟩
  rw [e, Ac_step _ _ 256 (by omega), ← h2 r c, ← hm' c, ← h1 c]
  subst ha
  clear hm hm'
  pointwise []
  refine congrArg _ (Finset.sum_congr rfl fun k _ => ?_)
  rw [hv r k, hs k c]
  rfl

end

end Cert.KernelIdeal.Fox

end
-- ==== Proof.RefValue.lean ====
/- The reference's result is the attention, over its arguments as functions of their indices. -/
module

public import proofs.«01_k».proof.Proof.RefMask
public import proofs.«01_k».proof.Proof.Ideal.Step
public import Idealize.ShloMosaic.Lib.Pointwise
public import Idealize.ShloMosaic.Lib.Tactic.CleanTypes

@[expose] public section

set_option maxRecDepth 16384

noncomputable section

namespace Cert.ReferenceIdeal.Fox

open Idealize.ShloMosaic Cert.ReferenceIdeal Cert.ReferenceIdeal.Read
open Cert.FoxAttn Cert.Online

/-- The word of two is two. -/
theorem ofBits_two : Ideal.ofBits .f32 0x40000000#32 = 2 := by
  simp [Ideal.ofBits, Ideal.ieee]
  have : ((8388608 : ℝ) : EReal) * (((2 ^ 22)⁻¹ : ℝ) : EReal) = ((2 : ℝ) : EReal) := by rw [← EReal.coe_mul]; norm_num
  exact this

/-- A difference from something not smaller is not plus infinity. -/
theorem sub_ne_top {x y : EReal} (h : x ≤ y) : x - y ≠ ⊤ := by
  induction y with
  | top => simp [sub_eq_add_neg]
  | bot => rw [le_bot_iff.mp h]; simp
  | coe r =>
    induction x with
    | top => simp at h
    | bot => simp [sub_eq_add_neg]
    | coe s => rw [← EReal.coe_sub]; exact EReal.coe_ne_top _

section
variable (x0 : (⟨S128, .i32⟩ : BufTy).Contents (Elt Ideal)) (x1 : (⟨S2x8x128x8192, .bf16⟩ : BufTy).Contents (Elt Ideal))
  (x2 : (⟨S2x8x8192x128, .bf16⟩ : BufTy).Contents (Elt Ideal)) (x3 : (⟨S2x8x16x80x512, .bf16⟩ : BufTy).Contents (Elt Ideal))
  (x4 : (⟨S2x8x64x8192, .bf16⟩ : BufTy).Contents (Elt Ideal))

/-- The logits of a batch, head and query, over the keys. -/
abbrev lg (b : Fin 2) (h : Fin 8) (j : Fin 8192) : ℕ → EReal :=
  logit (fun n d => x2 (ix4 b h n d)) (fun d => x1 (ix4 b h d j))
    (x0 (ix1 (⟨64 * b.val + 8 * h.val + j.val / 1024, by omega⟩ : Fin 128))).toNat (j.val / 1024) (j.val % 1024)

/-- The masked logit of a key. -/
theorem logit_at (hw : ∀ y, (x0 y).toNat < 2 ^ 31) (b : Fin 2) (h : Fin 8) (n j : Fin 8192) :
    val_main_v39 (F := Ideal) x0 x1 x2 (ix4 b h n j) = lg x0 x1 x2 b h j n.val := by
  rw [val_main_v39_apply]
  unfold lg logit
  have hm := mask_at x0 b h n j (hw _)
  have h0 : val_main_v0 (F := Ideal) x1 x2 (ix4 b h n j) = ∑ d : Fin 128, keyOf (fun n d => x2 (ix4 b h n d)) n.val d * x1 (ix4 b h d j) := by
    rw [val_main_v0_apply]
    refine Finset.sum_congr rfl fun d _ => ?_
    unfold keyOf
    rw [dif_pos n.isLt]
    exact congrArg₂ (· * ·) (congrArg x2 (funext fun a => match a with | ⟨0, _⟩ => rfl | ⟨1, _⟩ => rfl | ⟨2, _⟩ => rfl | ⟨3, _⟩ => rfl))
      (congrArg x1 (funext fun a => match a with | ⟨0, _⟩ => rfl | ⟨1, _⟩ => rfl | ⟨2, _⟩ => rfl | ⟨3, _⟩ => rfl))
  have hb : val_main_call0_v1 (F := Ideal) (ix4 b h n j) = (⊥ : EReal) := by
    rw [val_main_call0_v1_apply, val_main_call0_v0_apply]
    exact Cert.KernelIdeal.Fox.ofBits_minus_inf
  rw [h0, hb]
  by_cases hk : val_main_v38 (F := Ideal) x0 (ix4 b h n j) = 1#1
  · rw [if_pos (hm.mp hk), hk]; rfl
  · rw [if_neg (fun h' => hk (hm.mpr h'))]
    exact if_neg hk

/-- The largest logit of a query. -/
theorem max_at (hw : ∀ y, (x0 y).toNat < 2 ^ 31) (b : Fin 2) (h : Fin 8) (j : Fin 8192) :
    val_main_v40 (F := Ideal) x0 x1 x2 (ix3 b h j) = Mx (lg x0 x1 x2 b h j) 0 8192 := by
  have e : val_main_v40 (F := Ideal) x0 x1 x2 (ix3 b h j)
      = Finset.univ.fold max ⊥ fun n : Fin 8192 => val_main_v39 (F := Ideal) x0 x1 x2 (ix4 b h n j) := by
    unfold val_main_v40
    generalize val_main_v39 (F := Ideal) x0 x1 x2 = y
    clean_types
    pointwise [val_main_cst_9]
    rw [← Cert.KernelIdeal.Fox.ofBits_minus_inf]
  rw [e, fold_eq_sup]
  refine Eq.trans (Finset.sup_congr rfl fun n _ => logit_at x0 x1 x2 hw b h n j) ?_
  have := sup_block (lg x0 x1 x2 b h j) 0 8192
  simp only [Nat.zero_add] at this
  exact this.symm

/-- The weight of a key. -/
theorem weight_at (hw : ∀ y, (x0 y).toNat < 2 ^ 31) (b : Fin 2) (h : Fin 8) (n j : Fin 8192) :
    val_main_v48 (F := Ideal) x0 x1 x2 (ix4 b h n j) = Ideal.exp2 (lg x0 x1 x2 b h j n.val - Mx (lg x0 x1 x2 b h j) 0 8192) := by
  have e42 : val_main_v42 (F := Ideal) x0 x1 x2 (ix4 b h n j) = Mx (lg x0 x1 x2 b h j) 0 8192 := by
    rw [val_main_v42_apply, val_main_v41_apply, ← max_at x0 x1 x2 hw]
    exact congrArg (val_main_v40 (F := Ideal) x0 x1 x2) (funext fun a => match a with | ⟨0, _⟩ => rfl | ⟨1, _⟩ => rfl | ⟨2, _⟩ => rfl)
  have e45 : val_main_v45 (F := Ideal) (ix4 b h n j) = Ideal.log 2 := by
    rw [val_main_v45_apply, val_main_v44_apply, ← ofBits_two]; rfl
  rw [val_main_v48_apply, val_main_v47_apply, val_main_v46_apply, e45, val_main_v43_apply, e42, logit_at x0 x1 x2 hw]
  exact exp_log_two _ (sub_ne_top (le_Mx _ (Finset.mem_Ico.mpr ⟨Nat.zero_le _, n.isLt⟩)))

/-- A row of the values at a key. -/
theorem value_at (b : Fin 2) (h : Fin 8) (r : Fin 80) (n : Fin 8192) :
    val_main_v50 (F := Ideal) x3 (ix4 b h r n) = valOf (fun p r o => x3 (ix5 b h p r o)) r n.val := by
  rw [val_main_v50_apply, val_main_v49_apply]
  unfold valOf
  rw [dif_pos n.isLt]
  have hb := b.isLt
  have hh := h.isLt
  have hr := r.isLt
  have hn := n.isLt
  refine congrArg x3 (funext fun a => Fin.ext ?_)
  match a with
  | ⟨0, _⟩ => simp [ix4, ix5]; omega
  | ⟨1, _⟩ => simp [ix4, ix5]; omega
  | ⟨2, _⟩ => simp [ix4, ix5]; omega
  | ⟨3, _⟩ => simp [ix4, ix5]; omega
  | ⟨4, _⟩ => simp [ix4, ix5]; omega

/-- A row's weighted sum. -/
theorem sum_at (hw : ∀ y, (x0 y).toNat < 2 ^ 31) (b : Fin 2) (h : Fin 8) (r : Fin 80) (j : Fin 8192) :
    val_main_v51 (F := Ideal) x0 x1 x2 x3 (ix4 b h r j) = Ac (lg x0 x1 x2 b h j) (valOf (fun p r o => x3 (ix5 b h p r o)) r) 0 8192 := by
  rw [val_main_v51_apply]
  unfold Ac
  have := sum_block (fun n => Ideal.exp2 (lg x0 x1 x2 b h j n - Mx (lg x0 x1 x2 b h j) 0 8192) * valOf (fun p r o => x3 (ix5 b h p r o)) r n) 0 8192
  simp only [Nat.zero_add] at this
  rw [this]
  refine Finset.sum_congr rfl fun n _ => ?_
  rw [← weight_at x0 x1 x2 hw, ← value_at, mul_comm]
  exact congrArg₂ (· * ·)
    (congrArg (val_main_v48 (F := Ideal) x0 x1 x2) (funext fun a => match a with | ⟨0, _⟩ => rfl | ⟨1, _⟩ => rfl | ⟨2, _⟩ => rfl | ⟨3, _⟩ => rfl))
    (congrArg (val_main_v50 (F := Ideal) x3) (funext fun a => match a with | ⟨0, _⟩ => rfl | ⟨1, _⟩ => rfl | ⟨2, _⟩ => rfl | ⟨3, _⟩ => rfl))

/-- The reference's result at an index is the attention there. -/
theorem result_at (hw : ∀ y, (x0 y).toNat < 2 ^ 31) (b : Fin 2) (h : Fin 8) (r : Fin 64) (j : Fin 8192) :
    val_main_v58 (F := Ideal) x0 x1 x2 x3 x4 (ix4 b h r j)
      = attn (fun x => x0 (ix1 x)) (fun b h d j => x1 (ix4 b h d j)) (fun b h n d => x2 (ix4 b h n d))
          (fun b h p r o => x3 (ix5 b h p r o)) (fun b h r j => x4 (ix4 b h r j)) b h r j := by
  rw [val_main_v58_apply, val_main_v57_apply, val_main_v56_apply, val_main_v55_apply, val_main_v54_apply, val_main_v53_apply,
    val_main_v52_apply]
  have e1 : val_main_v51 (F := Ideal) x0 x1 x2 x3 (idx_main_v52 (ix4 b h r j))
      = val_main_v51 (F := Ideal) x0 x1 x2 x3 (ix4 b h (⟨r.val, by omega⟩ : Fin 80) j) :=
    congrArg _ (funext fun a => Fin.ext (match a with | ⟨0, _⟩ => by simp [ix4] | ⟨1, _⟩ => by simp [ix4] | ⟨2, _⟩ => by simp [ix4] | ⟨3, _⟩ => by simp [ix4]))
  have e2 : val_main_v51 (F := Ideal) x0 x1 x2 x3 (idx_main_v53 (idx_main_v54 (ix4 b h r j)))
      = val_main_v51 (F := Ideal) x0 x1 x2 x3 (ix4 b h (64 : Fin 80) j) :=
    congrArg _ (funext fun a => Fin.ext (match a with | ⟨0, _⟩ => by simp [ix4] | ⟨1, _⟩ => by simp [ix4] | ⟨2, _⟩ => by simp [ix4] | ⟨3, _⟩ => by simp [ix4]))
  rw [e1, e2, sum_at x0 x1 x2 x3 hw, sum_at x0 x1 x2 x3 hw]
  rfl
end

end Cert.ReferenceIdeal.Fox

end
-- ==== Proof.Ideal.Load.lean ====
/- What the kernel's loads read of its blocks: a block of 256 keys, of their values, of a sub-block's queries, and the
   gate. -/
module

public import proofs.«01_k».proof.Proof.Ideal.Step

@[expose] public section

set_option maxRecDepth 16384

noncomputable section

namespace Cert.KernelIdeal.Fox

open Cert.KernelIdeal.Gen
open Idealize.ShloMosaic Idealize.ShloMosaic.TcCoe
open Cert.FoxWords

variable {x0 : Vec Ideal S1x1x128x1024 .bf16} {x1 : Vec Ideal S1x1x8192x128 .bf16} {x2 : Vec Ideal S1x1x16x80x512 .bf16}
  {x3 : Vec Ideal S1x1x64x1024 .bf16}
  {arg4 : Memref sig .tc .vmem S1x1x128x1024 .bf16} {arg5 : Memref sig .tc .vmem S1x1x8192x128 .bf16}
  {arg6 : Memref sig .tc .vmem S1x1x16x80x512 .bf16} {arg7 : Memref sig .tc .vmem S1x1x64x1024 .bf16}

theorem isK_read {off : Fin 4 → ℕ} {n : ℕ} (harg5 : arg5.IsWhole) (inb : ∀ a, off a + S1x1x256x128.size a ≤ S1x1x8192x128.size a)
    (hoff : off = ![0, 0, 256 * n, 0]) :
    IsK x1 n (arg5.view.readAt (Elt Ideal) (Rect.unit (s := S1x1x8192x128) off S1x1x256x128.size inb).toLoadRect (harg5.unread x1)) := by
  subst hoff
  have h2 := inb 2
  simp [S1x1x256x128, S1x1x8192x128] at h2
  intro k d
  rw [View.readAt_eq_ld, harg5.read_unread]
  pointwise []
  unfold key
  rw [dif_pos (by omega)]

theorem keyInb {off : Fin 4 → ℕ} {n : ℕ} (hoff : off = ![0, 0, 256 * n, 0]) (hn : n < 32) :
    ∀ a, off a + S1x1x256x128.size a ≤ S1x1x8192x128.size a := by
  subst hoff
  intro a
  fin_cases a <;> simp [S1x1x256x128, S1x1x8192x128] <;> omega

theorem isV_read {off : Fin 5 → ℕ} {n : ℕ} (harg6 : arg6.IsWhole)
    (inb : ∀ a, off a + S1x1x1x80x256.size a ≤ S1x1x16x80x512.size a) (p o : ℕ) (hoff : off = ![0, 0, p, 0, o]) (ho : o = 256 * (n % 2)) (hp : p = n / 2) :
    IsV x2 n (arg6.view.readAt (Elt Ideal) (Rect.unit (s := S1x1x16x80x512) off S1x1x1x80x256.size inb).toLoadRect (harg6.unread x2)) := by
  subst hoff
  have h2 := inb 2
  have h4 := inb 4
  simp [S1x1x1x80x256, S1x1x16x80x512] at h2 h4
  intro r k
  rw [View.readAt_eq_ld, harg6.read_unread]
  pointwise []
  unfold val
  rw [dif_pos (by omega)]
  have hk := k.isLt
  congr 2 <;> apply Fin.ext <;> simp only [] <;> omega

theorem valInb {off : Fin 5 → ℕ} {n : ℕ} (p o : ℕ) (hoff : off = ![0, 0, p, 0, o]) (ho : o = 256 * (n % 2)) (hp : p = n / 2) (hn : n < 32) :
    ∀ a, off a + S1x1x1x80x256.size a ≤ S1x1x16x80x512.size a := by
  subst hoff
  intro a
  fin_cases a <;> simp [S1x1x1x80x256, S1x1x16x80x512] <;> omega

/-- A load of the keys from `256n`, of a tile's word: what it holds. -/
theorem isK_at {off : Fin 4 → ℕ} {n : ℕ} (harg5 : arg5.IsWhole) (hoff : off = ![0, 0, 256 * n, 0]) (hn : n < 32) :
    IsK x1 n (arg5.view.readAt (Elt Ideal) (Rect.unit (s := S1x1x8192x128) off S1x1x256x128.size (keyInb hoff hn)).toLoadRect (harg5.unread x1)) :=
  isK_read harg5 _ hoff

/-- A load of the values from key `256n`: what it holds. -/
theorem isV_at {off : Fin 5 → ℕ} {n : ℕ} (harg6 : arg6.IsWhole) {p o : ℕ} (hoff : off = ![0, 0, p, 0, o]) (ho : o = 256 * (n % 2)) (hp : p = n / 2) (hn : n < 32) :
    IsV x2 n (arg6.view.readAt (Elt Ideal) (Rect.unit (s := S1x1x16x80x512) off S1x1x1x80x256.size (valInb p o hoff ho hp hn)).toLoadRect (harg6.unread x2)) :=
  isV_read harg6 _ p o hoff ho hp

theorem isQ_read {off : Fin 4 → ℕ} {a : Fin 4} (harg4 : arg4.IsWhole) (inb : ∀ a, off a + S1x1x128x256.size a ≤ S1x1x128x1024.size a)
    (hoff : off = ![0, 0, 0, 256 * a.val]) :
    IsQ x0 a (arg4.view.readAt (Elt Ideal) (Rect.unit (s := S1x1x128x1024) off S1x1x128x256.size inb).toLoadRect (harg4.unread x0)) := by
  subst hoff
  intro d c
  rw [View.readAt_eq_ld, harg4.read_unread]
  pointwise []
  rfl

theorem gate_read {off : Fin 4 → ℕ} (harg7 : arg7.IsWhole) (inb : ∀ a, off a + S1x1x64x1024.size a ≤ S1x1x64x1024.size a) (hoff : off = ![0, 0, 0, 0])
    (r : Fin 64) (j : Fin 1024) :
    arg7.view.readAt (Elt Ideal) (Rect.unit (s := S1x1x64x1024) off S1x1x64x1024.size inb).toLoadRect (harg7.unread x3) (ix4 0 0 r j) = x3 (ix4 0 0 r j) := by
  subst hoff
  rw [View.readAt_eq_ld, harg7.read_unread]
  pointwise []

/-- A tile's word, by 1024, and an offset within it. -/
theorem keyOff {x : BitVec 32} {c : BitVec 32} (hx : x.toNat < 8) (hc : c.toNat < 1024) :
    (Scalar.indexCast (Scalar.addi (Scalar.muli x 1024#32) c)).toNat = 1024 * x.toNat + c.toNat := by
  unfold Scalar.indexCast Scalar.addi Scalar.muli IntOp.addi IntOp.muli
  rw [BitVec.toNat_add, BitVec.toNat_mul]
  simp; omega

theorem valOff {x : BitVec 32} {c : BitVec 32} (hx : x.toNat < 8) (hc : c.toNat < 2) :
    (Scalar.indexCast (Scalar.addi (Scalar.muli x 2#32) c)).toNat = 2 * x.toNat + c.toNat := by
  unfold Scalar.indexCast Scalar.addi Scalar.muli IntOp.addi IntOp.muli
  rw [BitVec.toNat_add, BitVec.toNat_mul]
  simp; omega

end Cert.KernelIdeal.Fox

end
-- ==== Proof.Ideal.Diag.lean ====
/- The tile on the diagonal, and the division: from the states of the four sub-blocks before it to what the kernel
   multiplies by the gate. -/
module

public import proofs.«01_k».proof.Proof.Ideal.Load

@[expose] public section

set_option maxRecDepth 16384

noncomputable section

namespace Cert.KernelIdeal.Fox

open Cert.KernelIdeal.Gen
open Idealize.ShloMosaic Idealize.ShloMosaic.TcCoe
open Cert.Online

/-- The four sub-blocks' logits and states, as the loop carries them: the first sub-block's next logits, then a largest
    logit and a weighted sum for each. -/
abbrev Carried := FVec Ideal S256x256 .f32 × FVec Ideal S1x256 .f32 × FVec Ideal S80x256 .f32 × FVec Ideal S1x256 .f32 × FVec Ideal S80x256 .f32
  × FVec Ideal S1x256 .f32 × FVec Ideal S80x256 .f32 × FVec Ideal S1x256 .f32 × FVec Ideal S80x256 .f32

/-- The kernel's last tile and its division, by its own payloads. -/
def diagOut (st : Carried) (q1 q2 q3 : Vec Ideal S1x1x128x256 .bf16) (kb0 kb1 kb2 kb3 : Vec Ideal S1x1x256x128 .bf16)
    (vb0 vb1 vb2 vb3 : Vec Ideal S1x1x1x80x256 .bf16) : FVec Ideal S64x1024 .f32 :=
  let r_5 := st.1; let r_6 := st.2.1; let r_7 := st.2.2.1; let r_8 := st.2.2.2.1; let r_9 := st.2.2.2.2.1
  let r_10 := st.2.2.2.2.2.1; let r_11 := st.2.2.2.2.2.2.1; let r_12 := st.2.2.2.2.2.2.2.1; let r_13 := st.2.2.2.2.2.2.2.2
  let r_30 := k0_pay276 r_12 (k0_pay262 (k0_pay232 q3) kb0)
  let r_31 := k0_pay277 r_12 r_13 (k0_pay262 (k0_pay232 q3) kb0) vb0
  let r_19 := k0_pay265 (k0_pay232 q3) kb1
  let r_37 := k0_pay284 r_19 r_30
  let r_21 := k0_pay267 (k0_pay232 q3) kb2
  let r_28 := k0_pay274 r_10 (k0_pay261 (k0_pay231 q2) kb0)
  let r_29 := k0_pay275 r_10 r_11 (k0_pay261 (k0_pay231 q2) kb0) vb0
  let r_18 := k0_pay264 (k0_pay231 q2) kb1
  k0_pay292 k0_pay233 r_21 (k0_pay270 r_6 r_7 (k0_pay268 vb0) (k0_pay269 k0_pay233 r_5)) (k0_pay271 (k0_pay232 q3) kb3)
    (k0_pay280 (k0_pay263 (k0_pay230 q1) kb1) (k0_pay272 r_8 (k0_pay260 (k0_pay230 q1) kb0)) (k0_pay273 r_8 r_9 (k0_pay260 (k0_pay230 q1) kb0) vb0)
      (k0_pay278 vb1) (k0_pay279 k0_pay233))
    (k0_pay286 r_19 r_31 (k0_pay283 vb1) r_37 (k0_pay285 r_19 r_30))
    (k0_pay287 k0_pay233 (k0_pay266 (k0_pay231 q2) kb2) (k0_pay281 r_18 r_28) (k0_pay282 r_18 r_28 r_29 vb1) vb2)
    (k0_pay288 vb2) (k0_pay289 r_21 r_37) (k0_pay290 r_21 r_37) (k0_pay291 r_21 r_37) vb3

/-- A sub-block's sums divided by its last row. -/
def quot (a : FVec Ideal S80x256 .f32) : FVec Ideal S64x256 .f32 := divf (extractStridedSlice S64x256 ![0, 0] a slices_S80x256_o0_0_S64x256)
  (broadcastTo S64x256 (extractStridedSlice S1x256 ![64, 0] a slices_S80x256_o64_0_S1x256) broadcasts_S1x256_S64x256)

/-- The four sub-blocks laid side by side. -/
def fin4 (a0 a1 a2 a3 : FVec Ideal S80x256 .f32) : FVec Ideal S64x1024 .f32 :=
  concatenate S64x1024 1 [⟨S64x256, quot a0⟩, ⟨S64x256, quot a1⟩, ⟨S64x256, quot a2⟩, ⟨S64x256, quot a3⟩]
    concatenates_S64x256_S64x256_S64x256_S64x256_S64x1024_d1

theorem fin4_apply0 (a0 a1 a2 a3 : FVec Ideal S80x256 .f32) (r : Fin 64) (c : Fin 256) (j : Fin 1024) (hj : j.val = 256 * 0 + c.val) :
    fin4 a0 a1 a2 a3 (ix2 r j) = Ideal.div (a0 (ix2 ⟨r, by omega⟩ c)) (a0 (ix2 64 c)) := by
  unfold fin4
  have hc := c.isLt
  pointwise [quot]
  rw [dif_pos (by omega)]
  have e : ∀ h, (⟨j.val, h⟩ : Fin 256) = c := fun h => Fin.ext (by show j.val = c.val; omega)
  rw [e]

theorem fin4_apply1 (a0 a1 a2 a3 : FVec Ideal S80x256 .f32) (r : Fin 64) (c : Fin 256) (j : Fin 1024) (hj : j.val = 256 * 1 + c.val) :
    fin4 a0 a1 a2 a3 (ix2 r j) = Ideal.div (a1 (ix2 ⟨r, by omega⟩ c)) (a1 (ix2 64 c)) := by
  unfold fin4
  have hc := c.isLt
  pointwise [quot]
  rw [dif_neg (by omega)]
  rw [dif_pos (by omega)]
  have e : ∀ h, (⟨j.val - 256, h⟩ : Fin 256) = c := fun h => Fin.ext (by show j.val - 256 = c.val; omega)
  rw [e]

theorem fin4_apply2 (a0 a1 a2 a3 : FVec Ideal S80x256 .f32) (r : Fin 64) (c : Fin 256) (j : Fin 1024) (hj : j.val = 256 * 2 + c.val) :
    fin4 a0 a1 a2 a3 (ix2 r j) = Ideal.div (a2 (ix2 ⟨r, by omega⟩ c)) (a2 (ix2 64 c)) := by
  unfold fin4
  have hc := c.isLt
  pointwise [quot]
  rw [dif_neg (by omega)]
  rw [dif_neg (by omega)]
  rw [dif_pos (by omega)]
  have e : ∀ h, (⟨j.val - 256 - 256, h⟩ : Fin 256) = c := fun h => Fin.ext (by show j.val - 256 - 256 = c.val; omega)
  rw [e]

theorem fin4_apply3 (a0 a1 a2 a3 : FVec Ideal S80x256 .f32) (r : Fin 64) (c : Fin 256) (j : Fin 1024) (hj : j.val = 256 * 3 + c.val) :
    fin4 a0 a1 a2 a3 (ix2 r j) = Ideal.div (a3 (ix2 ⟨r, by omega⟩ c)) (a3 (ix2 64 c)) := by
  unfold fin4
  have hc := c.isLt
  pointwise [quot]
  rw [dif_neg (by omega)]
  rw [dif_neg (by omega)]
  rw [dif_neg (by omega)]
  have e : ∀ h, (⟨j.val - 256 - 256 - 256, h⟩ : Fin 256) = c := fun h => Fin.ext (by show j.val - 256 - 256 - 256 = c.val; omega)
  rw [e]

section
variable {q : ℕ} {x0 : Vec Ideal S1x1x128x1024 .bf16} {x1 : Vec Ideal S1x1x8192x128 .bf16} {x2 : Vec Ideal S1x1x16x80x512 .bf16}

/-- The carried values are the four sub-blocks' states over the keys from `lo a` up to tile `j`, with the first sub-block's
    logits against that tile's first keys. -/
structure Inv (q : ℕ) (x0 : Vec Ideal S1x1x128x1024 .bf16) (x1 : Vec Ideal S1x1x8192x128 .bf16) (x2 : Vec Ideal S1x1x16x80x512 .bf16)
    (lo : Fin 4 → ℕ) (j : ℕ) (st : Carried) : Prop where
  s : IsR x0 x1 0 (4 * j) st.1
  p0 : St q x0 x1 x2 0 (lo 0) (4 * j) st.2.1 st.2.2.1
  p1 : St q x0 x1 x2 1 (lo 1) (4 * j) st.2.2.2.1 st.2.2.2.2.1
  p2 : St q x0 x1 x2 2 (lo 2) (4 * j) st.2.2.2.2.2.1 st.2.2.2.2.2.2.1
  p3 : St q x0 x1 x2 3 (lo 3) (4 * j) st.2.2.2.2.2.2.2.1 st.2.2.2.2.2.2.2.2

variable {lo : Fin 4 → ℕ} {st : Carried} {q1 q2 q3 : Vec Ideal S1x1x128x256 .bf16} {kb0 kb1 kb2 kb3 : Vec Ideal S1x1x256x128 .bf16}
    {vb0 vb1 vb2 vb3 : Vec Ideal S1x1x1x80x256 .bf16}

theorem diag_states (h : Inv q x0 x1 x2 lo q st) (hq1 : IsQ x0 1 q1) (hq2 : IsQ x0 2 q2) (hq3 : IsQ x0 3 q3)
    (hk0 : IsK x1 (4 * q) kb0) (hk1 : IsK x1 (4 * q + 1) kb1) (hk2 : IsK x1 (4 * q + 2) kb2) (hk3 : IsK x1 (4 * q + 3) kb3)
    (hv0 : IsV x2 (4 * q) vb0) (hv1 : IsV x2 (4 * q + 1) vb1) (hv2 : IsV x2 (4 * q + 2) vb2) (hv3 : IsV x2 (4 * q + 3) vb3) :
    ∃ m0 m1 m2 m3 a0 a1 a2 a3, St q x0 x1 x2 0 (lo 0) (4 * q + 1) m0 a0 ∧ St q x0 x1 x2 1 (lo 1) (4 * q + 2) m1 a1
      ∧ St q x0 x1 x2 2 (lo 2) (4 * q + 3) m2 a2 ∧ St q x0 x1 x2 3 (lo 3) (4 * q + 4) m3 a3
      ∧ diagOut st q1 q2 q3 kb0 kb1 kb2 kb3 vb0 vb1 vb2 vb3 = fin4 a0 a1 a2 a3 := by
  have f0 := step h.p0 (isS_of_mask (a := 0) (q := q) h.s rfl) hv0 rfl rfl
  have g1 := step h.p1 (isS_of_isR (by show _ < 4 * q + 1; omega) (isR_of hk0 hq1 rfl)) hv0 rfl rfl
  have f1 := step g1 (isS_of_mask (a := 1) (q := q) (isR_of hk1 hq1 rfl) rfl) hv1 rfl rfl
  have g2 := step h.p2 (isS_of_isR (by show _ < 4 * q + 2; omega) (isR_of hk0 hq2 rfl)) hv0 rfl rfl
  have g2 := step g2 (isS_of_isR (by show _ < 4 * q + 2; omega) (isR_of hk1 hq2 rfl)) hv1 rfl rfl
  have f2 := step g2 (isS_of_mask (a := 2) (q := q) (isR_of hk2 hq2 rfl) rfl) hv2 rfl rfl
  have g3 := step h.p3 (isS_of_isR (by show _ < 4 * q + 3; omega) (isR_of hk0 hq3 rfl)) hv0 rfl rfl
  have g3 := step g3 (isS_of_isR (by show _ < 4 * q + 3; omega) (isR_of hk1 hq3 rfl)) hv1 rfl rfl
  have g3 := step g3 (isS_of_isR (by show _ < 4 * q + 3; omega) (isR_of hk2 hq3 rfl)) hv2 rfl rfl
  have f3 := step g3 (isS_of_mask (a := 3) (q := q) (isR_of hk3 hq3 rfl) rfl) hv3 rfl rfl
  exact ⟨_, _, _, _, _, _, _, _, f0, f1, f2, f3, rfl⟩

/-- What the kernel multiplies by the gate: at row `r` and query `j`, the row's weighted sum over the keys from the
    sub-block's first to the diagonal, divided by row 64's. -/
theorem diag_apply (h : Inv q x0 x1 x2 lo q st) (hq1 : IsQ x0 1 q1) (hq2 : IsQ x0 2 q2) (hq3 : IsQ x0 3 q3)
    (hk0 : IsK x1 (4 * q) kb0) (hk1 : IsK x1 (4 * q + 1) kb1) (hk2 : IsK x1 (4 * q + 2) kb2) (hk3 : IsK x1 (4 * q + 3) kb3)
    (hv0 : IsV x2 (4 * q) vb0) (hv1 : IsV x2 (4 * q + 1) vb1) (hv2 : IsV x2 (4 * q + 2) vb2) (hv3 : IsV x2 (4 * q + 3) vb3)
    (r : Fin 64) (j : Fin 1024) :
    diagOut st q1 q2 q3 kb0 kb1 kb2 kb3 vb0 vb1 vb2 vb3 (ix2 r j)
      = Ideal.div (Ac (lm q x0 x1 j) (val x2 ⟨r, by omega⟩) (256 * lo ⟨j.val / 256, by omega⟩) (256 * (4 * q + j.val / 256 + 1)))
          (Ac (lm q x0 x1 j) (val x2 64) (256 * lo ⟨j.val / 256, by omega⟩) (256 * (4 * q + j.val / 256 + 1))) := by
  obtain ⟨m0, m1, m2, m3, a0, a1, a2, a3, f0, f1, f2, f3, e⟩ := diag_states h hq1 hq2 hq3 hk0 hk1 hk2 hk3 hv0 hv1 hv2 hv3
  rw [e]
  have hj := j.isLt
  obtain hb | hb | hb | hb : j.val / 256 = 0 ∨ j.val / 256 = 1 ∨ j.val / 256 = 2 ∨ j.val / 256 = 3 := by omega
  · have ec : col 0 ⟨j.val % 256, by omega⟩ = j := Fin.ext (by show 256 * 0 + j.val % 256 = j.val; omega)
    have eb : (⟨j.val / 256, by omega⟩ : Fin 4) = 0 := Fin.ext hb
    rw [fin4_apply0 a0 a1 a2 a3 r ⟨j.val % 256, by omega⟩ j (by show _ = 256 * 0 + j.val % 256; omega), f0.2.2, f0.2.2, ec, eb, hb]
  · have ec : col 1 ⟨j.val % 256, by omega⟩ = j := Fin.ext (by show 256 * 1 + j.val % 256 = j.val; omega)
    have eb : (⟨j.val / 256, by omega⟩ : Fin 4) = 1 := Fin.ext hb
    rw [fin4_apply1 a0 a1 a2 a3 r ⟨j.val % 256, by omega⟩ j (by show _ = 256 * 1 + j.val % 256; omega), f1.2.2, f1.2.2, ec, eb, hb]
  · have ec : col 2 ⟨j.val % 256, by omega⟩ = j := Fin.ext (by show 256 * 2 + j.val % 256 = j.val; omega)
    have eb : (⟨j.val / 256, by omega⟩ : Fin 4) = 2 := Fin.ext hb
    rw [fin4_apply2 a0 a1 a2 a3 r ⟨j.val % 256, by omega⟩ j (by show _ = 256 * 2 + j.val % 256; omega), f2.2.2, f2.2.2, ec, eb, hb]
  · have ec : col 3 ⟨j.val % 256, by omega⟩ = j := Fin.ext (by show 256 * 3 + j.val % 256 = j.val; omega)
    have eb : (⟨j.val / 256, by omega⟩ : Fin 4) = 3 := Fin.ext hb
    rw [fin4_apply3 a0 a1 a2 a3 r ⟨j.val % 256, by omega⟩ j (by show _ = 256 * 3 + j.val % 256; omega), f3.2.2, f3.2.2, ec, eb, hb]

end

end Cert.KernelIdeal.Fox

end
-- ==== Proof.Ideal.Trip.lean ====
/- One trip of the loop over the tiles between the plan's first and the query's own, and the loop. -/
module

public import proofs.«01_k».proof.Proof.Ideal.Diag
public import proofs.«01_k».proof.Proof.Gen.KernelIdeal.Loops
import all proofs.«01_k».proof.Proof.Gen.KernelIdeal.Loops

@[expose] public section

set_option maxRecDepth 16384

noncomputable section

namespace Cert.KernelIdeal.Fox

open Cert.KernelIdeal.Gen
open Idealize.ShloMosaic Idealize.ShloMosaic.TcCoe
open Cert.Online Cert.FoxWords

variable {w : BitVec 32} (i : grid0.Coords)

/-- A tile's keys from its `ks`-th block of 256, as the kernel computes where they lie. -/
theorem keyForm {x c : BitVec 32} (t ks : ℕ) (ht : t < 8) (hx : x = BitVec.ofNat 32 t) (hks : ks < 4) (hc : c.toNat = 256 * ks) :
    (![0, 0, (Scalar.indexCast (Scalar.addi (Scalar.muli x 1024#32) c)).toNat, 0] : Fin 4 → ℕ) = ![0, 0, 256 * (4 * t + ks), 0] := by
  subst hx
  rw [keyOff (by simp; omega) (by omega), hc]
  have : (BitVec.ofNat 32 t).toNat = t := by simp; omega
  rw [this, show 1024 * t + 256 * ks = 256 * (4 * t + ks) by ring]

theorem valForm {x c : BitVec 32} (t h o : ℕ) (ht : t < 8) (hx : x = BitVec.ofNat 32 t) (hh : h < 2) (hc : c.toNat = h) :
    (![0, 0, (Scalar.indexCast (Scalar.addi (Scalar.muli x 2#32) c)).toNat, 0, o] : Fin 5 → ℕ) = ![0, 0, 2 * t + h, 0, o] := by
  subst hx
  rw [valOff (by simp; omega) (by omega), hc]
  have : (BitVec.ofNat 32 t).toNat = t := by simp; omega
  rw [this]

theorem add_one_form (t : ℕ) : Scalar.addi (BitVec.ofNat 32 t) 1#32 = BitVec.ofNat 32 (t + 1) := by
  unfold Scalar.addi IntOp.addi
  apply BitVec.eq_of_toNat_eq
  simp

section
variable (hw : w.toNat < 2 ^ 31) (k : Fin (k0_t1_loop i w).trips)
include hw

theorem trip_lt : w.toNat / 4 + 1 + k.val < (i 2).val := by
  have := lt_of_lt_of_eq k.isLt (t1_trips i hw)
  omega

theorem off19_form (c : BitVec 32) (ks : ℕ) (hks : ks < 4) (hc : c.toNat = 256 * ks) :
    k0_off19 i w k c = ![0, 0, 256 * (4 * (w.toNat / 4 + 1 + k.val) + ks), 0] := by
  have h1 := trip_lt i hw k
  have h2 := i2_lt i
  exact keyForm _ ks (by omega) (iv_eq hw k.val (by omega)) hks hc

theorem off22_form : k0_off22 i w k = ![0, 0, 256 * (4 * (w.toNat / 4 + 1 + k.val + 1) + 0), 0] := by
  have h1 := trip_lt i hw k
  have h2 := i2_lt i
  exact keyForm (c := 0#32) (w.toNat / 4 + 1 + k.val + 1) 0 (by omega) ((congrArg (Scalar.addi · 1#32) (iv_eq hw k.val (by omega))).trans (add_one_form _)) (by omega) rfl

theorem off20_form (c : BitVec 32) (h : ℕ) (hh : h < 2) (hc : c.toNat = h) :
    k0_off20 i w k c = ![0, 0, 2 * (w.toNat / 4 + 1 + k.val) + h, 0, 0] := by
  have h1 := trip_lt i hw k
  have h2 := i2_lt i
  exact valForm _ h 0 (by omega) (iv_eq hw k.val (by omega)) hh hc

theorem off21_form (c : BitVec 32) (h : ℕ) (hh : h < 2) (hc : c.toNat = h) :
    k0_off21 i w k c = ![0, 0, 2 * (w.toNat / 4 + 1 + k.val) + h, 0, 256] := by
  have h1 := trip_lt i hw k
  have h2 := i2_lt i
  exact valForm _ h 256 (by omega) (iv_eq hw k.val (by omega)) hh hc

variable {x0 : Vec Ideal S1x1x128x1024 .bf16} {x1 : Vec Ideal S1x1x8192x128 .bf16} {x2 : Vec Ideal S1x1x16x80x512 .bf16}
  (c : Dev nD)
  {arg4 : Memref sig .tc .vmem S1x1x128x1024 .bf16} (harg4 : arg4.IsWhole)
  {arg5 : Memref sig .tc .vmem S1x1x8192x128 .bf16} (harg5 : arg5.IsWhole)
  {arg6 : Memref sig .tc .vmem S1x1x16x80x512 .bf16} (harg6 : arg6.IsWhole)
  {arg7 : Memref sig .tc .vmem S1x1x64x1024 .bf16} (harg7 : arg7.IsWhole)
  {arg8 : Memref sig .tc .vmem S1x1x64x1024 .bf16} (harg8 : arg8.IsWhole)
  (hchk : k0_chk1 i w) {arg2 v22 v32 v59 : BitVec 32}
  {lo : Fin 4 → ℕ} {acc : Carried} {q0 q1 q2 q3 : Vec Ideal S1x1x128x256 .bf16}

set_option maxHeartbeats 4000000 in
/-- A trip takes the states up to its tile to the states up to the next. -/
theorem trip_inv (hq0 : IsQ x0 0 q0) (hq1 : IsQ x0 1 q1) (hq2 : IsQ x0 2 q2) (hq3 : IsQ x0 3 q3)
    (h : Inv (i 2).val x0 x1 x2 lo (w.toNat / 4 + 1 + k.val) acc) :
    Inv (i 2).val x0 x1 x2 lo (w.toNat / 4 + 1 + k.val + 1)
      (tripR_k0_t1 (F := Ideal) .none c none i planM planM_whole arg4 harg4 arg5 harg5 arg6 harg6 arg7 harg7 arg8 harg8 arg2 w hchk v22 v32
        (k0_pay229 q0) q1 q2 q3 v59 (harg5.unread x1) (harg6.unread x2) k acc) := by
  have hlt := trip_lt i hw k
  have hi := i2_lt i
  have K0 := isK_at (x1 := x1) harg5 (off19_form i hw k 0#32 0 (by omega) rfl) (by omega)
  have K1 := isK_at (x1 := x1) harg5 (off19_form i hw k 256#32 1 (by omega) rfl) (by omega)
  have K2 := isK_at (x1 := x1) harg5 (off19_form i hw k 512#32 2 (by omega) rfl) (by omega)
  have K3 := isK_at (x1 := x1) harg5 (off19_form i hw k 768#32 3 (by omega) rfl) (by omega)
  have K4 := isK_at (x1 := x1) harg5 (off22_form i hw k) (by omega)
  have V0 := isV_at (x2 := x2) (n := 4 * (w.toNat / 4 + 1 + k.val)) harg6 (off20_form i hw k 0#32 0 (by omega) rfl) (by omega) (by omega) (by omega)
  have V1 := isV_at (x2 := x2) (n := 4 * (w.toNat / 4 + 1 + k.val) + 1) harg6 (off21_form i hw k 0#32 0 (by omega) rfl) (by omega) (by omega) (by omega)
  have V2 := isV_at (x2 := x2) (n := 4 * (w.toNat / 4 + 1 + k.val) + 2) harg6 (off20_form i hw k 1#32 1 (by omega) rfl) (by omega) (by omega) (by omega)
  have V3 := isV_at (x2 := x2) (n := 4 * (w.toNat / 4 + 1 + k.val) + 3) harg6 (off21_form i hw k 1#32 1 (by omega) rfl) (by omega) (by omega) (by omega)
  have f0 := step h.p0 (isS_of_isR (by show _ < 4 * (i 2).val + 0; omega) h.s) V0 rfl rfl
  have f0 := step f0 (isS_of_isR (by show _ < 4 * (i 2).val + 0; omega) (isR_of K1 hq0 rfl)) V1 rfl rfl
  have f0 := step f0 (isS_of_isR (by show _ < 4 * (i 2).val + 0; omega) (isR_of K2 hq0 rfl)) V2 rfl rfl
  have f0 := step f0 (isS_of_isR (by show _ < 4 * (i 2).val + 0; omega) (isR_of K3 hq0 rfl)) V3 rfl rfl
  have f1 := step h.p1 (isS_of_isR (by show _ < 4 * (i 2).val + 1; omega) (isR_of K0 hq1 rfl)) V0 rfl rfl
  have f1 := step f1 (isS_of_isR (by show _ < 4 * (i 2).val + 1; omega) (isR_of K1 hq1 rfl)) V1 rfl rfl
  have f1 := step f1 (isS_of_isR (by show _ < 4 * (i 2).val + 1; omega) (isR_of K2 hq1 rfl)) V2 rfl rfl
  have f1 := step f1 (isS_of_isR (by show _ < 4 * (i 2).val + 1; omega) (isR_of K3 hq1 rfl)) V3 rfl rfl
  have f2 := step h.p2 (isS_of_isR (by show _ < 4 * (i 2).val + 2; omega) (isR_of K0 hq2 rfl)) V0 rfl rfl
  have f2 := step f2 (isS_of_isR (by show _ < 4 * (i 2).val + 2; omega) (isR_of K1 hq2 rfl)) V1 rfl rfl
  have f2 := step f2 (isS_of_isR (by show _ < 4 * (i 2).val + 2; omega) (isR_of K2 hq2 rfl)) V2 rfl rfl
  have f2 := step f2 (isS_of_isR (by show _ < 4 * (i 2).val + 2; omega) (isR_of K3 hq2 rfl)) V3 rfl rfl
  have f3 := step h.p3 (isS_of_isR (by show _ < 4 * (i 2).val + 3; omega) (isR_of K0 hq3 rfl)) V0 rfl rfl
  have f3 := step f3 (isS_of_isR (by show _ < 4 * (i 2).val + 3; omega) (isR_of K1 hq3 rfl)) V1 rfl rfl
  have f3 := step f3 (isS_of_isR (by show _ < 4 * (i 2).val + 3; omega) (isR_of K2 hq3 rfl)) V2 rfl rfl
  have f3 := step f3 (isS_of_isR (by show _ < 4 * (i 2).val + 3; omega) (isR_of K3 hq3 rfl)) V3 rfl rfl
  have fs := isR_of K4 hq0 rfl
  unfold tripR_k0_t1 trip_k0_t1
  exact ⟨fs, f0, f1, f2, f3⟩

/-- The loop's trips take the states up to the tile after the plan's first to the states up to the query's own. -/
theorem loop_inv {init : Carried} (hfirst : w.toNat / 4 < (i 2).val) (hq0 : IsQ x0 0 q0) (hq1 : IsQ x0 1 q1) (hq2 : IsQ x0 2 q2) (hq3 : IsQ x0 3 q3)
    (h : Inv (i 2).val x0 x1 x2 lo (w.toNat / 4 + 1) init) :
    Inv (i 2).val x0 x1 x2 lo (i 2).val
      (st_k0_t1 (F := Ideal) .none c none i planM planM_whole arg4 harg4 arg5 harg5 arg6 harg6 arg7 harg7 arg8 harg8 arg2 w hchk v22 v32
        (k0_pay229 q0) q1 q2 q3 v59 (harg5.unread x1) (harg6.unread x2) init (k0_t1_loop i w).trips) := by
  have key : ∀ n, n ≤ (k0_t1_loop i w).trips → Inv (i 2).val x0 x1 x2 lo (w.toNat / 4 + 1 + n)
      (st_k0_t1 (F := Ideal) .none c none i planM planM_whole arg4 harg4 arg5 harg5 arg6 harg6 arg7 harg7 arg8 harg8 arg2 w hchk v22 v32
        (k0_pay229 q0) q1 q2 q3 v59 (harg5.unread x1) (harg6.unread x2) init n) := by
    intro n
    induction n with
    | zero => intro _; rw [st_k0_t1_zero]; exact h
    | succ n ih =>
      intro hn
      have := trip_inv i hw ⟨n, hn⟩ c harg4 harg5 harg6 harg7 harg8 hchk hq0 hq1 hq2 hq3 (ih (by omega)) (arg2 := arg2) (v22 := v22) (v32 := v32) (v59 := v59)
      rw [st_k0_t1_succ _ _ _ _ _ _ _ _ _ _ _ _ _ _ _ _ _ _ _ _ _ _ _ _ _ _ _ _ _ ⟨n, hn⟩]
      exact this
  have := key _ le_rfl
  rw [t1_trips i hw] at this
  rw [t1_trips i hw]
  have e : w.toNat / 4 + 1 + ((i 2).val - (w.toNat / 4 + 1)) = (i 2).val := by omega
  rw [e] at this
  exact this

end

end Cert.KernelIdeal.Fox

end
-- ==== Proof.Ideal.RunA.lean ====
module

public import proofs.«01_k».proof.Proof.Ideal.Kit

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body where the plan keeps the query tile's own tile alone: what it stores, and that it runs and stores it. -/
def run_A (c : Dev nD) (i : grid0.Coords)
    (arg4 : Memref sig .tc .vmem S1x1x128x1024 .bf16) (harg4 : arg4.IsWhole)
    (arg5 : Memref sig .tc .vmem S1x1x8192x128 .bf16) (harg5 : arg5.IsWhole)
    (arg6 : Memref sig .tc .vmem S1x1x16x80x512 .bf16) (harg6 : arg6.IsWhole)
    (arg7 : Memref sig .tc .vmem S1x1x64x1024 .bf16) (harg7 : arg7.IsWhole)
    (arg8 : Memref sig .tc .vmem S1x1x64x1024 .bf16) (harg8 : arg8.IsWhole)
    (x0 : Vec F S1x1x128x1024 .bf16) (x1 : Vec F S1x1x8192x128 .bf16) (x2 : Vec F S1x1x16x80x512 .bf16)
    (x3 : Vec F S1x1x64x1024 .bf16) (xt : PlanBuf (F := F) c planM) (hw : k0_chk1 i (wordAt c i xt))
    (h1 : ¬ k0_cond1 i (wordAt c i xt) = 1#1) :
    { L : List (View.Piece (Elt F) S1x1x64x1024 .bf16) //
      ∀ (E : Set ℕ) (K : PUnit → sProp 𝕄),
        iprop(owns (c : Thread nD τ) arg4 fullShare x0 ∗ owns (c : Thread nD τ) arg5 fullShare x1
            ∗ owns (c : Thread nD τ) arg6 fullShare x2 ∗ owns (c : Thread nD τ) arg7 fullShare x3
            ∗ (∃ d, owns (c : Thread nD τ) arg8 fullShare d) ∗ planPt c planM xt
            ∗ (iprop(owns (c : Thread nD τ) arg4 fullShare x0 ∗ owns (c : Thread nD τ) arg5 fullShare x1
                ∗ owns (c : Thread nD τ) arg6 fullShare x2 ∗ owns (c : Thread nD τ) arg7 fullShare x3
                ∗ (∃ f, arg8.view.loc (c : Thread nD τ) ↦[arg8.view.set]{fullShare} arg8.view.writes (Elt F) f L)
                ∗ planPt c planM xt) -∗ K ⟨⟩))
          ⊢ wp frame (wpE (defs₀ (F := F)) Variants.none c none) E
              (cc0_fox_attention i planM planM_whole arg4 harg4 arg5 harg5 arg6 harg6 arg7 harg7 arg8 harg8) K } := by
  refine ⟨?_, fun E K => ?run⟩
  case run =>
    simp only [cc0_fox_attention_eq_skeleton]; unfold cc0_fox_attention_skel
    simp only [k0_part43_eq_skeleton, k0_part44_eq_skeleton, k0_part45_eq_skeleton, k0_part46_eq_skeleton,
      k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%d4, %f4, -, H4⟩, HT0, Hk⟩
    obtain rfl := harg4.eq_unread hf0; obtain rfl := harg5.eq_unread hf1
    obtain rfl := harg6.eq_unread hf2; obtain rfl := harg7.eq_unread hf3
    sl_exec (disch := first | sl_exact h1 | sl_exact hw)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; iexact H4
    iexact HT0

end Cert.KernelIdeal.Fox

end
-- ==== Proof.Ideal.RunB.lean ====
module

public import proofs.«01_k».proof.Proof.Ideal.RunA

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body where the plan keeps all of its first tile: what it stores, and that it runs and stores it. -/
def run_B (c : Dev nD) (i : grid0.Coords)
    (arg4 : Memref sig .tc .vmem S1x1x128x1024 .bf16) (harg4 : arg4.IsWhole)
    (arg5 : Memref sig .tc .vmem S1x1x8192x128 .bf16) (harg5 : arg5.IsWhole)
    (arg6 : Memref sig .tc .vmem S1x1x16x80x512 .bf16) (harg6 : arg6.IsWhole)
    (arg7 : Memref sig .tc .vmem S1x1x64x1024 .bf16) (harg7 : arg7.IsWhole)
    (arg8 : Memref sig .tc .vmem S1x1x64x1024 .bf16) (harg8 : arg8.IsWhole)
    (x0 : Vec F S1x1x128x1024 .bf16) (x1 : Vec F S1x1x8192x128 .bf16) (x2 : Vec F S1x1x16x80x512 .bf16)
    (x3 : Vec F S1x1x64x1024 .bf16) (xt : PlanBuf (F := F) c planM) (hw : k0_chk1 i (wordAt c i xt))
    (h1 : k0_cond1 i (wordAt c i xt) = 1#1)
    (h2 : ¬ k0_cond2 i (wordAt c i xt) = 1#1) :
    { L : List (View.Piece (Elt F) S1x1x64x1024 .bf16) //
      ∀ (E : Set ℕ) (K : PUnit → sProp 𝕄),
        iprop(owns (c : Thread nD τ) arg4 fullShare x0 ∗ owns (c : Thread nD τ) arg5 fullShare x1
            ∗ owns (c : Thread nD τ) arg6 fullShare x2 ∗ owns (c : Thread nD τ) arg7 fullShare x3
            ∗ (∃ d, owns (c : Thread nD τ) arg8 fullShare d) ∗ planPt c planM xt
            ∗ (iprop(owns (c : Thread nD τ) arg4 fullShare x0 ∗ owns (c : Thread nD τ) arg5 fullShare x1
                ∗ owns (c : Thread nD τ) arg6 fullShare x2 ∗ owns (c : Thread nD τ) arg7 fullShare x3
                ∗ (∃ f, arg8.view.loc (c : Thread nD τ) ↦[arg8.view.set]{fullShare} arg8.view.writes (Elt F) f L)
                ∗ planPt c planM xt) -∗ K ⟨⟩))
          ⊢ wp frame (wpE (defs₀ (F := F)) Variants.none c none) E
              (cc0_fox_attention i planM planM_whole arg4 harg4 arg5 harg5 arg6 harg6 arg7 harg7 arg8 harg8) K } := by
  refine ⟨?_, fun E K => ?run⟩
  case run =>
    simp only [cc0_fox_attention_eq_skeleton]; unfold cc0_fox_attention_skel
    simp only [k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%d4, %f4, -, H4⟩, HT0, Hk⟩
    obtain rfl := harg4.eq_unread hf0; obtain rfl := harg5.eq_unread hf1
    obtain rfl := harg6.eq_unread hf2; obtain rfl := harg7.eq_unread hf3
    sl_exec (disch := first | sl_exact h1 | sl_exact h2 | sl_exact hw)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; iexact H4
    iexact HT0

end Cert.KernelIdeal.Fox

end
-- ==== Proof.Ideal.RunC.lean ====
module

public import proofs.«01_k».proof.Proof.Ideal.RunB

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body where the plan keeps its first tile's sub-blocks on and below the diagonal: what it stores, and that it runs and stores it. -/
def run_C (c : Dev nD) (i : grid0.Coords)
    (arg4 : Memref sig .tc .vmem S1x1x128x1024 .bf16) (harg4 : arg4.IsWhole)
    (arg5 : Memref sig .tc .vmem S1x1x8192x128 .bf16) (harg5 : arg5.IsWhole)
    (arg6 : Memref sig .tc .vmem S1x1x16x80x512 .bf16) (harg6 : arg6.IsWhole)
    (arg7 : Memref sig .tc .vmem S1x1x64x1024 .bf16) (harg7 : arg7.IsWhole)
    (arg8 : Memref sig .tc .vmem S1x1x64x1024 .bf16) (harg8 : arg8.IsWhole)
    (x0 : Vec F S1x1x128x1024 .bf16) (x1 : Vec F S1x1x8192x128 .bf16) (x2 : Vec F S1x1x16x80x512 .bf16)
    (x3 : Vec F S1x1x64x1024 .bf16) (xt : PlanBuf (F := F) c planM) (hw : k0_chk1 i (wordAt c i xt))
    (h1 : k0_cond1 i (wordAt c i xt) = 1#1)
    (h2 : k0_cond2 i (wordAt c i xt) = 1#1)
    (h3 : ¬ k0_cond3 i (wordAt c i xt) = 1#1) :
    { L : List (View.Piece (Elt F) S1x1x64x1024 .bf16) //
      ∀ (E : Set ℕ) (K : PUnit → sProp 𝕄),
        iprop(owns (c : Thread nD τ) arg4 fullShare x0 ∗ owns (c : Thread nD τ) arg5 fullShare x1
            ∗ owns (c : Thread nD τ) arg6 fullShare x2 ∗ owns (c : Thread nD τ) arg7 fullShare x3
            ∗ (∃ d, owns (c : Thread nD τ) arg8 fullShare d) ∗ planPt c planM xt
            ∗ (iprop(owns (c : Thread nD τ) arg4 fullShare x0 ∗ owns (c : Thread nD τ) arg5 fullShare x1
                ∗ owns (c : Thread nD τ) arg6 fullShare x2 ∗ owns (c : Thread nD τ) arg7 fullShare x3
                ∗ (∃ f, arg8.view.loc (c : Thread nD τ) ↦[arg8.view.set]{fullShare} arg8.view.writes (Elt F) f L)
                ∗ planPt c planM xt) -∗ K ⟨⟩))
          ⊢ wp frame (wpE (defs₀ (F := F)) Variants.none c none) E
              (cc0_fox_attention i planM planM_whole arg4 harg4 arg5 harg5 arg6 harg6 arg7 harg7 arg8 harg8) K } := by
  refine ⟨?_, fun E K => ?run⟩
  case run =>
    simp only [cc0_fox_attention_eq_skeleton]; unfold cc0_fox_attention_skel
    simp only [k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%d4, %f4, -, H4⟩, HT0, Hk⟩
    obtain rfl := harg4.eq_unread hf0; obtain rfl := harg5.eq_unread hf1
    obtain rfl := harg6.eq_unread hf2; obtain rfl := harg7.eq_unread hf3
    sl_exec (disch := first | sl_exact h1 | sl_exact h2 | sl_exact h3 | sl_exact hw)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; iexact H4
    iexact HT0

end Cert.KernelIdeal.Fox

end
-- ==== Proof.Ideal.RunD.lean ====
module

public import proofs.«01_k».proof.Proof.Ideal.RunC

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body where the plan keeps its first tile's sub-blocks below the diagonal: what it stores, and that it runs and stores it. -/
def run_D (c : Dev nD) (i : grid0.Coords)
    (arg4 : Memref sig .tc .vmem S1x1x128x1024 .bf16) (harg4 : arg4.IsWhole)
    (arg5 : Memref sig .tc .vmem S1x1x8192x128 .bf16) (harg5 : arg5.IsWhole)
    (arg6 : Memref sig .tc .vmem S1x1x16x80x512 .bf16) (harg6 : arg6.IsWhole)
    (arg7 : Memref sig .tc .vmem S1x1x64x1024 .bf16) (harg7 : arg7.IsWhole)
    (arg8 : Memref sig .tc .vmem S1x1x64x1024 .bf16) (harg8 : arg8.IsWhole)
    (x0 : Vec F S1x1x128x1024 .bf16) (x1 : Vec F S1x1x8192x128 .bf16) (x2 : Vec F S1x1x16x80x512 .bf16)
    (x3 : Vec F S1x1x64x1024 .bf16) (xt : PlanBuf (F := F) c planM) (hw : k0_chk1 i (wordAt c i xt))
    (h1 : k0_cond1 i (wordAt c i xt) = 1#1)
    (h2 : k0_cond2 i (wordAt c i xt) = 1#1)
    (h3 : k0_cond3 i (wordAt c i xt) = 1#1)
    (h4 : ¬ k0_cond4 i (wordAt c i xt) = 1#1) :
    { L : List (View.Piece (Elt F) S1x1x64x1024 .bf16) //
      ∀ (E : Set ℕ) (K : PUnit → sProp 𝕄),
        iprop(owns (c : Thread nD τ) arg4 fullShare x0 ∗ owns (c : Thread nD τ) arg5 fullShare x1
            ∗ owns (c : Thread nD τ) arg6 fullShare x2 ∗ owns (c : Thread nD τ) arg7 fullShare x3
            ∗ (∃ d, owns (c : Thread nD τ) arg8 fullShare d) ∗ planPt c planM xt
            ∗ (iprop(owns (c : Thread nD τ) arg4 fullShare x0 ∗ owns (c : Thread nD τ) arg5 fullShare x1
                ∗ owns (c : Thread nD τ) arg6 fullShare x2 ∗ owns (c : Thread nD τ) arg7 fullShare x3
                ∗ (∃ f, arg8.view.loc (c : Thread nD τ) ↦[arg8.view.set]{fullShare} arg8.view.writes (Elt F) f L)
                ∗ planPt c planM xt) -∗ K ⟨⟩))
          ⊢ wp frame (wpE (defs₀ (F := F)) Variants.none c none) E
              (cc0_fox_attention i planM planM_whole arg4 harg4 arg5 harg5 arg6 harg6 arg7 harg7 arg8 harg8) K } := by
  refine ⟨?_, fun E K => ?run⟩
  case run =>
    simp only [cc0_fox_attention_eq_skeleton]; unfold cc0_fox_attention_skel
    simp only [k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, HT0, Hk⟩
    obtain rfl := harg4.eq_unread hf0; obtain rfl := harg5.eq_unread hf1
    obtain rfl := harg6.eq_unread hf2; obtain rfl := harg7.eq_unread hf3
    sl_exec (disch := first | sl_exact h1 | sl_exact h2 | sl_exact h3 | sl_exact h4 | sl_exact hw)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; iexact H4
    iexact HT0

end Cert.KernelIdeal.Fox

end
-- ==== Proof.Ideal.RunE.lean ====
module

public import proofs.«01_k».proof.Proof.Ideal.RunD

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body where the plan keeps its first tile's sub-blocks two below the diagonal: what it stores, and that it runs and stores it. -/
def run_E (c : Dev nD) (i : grid0.Coords)
    (arg4 : Memref sig .tc .vmem S1x1x128x1024 .bf16) (harg4 : arg4.IsWhole)
    (arg5 : Memref sig .tc .vmem S1x1x8192x128 .bf16) (harg5 : arg5.IsWhole)
    (arg6 : Memref sig .tc .vmem S1x1x16x80x512 .bf16) (harg6 : arg6.IsWhole)
    (arg7 : Memref sig .tc .vmem S1x1x64x1024 .bf16) (harg7 : arg7.IsWhole)
    (arg8 : Memref sig .tc .vmem S1x1x64x1024 .bf16) (harg8 : arg8.IsWhole)
    (x0 : Vec F S1x1x128x1024 .bf16) (x1 : Vec F S1x1x8192x128 .bf16) (x2 : Vec F S1x1x16x80x512 .bf16)
    (x3 : Vec F S1x1x64x1024 .bf16) (xt : PlanBuf (F := F) c planM) (hw : k0_chk1 i (wordAt c i xt))
    (h1 : k0_cond1 i (wordAt c i xt) = 1#1)
    (h2 : k0_cond2 i (wordAt c i xt) = 1#1)
    (h3 : k0_cond3 i (wordAt c i xt) = 1#1)
    (h4 : k0_cond4 i (wordAt c i xt) = 1#1) :
    { L : List (View.Piece (Elt F) S1x1x64x1024 .bf16) //
      ∀ (E : Set ℕ) (K : PUnit → sProp 𝕄),
        iprop(owns (c : Thread nD τ) arg4 fullShare x0 ∗ owns (c : Thread nD τ) arg5 fullShare x1
            ∗ owns (c : Thread nD τ) arg6 fullShare x2 ∗ owns (c : Thread nD τ) arg7 fullShare x3
            ∗ (∃ d, owns (c : Thread nD τ) arg8 fullShare d) ∗ planPt c planM xt
            ∗ (iprop(owns (c : Thread nD τ) arg4 fullShare x0 ∗ owns (c : Thread nD τ) arg5 fullShare x1
                ∗ owns (c : Thread nD τ) arg6 fullShare x2 ∗ owns (c : Thread nD τ) arg7 fullShare x3
                ∗ (∃ f, arg8.view.loc (c : Thread nD τ) ↦[arg8.view.set]{fullShare} arg8.view.writes (Elt F) f L)
                ∗ planPt c planM xt) -∗ K ⟨⟩))
          ⊢ wp frame (wpE (defs₀ (F := F)) Variants.none c none) E
              (cc0_fox_attention i planM planM_whole arg4 harg4 arg5 harg5 arg6 harg6 arg7 harg7 arg8 harg8) K } := by
  refine ⟨?_, fun E K => ?run⟩
  case run =>
    simp only [cc0_fox_attention_eq_skeleton]; unfold cc0_fox_attention_skel
    simp only [k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, HT0, Hk⟩
    obtain rfl := harg4.eq_unread hf0; obtain rfl := harg5.eq_unread hf1
    obtain rfl := harg6.eq_unread hf2; obtain rfl := harg7.eq_unread hf3
    sl_exec (disch := first | sl_exact h1 | sl_exact h2 | sl_exact h3 | sl_exact h4 | sl_exact hw)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; iexact H4
    iexact HT0

end Cert.KernelIdeal.Fox

end
-- ==== Proof.Ideal.Frame.lean ====
/- The attention call's launch: what each point of the grid leaves in the result's staging buffer, the pipeline's
   proof data, the body's obligation at every point, the run, and that the arguments end unchanged. -/
module

public import proofs.«01_k».proof.Proof.Ideal.RunE
public import proofs.«01_k».proof.Proof.Ideal.Chk
public import Idealize.ShloMosaic.Lib.Claim
public import Idealize.ShloMosaic.Lib.Ring
public import Idealize.ShloMosaic.Lib.Pipeline.ValueKit

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem cover_one (w : S1x1x64x1024.Idx → Elt F .bf16) (y : S1x1x64x1024.Idx) :
    ∃ p ∈ [(⟨Rect.unit (s := S1x1x64x1024) ![0, 0, 0, 0] ![1, 1, 64, 1024] inb_S1x1x64x1024_S1x1x64x1024_0_0_0_0, w⟩ :
      View.Piece (Elt F) S1x1x64x1024 .bf16)], y ∈ p.1.set := by
  refine ⟨_, List.mem_singleton_self _, ?_⟩
  change y ∈ (Rect.unit (s := S1x1x64x1024) ![0, 0, 0, 0] ![1, 1, 64, 1024] inb_S1x1x64x1024_S1x1x64x1024_0_0_0_0).set
  rw [Rect.mem_set_unit]
  intro a
  have h : (![0, 0, 0, 0] : Fin 4 → Nat) a = 0 := by fin_cases a <;> rfl
  have h' : (![1, 1, 64, 1024] : Fin 4 → Nat) a = S1x1x64x1024.size a := by fin_cases a <;> rfl
  rw [h, h']
  exact ⟨Nat.zero_le _, by rw [Nat.zero_add]; exact (y a).isLt⟩

section body
variable (c : Dev nD) (i : grid0.Coords)
    (arg4 : Memref sig .tc .vmem S1x1x128x1024 .bf16) (harg4 : arg4.IsWhole)
    (arg5 : Memref sig .tc .vmem S1x1x8192x128 .bf16) (harg5 : arg5.IsWhole)
    (arg6 : Memref sig .tc .vmem S1x1x16x80x512 .bf16) (harg6 : arg6.IsWhole)
    (arg7 : Memref sig .tc .vmem S1x1x64x1024 .bf16) (harg7 : arg7.IsWhole)
    (arg8 : Memref sig .tc .vmem S1x1x64x1024 .bf16) (harg8 : arg8.IsWhole)
    (x0 : Vec F S1x1x128x1024 .bf16) (x1 : Vec F S1x1x8192x128 .bf16) (x2 : Vec F S1x1x16x80x512 .bf16)
    (x3 : Vec F S1x1x64x1024 .bf16) (xt : PlanBuf (F := F) c planM) (hw : k0_chk1 i (wordAt c i xt))

theorem cover_A (h1 : ¬ k0_cond1 i (wordAt c i xt) = 1#1) (y : S1x1x64x1024.Idx) :
    ∃ p ∈ (run_A c i arg4 harg4 arg5 harg5 arg6 harg6 arg7 harg7 arg8 harg8 x0 x1 x2 x3 xt hw h1).1, y ∈ p.1.set := by
  unfold run_A
  exact cover_one _ y

theorem cover_B (h1 : k0_cond1 i (wordAt c i xt) = 1#1) (h2 : ¬ k0_cond2 i (wordAt c i xt) = 1#1) (y : S1x1x64x1024.Idx) :
    ∃ p ∈ (run_B c i arg4 harg4 arg5 harg5 arg6 harg6 arg7 harg7 arg8 harg8 x0 x1 x2 x3 xt hw h1 h2).1, y ∈ p.1.set := by
  unfold run_B
  exact cover_one _ y

theorem cover_C (h1 : k0_cond1 i (wordAt c i xt) = 1#1) (h2 : k0_cond2 i (wordAt c i xt) = 1#1) (h3 : ¬ k0_cond3 i (wordAt c i xt) = 1#1) (y : S1x1x64x1024.Idx) :
    ∃ p ∈ (run_C c i arg4 harg4 arg5 harg5 arg6 harg6 arg7 harg7 arg8 harg8 x0 x1 x2 x3 xt hw h1 h2 h3).1, y ∈ p.1.set := by
  unfold run_C
  exact cover_one _ y

theorem cover_D (h1 : k0_cond1 i (wordAt c i xt) = 1#1) (h2 : k0_cond2 i (wordAt c i xt) = 1#1) (h3 : k0_cond3 i (wordAt c i xt) = 1#1) (h4 : ¬ k0_cond4 i (wordAt c i xt) = 1#1) (y : S1x1x64x1024.Idx) :
    ∃ p ∈ (run_D c i arg4 harg4 arg5 harg5 arg6 harg6 arg7 harg7 arg8 harg8 x0 x1 x2 x3 xt hw h1 h2 h3 h4).1, y ∈ p.1.set := by
  unfold run_D
  exact cover_one _ y

theorem cover_E (h1 : k0_cond1 i (wordAt c i xt) = 1#1) (h2 : k0_cond2 i (wordAt c i xt) = 1#1) (h3 : k0_cond3 i (wordAt c i xt) = 1#1) (h4 : k0_cond4 i (wordAt c i xt) = 1#1) (y : S1x1x64x1024.Idx) :
    ∃ p ∈ (run_E c i arg4 harg4 arg5 harg5 arg6 harg6 arg7 harg7 arg8 harg8 x0 x1 x2 x3 xt hw h1 h2 h3 h4).1, y ∈ p.1.set := by
  unfold run_E
  exact cover_one _ y

open Classical in
/-- What the body stores, in the five cases of its branch. -/
def pieces : List (View.Piece (Elt F) S1x1x64x1024 .bf16) :=
  if h1 : k0_cond1 i (wordAt c i xt) = 1#1 then
    if h2 : k0_cond2 i (wordAt c i xt) = 1#1 then
      if h3 : k0_cond3 i (wordAt c i xt) = 1#1 then
        if h4 : k0_cond4 i (wordAt c i xt) = 1#1 then (run_E c i arg4 harg4 arg5 harg5 arg6 harg6 arg7 harg7 arg8 harg8 x0 x1 x2 x3 xt hw h1 h2 h3 h4).1
        else (run_D c i arg4 harg4 arg5 harg5 arg6 harg6 arg7 harg7 arg8 harg8 x0 x1 x2 x3 xt hw h1 h2 h3 h4).1
      else (run_C c i arg4 harg4 arg5 harg5 arg6 harg6 arg7 harg7 arg8 harg8 x0 x1 x2 x3 xt hw h1 h2 h3).1
    else (run_B c i arg4 harg4 arg5 harg5 arg6 harg6 arg7 harg7 arg8 harg8 x0 x1 x2 x3 xt hw h1 h2).1
  else (run_A c i arg4 harg4 arg5 harg5 arg6 harg6 arg7 harg7 arg8 harg8 x0 x1 x2 x3 xt hw h1).1

theorem pieces_A (h1 : ¬ k0_cond1 i (wordAt c i xt) = 1#1) : pieces c i arg4 harg4 arg5 harg5 arg6 harg6 arg7 harg7 arg8 harg8 x0 x1 x2 x3 xt hw = (run_A c i arg4 harg4 arg5 harg5 arg6 harg6 arg7 harg7 arg8 harg8 x0 x1 x2 x3 xt hw h1).1 := by
  unfold pieces
  rw [dif_neg h1]

theorem pieces_B (h1 : k0_cond1 i (wordAt c i xt) = 1#1) (h2 : ¬ k0_cond2 i (wordAt c i xt) = 1#1) : pieces c i arg4 harg4 arg5 harg5 arg6 harg6 arg7 harg7 arg8 harg8 x0 x1 x2 x3 xt hw = (run_B c i arg4 harg4 arg5 harg5 arg6 harg6 arg7 harg7 arg8 harg8 x0 x1 x2 x3 xt hw h1 h2).1 := by
  unfold pieces
  rw [dif_pos h1, dif_neg h2]

theorem pieces_C (h1 : k0_cond1 i (wordAt c i xt) = 1#1) (h2 : k0_cond2 i (wordAt c i xt) = 1#1) (h3 : ¬ k0_cond3 i (wordAt c i xt) = 1#1) : pieces c i arg4 harg4 arg5 harg5 arg6 harg6 arg7 harg7 arg8 harg8 x0 x1 x2 x3 xt hw = (run_C c i arg4 harg4 arg5 harg5 arg6 harg6 arg7 harg7 arg8 harg8 x0 x1 x2 x3 xt hw h1 h2 h3).1 := by
  unfold pieces
  rw [dif_pos h1, dif_pos h2, dif_neg h3]

theorem pieces_D (h1 : k0_cond1 i (wordAt c i xt) = 1#1) (h2 : k0_cond2 i (wordAt c i xt) = 1#1) (h3 : k0_cond3 i (wordAt c i xt) = 1#1) (h4 : ¬ k0_cond4 i (wordAt c i xt) = 1#1) : pieces c i arg4 harg4 arg5 harg5 arg6 harg6 arg7 harg7 arg8 harg8 x0 x1 x2 x3 xt hw = (run_D c i arg4 harg4 arg5 harg5 arg6 harg6 arg7 harg7 arg8 harg8 x0 x1 x2 x3 xt hw h1 h2 h3 h4).1 := by
  unfold pieces
  rw [dif_pos h1, dif_pos h2, dif_pos h3, dif_neg h4]

theorem pieces_E (h1 : k0_cond1 i (wordAt c i xt) = 1#1) (h2 : k0_cond2 i (wordAt c i xt) = 1#1) (h3 : k0_cond3 i (wordAt c i xt) = 1#1) (h4 : k0_cond4 i (wordAt c i xt) = 1#1) : pieces c i arg4 harg4 arg5 harg5 arg6 harg6 arg7 harg7 arg8 harg8 x0 x1 x2 x3 xt hw = (run_E c i arg4 harg4 arg5 harg5 arg6 harg6 arg7 harg7 arg8 harg8 x0 x1 x2 x3 xt hw h1 h2 h3 h4).1 := by
  unfold pieces
  rw [dif_pos h1, dif_pos h2, dif_pos h3, dif_pos h4]

theorem pieces_cover (y : S1x1x64x1024.Idx) : ∃ p ∈ pieces c i arg4 harg4 arg5 harg5 arg6 harg6 arg7 harg7 arg8 harg8 x0 x1 x2 x3 xt hw, y ∈ p.1.set := by
  by_cases h1 : k0_cond1 i (wordAt c i xt) = 1#1
  · by_cases h2 : k0_cond2 i (wordAt c i xt) = 1#1
    · by_cases h3 : k0_cond3 i (wordAt c i xt) = 1#1
      · by_cases h4 : k0_cond4 i (wordAt c i xt) = 1#1
        · rw [pieces_E c i arg4 harg4 arg5 harg5 arg6 harg6 arg7 harg7 arg8 harg8 x0 x1 x2 x3 xt hw h1 h2 h3 h4]; exact cover_E c i arg4 harg4 arg5 harg5 arg6 harg6 arg7 harg7 arg8 harg8 x0 x1 x2 x3 xt hw h1 h2 h3 h4 y
        · rw [pieces_D c i arg4 harg4 arg5 harg5 arg6 harg6 arg7 harg7 arg8 harg8 x0 x1 x2 x3 xt hw h1 h2 h3 h4]; exact cover_D c i arg4 harg4 arg5 harg5 arg6 harg6 arg7 harg7 arg8 harg8 x0 x1 x2 x3 xt hw h1 h2 h3 h4 y
      · rw [pieces_C c i arg4 harg4 arg5 harg5 arg6 harg6 arg7 harg7 arg8 harg8 x0 x1 x2 x3 xt hw h1 h2 h3]; exact cover_C c i arg4 harg4 arg5 harg5 arg6 harg6 arg7 harg7 arg8 harg8 x0 x1 x2 x3 xt hw h1 h2 h3 y
    · rw [pieces_B c i arg4 harg4 arg5 harg5 arg6 harg6 arg7 harg7 arg8 harg8 x0 x1 x2 x3 xt hw h1 h2]; exact cover_B c i arg4 harg4 arg5 harg5 arg6 harg6 arg7 harg7 arg8 harg8 x0 x1 x2 x3 xt hw h1 h2 y
  · rw [pieces_A c i arg4 harg4 arg5 harg5 arg6 harg6 arg7 harg7 arg8 harg8 x0 x1 x2 x3 xt hw h1]; exact cover_A c i arg4 harg4 arg5 harg5 arg6 harg6 arg7 harg7 arg8 harg8 x0 x1 x2 x3 xt hw h1 y

/-- The block the body leaves in the result's staging buffer. -/
def outVal : Vec F S1x1x64x1024 .bf16 := View.canon (pieces c i arg4 harg4 arg5 harg5 arg6 harg6 arg7 harg7 arg8 harg8 x0 x1 x2 x3 xt hw)

/-- The body's triple: the inputs' buffers unchanged, the result's at `outVal`. -/
theorem body_run :
      ∀ (E : Set ℕ) (K : PUnit → sProp 𝕄),
        iprop(owns (c : Thread nD τ) arg4 fullShare x0 ∗ owns (c : Thread nD τ) arg5 fullShare x1
            ∗ owns (c : Thread nD τ) arg6 fullShare x2 ∗ owns (c : Thread nD τ) arg7 fullShare x3
            ∗ (∃ d, owns (c : Thread nD τ) arg8 fullShare d) ∗ planPt c planM xt
            ∗ (iprop(owns (c : Thread nD τ) arg4 fullShare x0 ∗ owns (c : Thread nD τ) arg5 fullShare x1
                ∗ owns (c : Thread nD τ) arg6 fullShare x2 ∗ owns (c : Thread nD τ) arg7 fullShare x3
                ∗ owns (c : Thread nD τ) arg8 fullShare (outVal c i arg4 harg4 arg5 harg5 arg6 harg6 arg7 harg7 arg8 harg8 x0 x1 x2 x3 xt hw)
                ∗ planPt c planM xt) -∗ K ⟨⟩))
          ⊢ wp frame (wpE (defs₀ (F := F)) Variants.none c none) E
              (cc0_fox_attention i planM planM_whole arg4 harg4 arg5 harg5 arg6 harg6 arg7 harg7 arg8 harg8) K := by
  intro E K
  have hrun : iprop(owns (c : Thread nD τ) arg4 fullShare x0 ∗ owns (c : Thread nD τ) arg5 fullShare x1
            ∗ owns (c : Thread nD τ) arg6 fullShare x2 ∗ owns (c : Thread nD τ) arg7 fullShare x3
            ∗ (∃ d, owns (c : Thread nD τ) arg8 fullShare d) ∗ planPt c planM xt
            ∗ (iprop(owns (c : Thread nD τ) arg4 fullShare x0 ∗ owns (c : Thread nD τ) arg5 fullShare x1
                ∗ owns (c : Thread nD τ) arg6 fullShare x2 ∗ owns (c : Thread nD τ) arg7 fullShare x3
                ∗ (∃ f, arg8.view.loc (c : Thread nD τ) ↦[arg8.view.set]{fullShare} arg8.view.writes (Elt F) f (pieces c i arg4 harg4 arg5 harg5 arg6 harg6 arg7 harg7 arg8 harg8 x0 x1 x2 x3 xt hw))
                ∗ planPt c planM xt) -∗ K ⟨⟩))
          ⊢ wp frame (wpE (defs₀ (F := F)) Variants.none c none) E
              (cc0_fox_attention i planM planM_whole arg4 harg4 arg5 harg5 arg6 harg6 arg7 harg7 arg8 harg8) K := by
    by_cases h1 : k0_cond1 i (wordAt c i xt) = 1#1
    · by_cases h2 : k0_cond2 i (wordAt c i xt) = 1#1
      · by_cases h3 : k0_cond3 i (wordAt c i xt) = 1#1
        · by_cases h4 : k0_cond4 i (wordAt c i xt) = 1#1
          · rw [pieces_E c i arg4 harg4 arg5 harg5 arg6 harg6 arg7 harg7 arg8 harg8 x0 x1 x2 x3 xt hw h1 h2 h3 h4]; exact (run_E c i arg4 harg4 arg5 harg5 arg6 harg6 arg7 harg7 arg8 harg8 x0 x1 x2 x3 xt hw h1 h2 h3 h4).2 E K
          · rw [pieces_D c i arg4 harg4 arg5 harg5 arg6 harg6 arg7 harg7 arg8 harg8 x0 x1 x2 x3 xt hw h1 h2 h3 h4]; exact (run_D c i arg4 harg4 arg5 harg5 arg6 harg6 arg7 harg7 arg8 harg8 x0 x1 x2 x3 xt hw h1 h2 h3 h4).2 E K
        · rw [pieces_C c i arg4 harg4 arg5 harg5 arg6 harg6 arg7 harg7 arg8 harg8 x0 x1 x2 x3 xt hw h1 h2 h3]; exact (run_C c i arg4 harg4 arg5 harg5 arg6 harg6 arg7 harg7 arg8 harg8 x0 x1 x2 x3 xt hw h1 h2 h3).2 E K
      · rw [pieces_B c i arg4 harg4 arg5 harg5 arg6 harg6 arg7 harg7 arg8 harg8 x0 x1 x2 x3 xt hw h1 h2]; exact (run_B c i arg4 harg4 arg5 harg5 arg6 harg6 arg7 harg7 arg8 harg8 x0 x1 x2 x3 xt hw h1 h2).2 E K
    · rw [pieces_A c i arg4 harg4 arg5 harg5 arg6 harg6 arg7 harg7 arg8 harg8 x0 x1 x2 x3 xt hw h1]; exact (run_A c i arg4 harg4 arg5 harg5 arg6 harg6 arg7 harg7 arg8 harg8 x0 x1 x2 x3 xt hw h1).2 E K
  refine BIBase.Entails.trans ?_ hrun
  iintro ⟨H0, H1, H2, H3, H4, HT0, Hk⟩
  isplitl [H0]; · iexact H0
  isplitl [H1]; · iexact H1
  isplitl [H2]; · iexact H2
  isplitl [H3]; · iexact H3
  isplitl [H4]; · iexact H4
  isplitl [HT0]; · iexact HT0
  iintro ⟨H0, H1, H2, H3, ⟨%f, H4⟩, HT0⟩
  iapply Hk
  isplitl [H0]; · iexact H0
  isplitl [H1]; · iexact H1
  isplitl [H2]; · iexact H2
  isplitl [H3]; · iexact H3
  isplitl [H4]
  · unfold owns
    iexists (arg8.view.writes (Elt F) f (pieces c i arg4 harg4 arg5 harg5 arg6 harg6 arg7 harg7 arg8 harg8 x0 x1 x2 x3 xt hw))
    isplitr
    · ipureintro
      exact View.read_writes_eq_canon _ _ _ (pieces_cover c i arg4 harg4 arg5 harg5 arg6 harg6 arg7 harg7 arg8 harg8 x0 x1 x2 x3 xt hw)
    iexact H4
  iexact HT0

end body

variable (m : (ℓ : Loc nD τ sig) → Buf (Elt F) ℓ) (ρ : Dev nD → PrngReg)

/-- The result's block at point `t`. -/
def outAt (hW : WordsOk m) (c : Dev nD) (t : Fin (pipe m).N) : Vec F S1x1x64x1024 .bf16 :=
  outVal c (grid0.coords t) (mem_0 m t) (whole_0 m t) (mem_1 m t) (whole_1 m t) (mem_2 m t) (whole_2 m t) (mem_3 m t) (whole_3 m t)
    (mem_4 m t) (whole_4 m t) (blockAt m c 0 t) (blockAt m c 1 t) (blockAt m c 2 t) (blockAt m c 3 t) (words m 0) (hW c t)

/-- The pipeline's proof data: the inputs' buffers hold their blocks after the body, the result's `outAt`. -/
def dats (hW : WordsOk m) (_ : Fin 1) (c : Dev nD) : Dat τ (Elt F) Unit ℕ (UR sig nD τ) ℕ (pipe m) c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => outAt m hW c t
  Φ _ := iprop(Pipeline.ΦA spec0 c ∗ Pipeline.ΦT pre0 (words m) c)
  q _ := fullShare
  owed _ := 0

variable (hW : WordsOk m)

theorem A_eq (c : Dev nD) (w : Fin (pipe m).W) : (dats m hW 0 c).A w = V m c (Pipeline.arrRef spec0 w) := by dsimp only [dats]

theorem after_0 (c : Dev nD) (t : Fin (pipe m).N) : (dats m hW 0 c).after 0 t = blockAt m c 0 t := by dsimp only [dats]; try rfl
theorem after_1 (c : Dev nD) (t : Fin (pipe m).N) : (dats m hW 0 c).after 1 t = blockAt m c 1 t := by dsimp only [dats]; try rfl
theorem after_2 (c : Dev nD) (t : Fin (pipe m).N) : (dats m hW 0 c).after 2 t = blockAt m c 2 t := by dsimp only [dats]; try rfl
theorem after_3 (c : Dev nD) (t : Fin (pipe m).N) : (dats m hW 0 c).after 3 t = blockAt m c 3 t := by dsimp only [dats]; try rfl
theorem after_4 (c : Dev nD) (t : Fin (pipe m).N) : (dats m hW 0 c).after 4 t = outAt m hW c t := by dsimp only [dats]; try rfl

theorem before_0 (c : Dev nD) (t : Fin (pipe m).N) (d) : (dats m hW 0 c).before 0 t d = blockAt m c 0 t :=
  held_0 m (dats m hW 0 c) (A_eq m hW c 0) (after_0 m hW c) t d
theorem before_1 (c : Dev nD) (t : Fin (pipe m).N) (d) : (dats m hW 0 c).before 1 t d = blockAt m c 1 t :=
  held_1 m (dats m hW 0 c) (A_eq m hW c 1) (after_1 m hW c) t d
theorem before_2 (c : Dev nD) (t : Fin (pipe m).N) (d) : (dats m hW 0 c).before 2 t d = blockAt m c 2 t :=
  held_2 m (dats m hW 0 c) (A_eq m hW c 2) (after_2 m hW c) t d
theorem before_3 (c : Dev nD) (t : Fin (pipe m).N) (d) : (dats m hW 0 c).before 3 t d = blockAt m c 3 t :=
  held_3 m (dats m hW 0 c) (A_eq m hW c 3) (after_3 m hW c) t d

/-- What the body is called with at point `t`, and what it returns, window by window. -/
def bodyPre (c : Dev nD) (t : Fin (pipe m).N) : sProp 𝕄 :=
  iprop((dats m hW 0 c).Φ t.castSucc ∗ (dats m hW 0 c).owesAt () t.castSucc
    ∗ (∃ d, owns (c : Thread nD τ) (mem_0 m t) fullShare ((dats m hW 0 c).before 0 t d))
    ∗ (∃ d, owns (c : Thread nD τ) (mem_1 m t) fullShare ((dats m hW 0 c).before 1 t d))
    ∗ (∃ d, owns (c : Thread nD τ) (mem_2 m t) fullShare ((dats m hW 0 c).before 2 t d))
    ∗ (∃ d, owns (c : Thread nD τ) (mem_3 m t) fullShare ((dats m hW 0 c).before 3 t d))
    ∗ (∃ d, owns (c : Thread nD τ) (mem_4 m t) fullShare ((dats m hW 0 c).before 4 t d)))

@[inherit_doc bodyPre]
def bodyPost (c : Dev nD) (t : Fin (pipe m).N) : sProp 𝕄 :=
  iprop((dats m hW 0 c).Φ t.succ ∗ (dats m hW 0 c).owesAt () t.succ
    ∗ owns (c : Thread nD τ) (mem_0 m t) fullShare ((dats m hW 0 c).after 0 t)
    ∗ owns (c : Thread nD τ) (mem_1 m t) fullShare ((dats m hW 0 c).after 1 t)
    ∗ owns (c : Thread nD τ) (mem_2 m t) fullShare ((dats m hW 0 c).after 2 t)
    ∗ owns (c : Thread nD τ) (mem_3 m t) fullShare ((dats m hW 0 c).after 3 t)
    ∗ owns (c : Thread nD τ) (mem_4 m t) fullShare ((dats m hW 0 c).after 4 t))

/-- The body at any point. -/
theorem sound_body (c : Dev nD) (t : Fin (pipe m).N) :
    bodyPre m hW c t ⊢ wp frame (wpE (defs₀ (F := F)) Variants.none c none) Set.univ (bodyAt (adm m) t) (fun _ => bodyPost m hW c t) := by
  unfold bodyPre bodyPost bodyAt
  simp only [before_0, before_1, before_2, before_3]
  rw [show (dats m hW 0 c).Φ t.succ = (dats m hW 0 c).Φ t.castSucc from rfl,
    show (dats m hW 0 c).owesAt () t.succ = (dats m hW 0 c).owesAt () t.castSucc from rfl,
    after_0, after_1, after_2, after_3, after_4]
  rw [show (dats m hW 0 c).Φ t.castSucc = iprop(Pipeline.ΦA spec0 c ∗ Pipeline.ΦT pre0 (words m) c) from rfl, tables_eq]
  iintro ⟨⟨HΦ, HT0⟩, Ho, ⟨%d0, H0⟩, ⟨%d1, H1⟩, ⟨%d2, H2⟩, ⟨%d3, H3⟩, ⟨%d4, H4⟩⟩
  iapply (body_run c (grid0.coords t) _ _ _ _ _ _ _ _ _ _ (blockAt m c 0 t) (blockAt m c 1 t) (blockAt m c 2 t) (blockAt m c 3 t) (words m 0) (hW c t) Set.univ _)
  isplitl [H0]; · iexact H0
  isplitl [H1]; · iexact H1
  isplitl [H2]; · iexact H2
  isplitl [H3]; · iexact H3
  isplitl [H4]; · iexists _; iexact H4
  isplitl [HT0]; · iexact HT0
  iintro ⟨H0, H1, H2, H3, H4, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  iexact H4

theorem defs₀_row (t : Fin (pipe m).N) :
    defs₀ (F := F) .tc (pipe m).body ((pipe m).bodyArgs t ((pipe m).slots t)) = bodyAt (adm m) t := by
  unfold defs₀; rw [Defs.onTc_tc]

/-- The pipeline's obligation of the body, at every point. -/
theorem body_obligation (c : Dev nD) : BodyObligation (dats (F := F) m hW 0 c) (defs₀ (F := F)) Variants.none () Set.univ := fun t => by
  rw [bigSep_W0, bigSep_W0, defs₀_row m]
  exact triple_restated (sound_body m hW c t) rfl .rfl fun _ => .rfl

set_option backward.isDefEq.respectTransparency.types false in
/-- The run: every array ends at what the proof data says, every other buffer as launched, every counter at zero. -/
theorem run_all : θ_run defs (onTc (τ := τ) (main (F := F))) (s₀ m ρ)
    (fun r => Pipeline.FramePost (Pipeline.pin pcfgs fun _ => adm m) (dats m hW) 0 (V m) r ∧ r.2.sem = fun _ => 0) :=
  Pipeline.θ_run_frameP (Q' := _) pcfgs (fun _ => adm m) (dats m hW) (0 : Fin 1) launch0 defs₀ Variants.none m ρ main
    (hbody := fun c => (body_obligation m hW c).loose) (hshare := fun c => (dats m hW 0 c).share_full fun _ => rfl)
    (howed := fun _ _ => rfl) (V := V m) (hmain := region m Variants.none) (hA := A_eq m hW) (hpf := V_words m) (hΦ := fun _ _ => rfl)

include hW in
/-- The arguments end unchanged, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨fun c => ⟨
      (hr.1 c).2 main_arg0 (by decide : main_arg0 ∈ Pipeline.restRefs sig spec0),
      ((hr.1 c).1 0).trans ((dats m hW 0 c).arrAt_in 0 rfl _),
      ((hr.1 c).1 1).trans ((dats m hW 0 c).arrAt_in 1 rfl _),
      ((hr.1 c).1 2).trans ((dats m hW 0 c).arrAt_in 2 rfl _),
      ((hr.1 c).1 3).trans ((dats m hW 0 c).arrAt_in 3 rfl _)⟩, hr.2⟩)
    (run_all m ρ hW)

end Cert.KernelIdeal.Fox

end
-- ==== Proof.Ideal.Cases.lean ====
/- The body's result at a point, by the edge of the plan's first tile: at each row and query, the weighted sum over the
   keys from the sub-block's first to the diagonal, divided by row 64's, times the gate. -/
module

public import proofs.«01_k».proof.Proof.Ideal.Trip
public import proofs.«01_k».proof.Proof.Ideal.RunE
public import proofs.«01_k».proof.Proof.Ideal.Frame
import all proofs.«01_k».proof.Proof.Ideal.RunA
import all proofs.«01_k».proof.Proof.Ideal.RunB
import all proofs.«01_k».proof.Proof.Ideal.RunC
import all proofs.«01_k».proof.Proof.Ideal.RunD
import all proofs.«01_k».proof.Proof.Ideal.RunE

@[expose] public section

set_option maxRecDepth 16384

noncomputable section

namespace Cert.KernelIdeal.Fox

open Cert.KernelIdeal.Gen
open Idealize.ShloMosaic Idealize.ShloMosaic.TcCoe
open Cert.Online Cert.FoxWords

/-- The block holds, at each row and query, the row's weighted sum over the keys from `256·lo` of its sub-block to the
    diagonal, divided by row 64's, times the gate. -/
def Out (q : ℕ) (lo : Fin 4 → ℕ) (x0 : Vec Ideal S1x1x128x1024 .bf16) (x1 : Vec Ideal S1x1x8192x128 .bf16) (x2 : Vec Ideal S1x1x16x80x512 .bf16)
    (x3 y : Vec Ideal S1x1x64x1024 .bf16) : Prop :=
  ∀ (r : Fin 64) (j : Fin 1024), y (ix4 0 0 r j)
    = Ideal.div (Ac (lm q x0 x1 j) (val x2 ⟨r, by omega⟩) (256 * lo ⟨j.val / 256, by omega⟩) (256 * (4 * q + j.val / 256 + 1)))
        (Ac (lm q x0 x1 j) (val x2 64) (256 * lo ⟨j.val / 256, by omega⟩) (256 * (4 * q + j.val / 256 + 1)))
      * x3 (ix4 0 0 r j)

theorem qInb (o : ℕ) (ho : o ≤ 768) : ∀ a, (![0, 0, 0, o] : Fin 4 → ℕ) a + S1x1x128x256.size a ≤ S1x1x128x1024.size a := by
  intro a
  fin_cases a <;> simp [S1x1x128x256, S1x1x128x1024] <;> omega

theorem gInb : ∀ a, (![0, 0, 0, 0] : Fin 4 → ℕ) a + S1x1x64x1024.size a ≤ S1x1x64x1024.size a := by decide

variable {i : grid0.Coords} {w : BitVec 32} {c : Dev nD}
    {arg4 : Memref sig .tc .vmem S1x1x128x1024 .bf16} (harg4 : arg4.IsWhole)
    {arg5 : Memref sig .tc .vmem S1x1x8192x128 .bf16} (harg5 : arg5.IsWhole)
    {arg6 : Memref sig .tc .vmem S1x1x16x80x512 .bf16} (harg6 : arg6.IsWhole)
    {arg7 : Memref sig .tc .vmem S1x1x64x1024 .bf16} (harg7 : arg7.IsWhole)
    {arg8 : Memref sig .tc .vmem S1x1x64x1024 .bf16} (harg8 : arg8.IsWhole)
    {x0 : Vec Ideal S1x1x128x1024 .bf16} {x1 : Vec Ideal S1x1x8192x128 .bf16} {x2 : Vec Ideal S1x1x16x80x512 .bf16}
    {x3 : Vec Ideal S1x1x64x1024 .bf16}

section
variable (x0)
/-- Sub-block `a`'s queries, as the kernel loads them. -/
abbrev qAt (o : ℕ) (ho : o ≤ 768) : Vec Ideal S1x1x128x256 .bf16 :=
  arg4.view.readAt (Elt Ideal) (Rect.unit (s := S1x1x128x1024) ![0, 0, 0, o] S1x1x128x256.size (qInb o ho)).toLoadRect (harg4.unread x0)
end

theorem qAt_is (a : Fin 4) (o : ℕ) (ho : o ≤ 768) (h : o = 256 * a.val) : IsQ x0 a (qAt harg4 x0 o ho) := by
  subst h
  exact isQ_read harg4 _ rfl

section
variable (i x1 x2)
theorem off27_form (ks : ℕ) (h : ks < 4) : k0_off27 i (BitVec.ofNat 32 (256 * ks)) = ![0, 0, 256 * (4 * (i 2).val + ks), 0] := by
  have := k0_off27_eq i ⟨ks, h⟩
  rw [this]
  congr 3
  show 1024 * (i 2).val + 256 * ks = _
  ring

theorem off28_form (h : ℕ) (hh : h < 2) : k0_off28 i (BitVec.ofNat 32 h) = ![0, 0, 2 * (i 2).val + h, 0, 0] := k0_off28_eq i ⟨h, hh⟩
theorem off29_form (h : ℕ) (hh : h < 2) : k0_off29 i (BitVec.ofNat 32 h) = ![0, 0, 2 * (i 2).val + h, 0, 256] := k0_off29_eq i ⟨h, hh⟩

/-- The diagonal tile's keys and values, as the kernel loads them. -/
abbrev kAt (ks : ℕ) (h : ks < 4) : Vec Ideal S1x1x256x128 .bf16 :=
  arg5.view.readAt (Elt Ideal) (Rect.unit (s := S1x1x8192x128) (k0_off27 i (BitVec.ofNat 32 (256 * ks))) S1x1x256x128.size
    (keyInb (off27_form i ks h) (by have := i2_lt i; omega))).toLoadRect (harg5.unread x1)
abbrev vAt0 (h : ℕ) (hh : h < 2) : Vec Ideal S1x1x1x80x256 .bf16 :=
  arg6.view.readAt (Elt Ideal) (Rect.unit (s := S1x1x16x80x512) (k0_off28 i (BitVec.ofNat 32 h)) S1x1x1x80x256.size
    (valInb (n := 4 * (i 2).val + 2 * h) _ _ (off28_form i h hh) (by omega) (by omega) (by have := i2_lt i; omega))).toLoadRect (harg6.unread x2)
abbrev vAt1 (h : ℕ) (hh : h < 2) : Vec Ideal S1x1x1x80x256 .bf16 :=
  arg6.view.readAt (Elt Ideal) (Rect.unit (s := S1x1x16x80x512) (k0_off29 i (BitVec.ofNat 32 h)) S1x1x1x80x256.size
    (valInb (n := 4 * (i 2).val + 2 * h + 1) _ _ (off29_form i h hh) (by omega) (by omega) (by have := i2_lt i; omega))).toLoadRect (harg6.unread x2)
end

/-- From the states before the diagonal tile to the block. -/
theorem close {lo : Fin 4 → ℕ} {L : List (View.Piece (Elt Ideal) S1x1x64x1024 .bf16)} {hchk : k0_chk1 i w} {arg2 v22 v32 v64 : BitVec 32} {v34 : FVec Ideal S128x256 .bf16}
    {v35 v37 v39 : Vec Ideal S1x1x128x256 .bf16} {S1 : Carried}
    (hL : L = [⟨Rect.unit (s := S1x1x64x1024) ![0, 0, 0, 0] S1x1x64x1024.size gInb,
      k0_pay1 (F := Ideal) (diagOut (st_k0_t2 (F := Ideal) .none c none i planM planM_whole arg4 harg4 arg5 harg5 arg6 harg6 arg7 harg7 arg8 harg8 arg2 w hchk v22 v32
          v34 v35 v37 v39 v64 (harg5.unread x1) (harg6.unread x2) S1 (k0_t2_loop i w).trips)
        (qAt harg4 x0 256 (by omega)) (qAt harg4 x0 512 (by omega)) (qAt harg4 x0 768 (by omega))
        (kAt i harg5 x1 0 (by omega)) (kAt i harg5 x1 1 (by omega)) (kAt i harg5 x1 2 (by omega)) (kAt i harg5 x1 3 (by omega))
        (vAt0 i harg6 x2 0 (by omega)) (vAt1 i harg6 x2 0 (by omega)) (vAt0 i harg6 x2 1 (by omega)) (vAt1 i harg6 x2 1 (by omega)))
        (arg7.view.readAt (Elt Ideal) (Rect.unit (s := S1x1x64x1024) ![0, 0, 0, 0] S1x1x64x1024.size gInb).toLoadRect (harg7.unread x3))⟩])
    (h : Inv (i 2).val x0 x1 x2 lo (i 2).val S1) : Out (i 2).val lo x0 x1 x2 x3 (View.canon L) := by
  have hi := i2_lt i
  subst hL
  intro r j
  rw [View.canon_cons_unit_lit gInb _ _ (by decide)]
  rw [t2_trips, st_k0_t2_zero]
  rw [← diag_apply h (qAt_is harg4 1 256 (by omega) rfl) (qAt_is harg4 2 512 (by omega) rfl) (qAt_is harg4 3 768 (by omega) rfl)
    (isK_at (n := 4 * (i 2).val) harg5 (off27_form i 0 (by omega)) (by omega)) (isK_at harg5 (off27_form i 1 (by omega)) (by omega))
    (isK_at harg5 (off27_form i 2 (by omega)) (by omega)) (isK_at harg5 (off27_form i 3 (by omega)) (by omega))
    (isV_at (n := 4 * (i 2).val) harg6 (off28_form i 0 (by omega)) (by omega) (by omega) (by omega))
    (isV_at (n := 4 * (i 2).val + 1) harg6 (off29_form i 0 (by omega)) (by omega) (by omega) (by omega))
    (isV_at (n := 4 * (i 2).val + 2) harg6 (off28_form i 1 (by omega)) (by omega) (by omega) (by omega))
    (isV_at (n := 4 * (i 2).val + 3) harg6 (off29_form i 1 (by omega)) (by omega) (by omega) (by omega)) r j,
    ← gate_read harg7 gInb rfl r j (x3 := x3)]
  generalize arg7.view.readAt (Elt Ideal) _ (harg7.unread x3) = g
  generalize diagOut _ _ _ _ _ _ _ _ _ _ _ _ = d
  pointwise [k0_pay1]

variable (i c) in
/-- The loop over the tiles between takes none where the first is not before the query's own. -/
theorem loop_none (hw : w.toNat < 2 ^ 31) (hchk : k0_chk1 i w) {arg2 v22 v32 v59 : BitVec 32} {v34 : FVec Ideal S128x256 .bf16}
    {v35 v37 v39 : Vec Ideal S1x1x128x256 .bf16} {lo : Fin 4 → ℕ} {init : Carried} (h : ¬ w.toNat / 4 < (i 2).val)
    (hi : Inv (i 2).val x0 x1 x2 lo (i 2).val init) :
    Inv (i 2).val x0 x1 x2 lo (i 2).val
      (st_k0_t1 (F := Ideal) .none c none i planM planM_whole arg4 harg4 arg5 harg5 arg6 harg6 arg7 harg7 arg8 harg8 arg2 w hchk v22 v32
        v34 v35 v37 v39 v59 (harg5.unread x1) (harg6.unread x2) init (k0_t1_loop i w).trips) := by
  rw [t1_trips i hw, Nat.sub_eq_zero_of_le (by omega), st_k0_t1_zero]
  exact hi

section
variable {xt : PlanBuf (F := Ideal) c planM} (hw : k0_chk1 i (wordAt c i xt)) (hw31 : (wordAt c i xt).toNat < 2 ^ 31)
include hw31

set_option maxHeartbeats 4000000 in
/-- Where the plan's first tile is not before the query's own, only the diagonal tile is taken. -/
theorem out_A (h1 : ¬ k0_cond1 i (wordAt c i xt) = 1#1) :
    Out (i 2).val (fun _ => 4 * (i 2).val) x0 x1 x2 x3 (View.canon (run_A (F := Ideal) c i arg4 harg4 arg5 harg5 arg6 harg6 arg7 harg7 arg8 harg8 x0 x1 x2 x3 xt hw h1).1) := by
  have hi := i2_lt i
  refine close harg4 harg5 harg6 harg7 harg8 rfl ?_
  have f := (cond1_iff i hw31).not.mp h1
  have fs : IsR x0 x1 0 (4 * (i 2).val) _ := isR_of (isK_at (n := 4 * (i 2).val) (x1 := x1) harg5 ((k0_off18_eq i).trans (by rw [show 1024 * (i 2).val = 256 * (4 * (i 2).val) by ring])) (by omega)) (qAt_is harg4 0 0 (by omega) rfl) rfl
  have z := fun a => st_start (q := (i 2).val) (x0 := x0) (x1 := x1) (x2 := x2) a (4 * (i 2).val) rfl rfl
  exact loop_none i c harg4 harg5 harg6 harg7 harg8 hw31 hw f ⟨fs, z 0, z 1, z 2, z 3⟩

set_option maxHeartbeats 4000000 in
/-- Where the edge is 0, the first tile is taken whole. -/
theorem out_B (h1 : k0_cond1 i (wordAt c i xt) = 1#1) (h2 : ¬ k0_cond2 i (wordAt c i xt) = 1#1) :
    Out (i 2).val (fun a => 4 * ((wordAt c i xt).toNat / 4) + 0) x0 x1 x2 x3
      (View.canon (run_B (F := Ideal) c i arg4 harg4 arg5 harg5 arg6 harg6 arg7 harg7 arg8 harg8 x0 x1 x2 x3 xt hw h1 h2).1) := by
  have hi := i2_lt i
  refine close harg4 harg5 harg6 harg7 harg8 rfl ?_
  have f := (cond1_iff i hw31).mp h1
  refine loop_inv i hw31 c harg4 harg5 harg6 harg7 harg8 hw f (qAt_is harg4 0 0 (by omega) rfl) (qAt_is harg4 1 256 (by omega) rfl)
    (qAt_is harg4 2 512 (by omega) rfl) (qAt_is harg4 3 768 (by omega) rfl) ?_
  have q0 := qAt_is (x0 := x0) harg4 0 0 (by omega) rfl
  have q1 := qAt_is (x0 := x0) harg4 1 256 (by omega) rfl
  have q2 := qAt_is (x0 := x0) harg4 2 512 (by omega) rfl
  have q3 := qAt_is (x0 := x0) harg4 3 768 (by omega) rfl
  have e1 := firstW_eq hw31
  have KN := isK_at (x1 := x1) harg5 (keyForm (c := 0#32) ((wordAt c i xt).toNat / 4 + 1) 0 (by omega) ((congrArg (Scalar.addi · 1#32) e1).trans (add_one_form _)) (by omega) rfl :
    k0_off17 (wordAt c i xt) = _) (by omega)
  have K0 := isK_at (x1 := x1) harg5 (keyForm (c := 0#32) ((wordAt c i xt).toNat / 4) 0 (by omega) e1 (by omega) rfl : k0_off14 (wordAt c i xt) 0#32 = _) (by omega)
  have V0 := isV_at (x2 := x2) (n := 4 * ((wordAt c i xt).toNat / 4) + 0) harg6 (valForm (c := 0#32) ((wordAt c i xt).toNat / 4) 0 0 (by omega) e1 (by omega) rfl : k0_off15 (wordAt c i xt) 0#32 = _) (by omega) (by omega) (by omega)
  have K1 := isK_at (x1 := x1) harg5 (keyForm (c := 256#32) ((wordAt c i xt).toNat / 4) 1 (by omega) e1 (by omega) rfl : k0_off14 (wordAt c i xt) 256#32 = _) (by omega)
  have V1 := isV_at (x2 := x2) (n := 4 * ((wordAt c i xt).toNat / 4) + 1) harg6 (valForm (c := 0#32) ((wordAt c i xt).toNat / 4) 0 256 (by omega) e1 (by omega) rfl : k0_off16 (wordAt c i xt) 0#32 = _) (by omega) (by omega) (by omega)
  have K2 := isK_at (x1 := x1) harg5 (keyForm (c := 512#32) ((wordAt c i xt).toNat / 4) 2 (by omega) e1 (by omega) rfl : k0_off14 (wordAt c i xt) 512#32 = _) (by omega)
  have V2 := isV_at (x2 := x2) (n := 4 * ((wordAt c i xt).toNat / 4) + 2) harg6 (valForm (c := 1#32) ((wordAt c i xt).toNat / 4) 1 0 (by omega) e1 (by omega) rfl : k0_off15 (wordAt c i xt) 1#32 = _) (by omega) (by omega) (by omega)
  have K3 := isK_at (x1 := x1) harg5 (keyForm (c := 768#32) ((wordAt c i xt).toNat / 4) 3 (by omega) e1 (by omega) rfl : k0_off14 (wordAt c i xt) 768#32 = _) (by omega)
  have V3 := isV_at (x2 := x2) (n := 4 * ((wordAt c i xt).toNat / 4) + 3) harg6 (valForm (c := 1#32) ((wordAt c i xt).toNat / 4) 1 256 (by omega) e1 (by omega) rfl : k0_off16 (wordAt c i xt) 1#32 = _) (by omega) (by omega) (by omega)
  have f0 := st_start (q := (i 2).val) (x0 := x0) (x1 := x1) (x2 := x2) 0 (4 * ((wordAt c i xt).toNat / 4) + 0) rfl rfl
  have f0 := step f0 (isS_of_isR (by show _ < 4 * (i 2).val + 0; omega) (isR_of K0 q0 rfl)) V0 rfl rfl
  have f0 := step f0 (isS_of_isR (by show _ < 4 * (i 2).val + 0; omega) (isR_of K1 q0 rfl)) V1 rfl rfl
  have f0 := step f0 (isS_of_isR (by show _ < 4 * (i 2).val + 0; omega) (isR_of K2 q0 rfl)) V2 rfl rfl
  have f0 := step f0 (isS_of_isR (by show _ < 4 * (i 2).val + 0; omega) (isR_of K3 q0 rfl)) V3 rfl rfl
  have f1 := st_start (q := (i 2).val) (x0 := x0) (x1 := x1) (x2 := x2) 1 (4 * ((wordAt c i xt).toNat / 4) + 0) rfl rfl
  have f1 := step f1 (isS_of_isR (by show _ < 4 * (i 2).val + 1; omega) (isR_of K0 q1 rfl)) V0 rfl rfl
  have f1 := step f1 (isS_of_isR (by show _ < 4 * (i 2).val + 1; omega) (isR_of K1 q1 rfl)) V1 rfl rfl
  have f1 := step f1 (isS_of_isR (by show _ < 4 * (i 2).val + 1; omega) (isR_of K2 q1 rfl)) V2 rfl rfl
  have f1 := step f1 (isS_of_isR (by show _ < 4 * (i 2).val + 1; omega) (isR_of K3 q1 rfl)) V3 rfl rfl
  have f2 := st_start (q := (i 2).val) (x0 := x0) (x1 := x1) (x2 := x2) 2 (4 * ((wordAt c i xt).toNat / 4) + 0) rfl rfl
  have f2 := step f2 (isS_of_isR (by show _ < 4 * (i 2).val + 2; omega) (isR_of K0 q2 rfl)) V0 rfl rfl
  have f2 := step f2 (isS_of_isR (by show _ < 4 * (i 2).val + 2; omega) (isR_of K1 q2 rfl)) V1 rfl rfl
  have f2 := step f2 (isS_of_isR (by show _ < 4 * (i 2).val + 2; omega) (isR_of K2 q2 rfl)) V2 rfl rfl
  have f2 := step f2 (isS_of_isR (by show _ < 4 * (i 2).val + 2; omega) (isR_of K3 q2 rfl)) V3 rfl rfl
  have f3 := st_start (q := (i 2).val) (x0 := x0) (x1 := x1) (x2 := x2) 3 (4 * ((wordAt c i xt).toNat / 4) + 0) rfl rfl
  have f3 := step f3 (isS_of_isR (by show _ < 4 * (i 2).val + 3; omega) (isR_of K0 q3 rfl)) V0 rfl rfl
  have f3 := step f3 (isS_of_isR (by show _ < 4 * (i 2).val + 3; omega) (isR_of K1 q3 rfl)) V1 rfl rfl
  have f3 := step f3 (isS_of_isR (by show _ < 4 * (i 2).val + 3; omega) (isR_of K2 q3 rfl)) V2 rfl rfl
  have f3 := step f3 (isS_of_isR (by show _ < 4 * (i 2).val + 3; omega) (isR_of K3 q3 rfl)) V3 rfl rfl
  have fs := isR_of KN q0 rfl
  exact ⟨fs, f0, f1, f2, f3⟩

set_option maxHeartbeats 4000000 in
/-- Where the edge is 1, each sub-block takes the first tile from its own place. -/
theorem out_C (h1 : k0_cond1 i (wordAt c i xt) = 1#1) (h2 : k0_cond2 i (wordAt c i xt) = 1#1) (h3 : ¬ k0_cond3 i (wordAt c i xt) = 1#1) :
    Out (i 2).val (fun a => 4 * ((wordAt c i xt).toNat / 4) + a.val) x0 x1 x2 x3
      (View.canon (run_C (F := Ideal) c i arg4 harg4 arg5 harg5 arg6 harg6 arg7 harg7 arg8 harg8 x0 x1 x2 x3 xt hw h1 h2 h3).1) := by
  have hi := i2_lt i
  refine close harg4 harg5 harg6 harg7 harg8 rfl ?_
  have f := (cond1_iff i hw31).mp h1
  refine loop_inv i hw31 c harg4 harg5 harg6 harg7 harg8 hw f (qAt_is harg4 0 0 (by omega) rfl) (qAt_is harg4 1 256 (by omega) rfl)
    (qAt_is harg4 2 512 (by omega) rfl) (qAt_is harg4 3 768 (by omega) rfl) ?_
  have q0 := qAt_is (x0 := x0) harg4 0 0 (by omega) rfl
  have q1 := qAt_is (x0 := x0) harg4 1 256 (by omega) rfl
  have q2 := qAt_is (x0 := x0) harg4 2 512 (by omega) rfl
  have q3 := qAt_is (x0 := x0) harg4 3 768 (by omega) rfl
  have e1 := firstW_eq hw31
  have KN := isK_at (x1 := x1) harg5 (keyForm (c := 0#32) ((wordAt c i xt).toNat / 4 + 1) 0 (by omega) ((congrArg (Scalar.addi · 1#32) e1).trans (add_one_form _)) (by omega) rfl :
    k0_off13 (wordAt c i xt) = _) (by omega)
  have K0 := isK_at (x1 := x1) harg5 (keyForm (c := 0#32) ((wordAt c i xt).toNat / 4) 0 (by omega) e1 (by omega) rfl : k0_off10 (wordAt c i xt) 0#32 = _) (by omega)
  have V0 := isV_at (x2 := x2) (n := 4 * ((wordAt c i xt).toNat / 4) + 0) harg6 (valForm (c := 0#32) ((wordAt c i xt).toNat / 4) 0 0 (by omega) e1 (by omega) rfl : k0_off11 (wordAt c i xt) 0#32 = _) (by omega) (by omega) (by omega)
  have K1 := isK_at (x1 := x1) harg5 (keyForm (c := 256#32) ((wordAt c i xt).toNat / 4) 1 (by omega) e1 (by omega) rfl : k0_off10 (wordAt c i xt) 256#32 = _) (by omega)
  have V1 := isV_at (x2 := x2) (n := 4 * ((wordAt c i xt).toNat / 4) + 1) harg6 (valForm (c := 0#32) ((wordAt c i xt).toNat / 4) 0 256 (by omega) e1 (by omega) rfl : k0_off12 (wordAt c i xt) 0#32 = _) (by omega) (by omega) (by omega)
  have K2 := isK_at (x1 := x1) harg5 (keyForm (c := 512#32) ((wordAt c i xt).toNat / 4) 2 (by omega) e1 (by omega) rfl : k0_off10 (wordAt c i xt) 512#32 = _) (by omega)
  have V2 := isV_at (x2 := x2) (n := 4 * ((wordAt c i xt).toNat / 4) + 2) harg6 (valForm (c := 1#32) ((wordAt c i xt).toNat / 4) 1 0 (by omega) e1 (by omega) rfl : k0_off11 (wordAt c i xt) 1#32 = _) (by omega) (by omega) (by omega)
  have K3 := isK_at (x1 := x1) harg5 (keyForm (c := 768#32) ((wordAt c i xt).toNat / 4) 3 (by omega) e1 (by omega) rfl : k0_off10 (wordAt c i xt) 768#32 = _) (by omega)
  have V3 := isV_at (x2 := x2) (n := 4 * ((wordAt c i xt).toNat / 4) + 3) harg6 (valForm (c := 1#32) ((wordAt c i xt).toNat / 4) 1 256 (by omega) e1 (by omega) rfl : k0_off12 (wordAt c i xt) 1#32 = _) (by omega) (by omega) (by omega)
  have f0 := st_start (q := (i 2).val) (x0 := x0) (x1 := x1) (x2 := x2) 0 (4 * ((wordAt c i xt).toNat / 4) + 0) rfl rfl
  have f0 := step f0 (isS_of_isR (by show _ < 4 * (i 2).val + 0; omega) (isR_of K0 q0 rfl)) V0 rfl rfl
  have f0 := step f0 (isS_of_isR (by show _ < 4 * (i 2).val + 0; omega) (isR_of K1 q0 rfl)) V1 rfl rfl
  have f0 := step f0 (isS_of_isR (by show _ < 4 * (i 2).val + 0; omega) (isR_of K2 q0 rfl)) V2 rfl rfl
  have f0 := step f0 (isS_of_isR (by show _ < 4 * (i 2).val + 0; omega) (isR_of K3 q0 rfl)) V3 rfl rfl
  have f1 := st_start (q := (i 2).val) (x0 := x0) (x1 := x1) (x2 := x2) 1 (4 * ((wordAt c i xt).toNat / 4) + 1) rfl rfl
  have f1 := step f1 (isS_of_isR (by show _ < 4 * (i 2).val + 1; omega) (isR_of K1 q1 rfl)) V1 rfl rfl
  have f1 := step f1 (isS_of_isR (by show _ < 4 * (i 2).val + 1; omega) (isR_of K2 q1 rfl)) V2 rfl rfl
  have f1 := step f1 (isS_of_isR (by show _ < 4 * (i 2).val + 1; omega) (isR_of K3 q1 rfl)) V3 rfl rfl
  have f2 := st_start (q := (i 2).val) (x0 := x0) (x1 := x1) (x2 := x2) 2 (4 * ((wordAt c i xt).toNat / 4) + 2) rfl rfl
  have f2 := step f2 (isS_of_isR (by show _ < 4 * (i 2).val + 2; omega) (isR_of K2 q2 rfl)) V2 rfl rfl
  have f2 := step f2 (isS_of_isR (by show _ < 4 * (i 2).val + 2; omega) (isR_of K3 q2 rfl)) V3 rfl rfl
  have f3 := st_start (q := (i 2).val) (x0 := x0) (x1 := x1) (x2 := x2) 3 (4 * ((wordAt c i xt).toNat / 4) + 3) rfl rfl
  have f3 := step f3 (isS_of_isR (by show _ < 4 * (i 2).val + 3; omega) (isR_of K3 q3 rfl)) V3 rfl rfl
  have fs := isR_of KN q0 rfl
  exact ⟨fs, f0, f1, f2, f3⟩

set_option maxHeartbeats 4000000 in
/-- Where the edge is 2, each sub-block takes the first tile from one past its own place. -/
theorem out_D (h1 : k0_cond1 i (wordAt c i xt) = 1#1) (h2 : k0_cond2 i (wordAt c i xt) = 1#1) (h3 : k0_cond3 i (wordAt c i xt) = 1#1) (h4 : ¬ k0_cond4 i (wordAt c i xt) = 1#1) :
    Out (i 2).val (fun a => 4 * ((wordAt c i xt).toNat / 4) + (a.val + 1)) x0 x1 x2 x3
      (View.canon (run_D (F := Ideal) c i arg4 harg4 arg5 harg5 arg6 harg6 arg7 harg7 arg8 harg8 x0 x1 x2 x3 xt hw h1 h2 h3 h4).1) := by
  have hi := i2_lt i
  refine close harg4 harg5 harg6 harg7 harg8 rfl ?_
  have f := (cond1_iff i hw31).mp h1
  refine loop_inv i hw31 c harg4 harg5 harg6 harg7 harg8 hw f (qAt_is harg4 0 0 (by omega) rfl) (qAt_is harg4 1 256 (by omega) rfl)
    (qAt_is harg4 2 512 (by omega) rfl) (qAt_is harg4 3 768 (by omega) rfl) ?_
  have q0 := qAt_is (x0 := x0) harg4 0 0 (by omega) rfl
  have q1 := qAt_is (x0 := x0) harg4 1 256 (by omega) rfl
  have q2 := qAt_is (x0 := x0) harg4 2 512 (by omega) rfl
  have q3 := qAt_is (x0 := x0) harg4 3 768 (by omega) rfl
  have e1 := firstW_eq hw31
  have KN := isK_at (x1 := x1) harg5 (keyForm (c := 0#32) ((wordAt c i xt).toNat / 4 + 1) 0 (by omega) ((congrArg (Scalar.addi · 1#32) e1).trans (add_one_form _)) (by omega) rfl :
    k0_off7 (wordAt c i xt) = _) (by omega)
  have K1 := isK_at (x1 := x1) harg5 (keyForm (c := 256#32) ((wordAt c i xt).toNat / 4) 1 (by omega) e1 (by omega) rfl : k0_off6 (wordAt c i xt) 256#32 = _) (by omega)
  have V1 := isV_at (x2 := x2) (n := 4 * ((wordAt c i xt).toNat / 4) + 1) harg6 (valForm (c := 0#32) ((wordAt c i xt).toNat / 4) 0 256 (by omega) e1 (by omega) rfl : k0_off8 (wordAt c i xt) 0#32 = _) (by omega) (by omega) (by omega)
  have K2 := isK_at (x1 := x1) harg5 (keyForm (c := 512#32) ((wordAt c i xt).toNat / 4) 2 (by omega) e1 (by omega) rfl : k0_off6 (wordAt c i xt) 512#32 = _) (by omega)
  have V2 := isV_at (x2 := x2) (n := 4 * ((wordAt c i xt).toNat / 4) + 2) harg6 (valForm (c := 1#32) ((wordAt c i xt).toNat / 4) 1 0 (by omega) e1 (by omega) rfl : k0_off9 (wordAt c i xt) = _) (by omega) (by omega) (by omega)
  have K3 := isK_at (x1 := x1) harg5 (keyForm (c := 768#32) ((wordAt c i xt).toNat / 4) 3 (by omega) e1 (by omega) rfl : k0_off6 (wordAt c i xt) 768#32 = _) (by omega)
  have V3 := isV_at (x2 := x2) (n := 4 * ((wordAt c i xt).toNat / 4) + 3) harg6 (valForm (c := 1#32) ((wordAt c i xt).toNat / 4) 1 256 (by omega) e1 (by omega) rfl : k0_off8 (wordAt c i xt) 1#32 = _) (by omega) (by omega) (by omega)
  have f0 := st_start (q := (i 2).val) (x0 := x0) (x1 := x1) (x2 := x2) 0 (4 * ((wordAt c i xt).toNat / 4) + 1) rfl rfl
  have f0 := step f0 (isS_of_isR (by show _ < 4 * (i 2).val + 0; omega) (isR_of K1 q0 rfl)) V1 rfl rfl
  have f0 := step f0 (isS_of_isR (by show _ < 4 * (i 2).val + 0; omega) (isR_of K2 q0 rfl)) V2 rfl rfl
  have f0 := step f0 (isS_of_isR (by show _ < 4 * (i 2).val + 0; omega) (isR_of K3 q0 rfl)) V3 rfl rfl
  have f1 := st_start (q := (i 2).val) (x0 := x0) (x1 := x1) (x2 := x2) 1 (4 * ((wordAt c i xt).toNat / 4) + 2) rfl rfl
  have f1 := step f1 (isS_of_isR (by show _ < 4 * (i 2).val + 1; omega) (isR_of K2 q1 rfl)) V2 rfl rfl
  have f1 := step f1 (isS_of_isR (by show _ < 4 * (i 2).val + 1; omega) (isR_of K3 q1 rfl)) V3 rfl rfl
  have f2 := st_start (q := (i 2).val) (x0 := x0) (x1 := x1) (x2 := x2) 2 (4 * ((wordAt c i xt).toNat / 4) + 3) rfl rfl
  have f2 := step f2 (isS_of_isR (by show _ < 4 * (i 2).val + 2; omega) (isR_of K3 q2 rfl)) V3 rfl rfl
  have f3 := st_start (q := (i 2).val) (x0 := x0) (x1 := x1) (x2 := x2) 3 (4 * ((wordAt c i xt).toNat / 4) + 4) rfl rfl
  have fs := isR_of KN q0 rfl
  exact ⟨fs, f0, f1, f2, f3⟩

set_option maxHeartbeats 4000000 in
/-- Where the edge is 3, each sub-block takes the first tile from two past its own place. -/
theorem out_E (h1 : k0_cond1 i (wordAt c i xt) = 1#1) (h2 : k0_cond2 i (wordAt c i xt) = 1#1) (h3 : k0_cond3 i (wordAt c i xt) = 1#1) (h4 : k0_cond4 i (wordAt c i xt) = 1#1) :
    Out (i 2).val (fun a => 4 * ((wordAt c i xt).toNat / 4) + min 4 (a.val + 2)) x0 x1 x2 x3
      (View.canon (run_E (F := Ideal) c i arg4 harg4 arg5 harg5 arg6 harg6 arg7 harg7 arg8 harg8 x0 x1 x2 x3 xt hw h1 h2 h3 h4).1) := by
  have hi := i2_lt i
  refine close harg4 harg5 harg6 harg7 harg8 rfl ?_
  have f := (cond1_iff i hw31).mp h1
  refine loop_inv i hw31 c harg4 harg5 harg6 harg7 harg8 hw f (qAt_is harg4 0 0 (by omega) rfl) (qAt_is harg4 1 256 (by omega) rfl)
    (qAt_is harg4 2 512 (by omega) rfl) (qAt_is harg4 3 768 (by omega) rfl) ?_
  have q0 := qAt_is (x0 := x0) harg4 0 0 (by omega) rfl
  have q1 := qAt_is (x0 := x0) harg4 1 256 (by omega) rfl
  have q2 := qAt_is (x0 := x0) harg4 2 512 (by omega) rfl
  have q3 := qAt_is (x0 := x0) harg4 3 768 (by omega) rfl
  have e1 := firstW_eq hw31
  have KN := isK_at (x1 := x1) harg5 (keyForm (c := 0#32) ((wordAt c i xt).toNat / 4 + 1) 0 (by omega) ((congrArg (Scalar.addi · 1#32) e1).trans (add_one_form _)) (by omega) rfl :
    k0_off3 (wordAt c i xt) = _) (by omega)
  have K2 := isK_at (x1 := x1) harg5 (keyForm (c := 512#32) ((wordAt c i xt).toNat / 4) 2 (by omega) e1 (by omega) rfl : k0_off2 (wordAt c i xt) 512#32 = _) (by omega)
  have V2 := isV_at (x2 := x2) (n := 4 * ((wordAt c i xt).toNat / 4) + 2) harg6 (valForm (c := 1#32) ((wordAt c i xt).toNat / 4) 1 0 (by omega) e1 (by omega) rfl : k0_off4 (wordAt c i xt) = _) (by omega) (by omega) (by omega)
  have K3 := isK_at (x1 := x1) harg5 (keyForm (c := 768#32) ((wordAt c i xt).toNat / 4) 3 (by omega) e1 (by omega) rfl : k0_off2 (wordAt c i xt) 768#32 = _) (by omega)
  have V3 := isV_at (x2 := x2) (n := 4 * ((wordAt c i xt).toNat / 4) + 3) harg6 (valForm (c := 1#32) ((wordAt c i xt).toNat / 4) 1 256 (by omega) e1 (by omega) rfl : k0_off5 (wordAt c i xt) = _) (by omega) (by omega) (by omega)
  have f0 := st_start (q := (i 2).val) (x0 := x0) (x1 := x1) (x2 := x2) 0 (4 * ((wordAt c i xt).toNat / 4) + 2) rfl rfl
  have f0 := step f0 (isS_of_isR (by show _ < 4 * (i 2).val + 0; omega) (isR_of K2 q0 rfl)) V2 rfl rfl
  have f0 := step f0 (isS_of_isR (by show _ < 4 * (i 2).val + 0; omega) (isR_of K3 q0 rfl)) V3 rfl rfl
  have f1 := st_start (q := (i 2).val) (x0 := x0) (x1 := x1) (x2 := x2) 1 (4 * ((wordAt c i xt).toNat / 4) + 3) rfl rfl
  have f1 := step f1 (isS_of_isR (by show _ < 4 * (i 2).val + 1; omega) (isR_of K3 q1 rfl)) V3 rfl rfl
  have f2 := st_start (q := (i 2).val) (x0 := x0) (x1 := x1) (x2 := x2) 2 (4 * ((wordAt c i xt).toNat / 4) + 4) rfl rfl
  have f3 := st_start (q := (i 2).val) (x0 := x0) (x1 := x1) (x2 := x2) 3 (4 * ((wordAt c i xt).toNat / 4) + 4) rfl rfl
  have fs := isR_of KN q0 rfl
  exact ⟨fs, f0, f1, f2, f3⟩

end

end Cert.KernelIdeal.Fox

end
-- ==== Proof.Ideal.Pre.lean ====
/- What the precondition gives: the plan's words are not negative, so the body's assumption holds at every point; and
   the launch's claim. -/
module

public import proofs.«01_k».proof.Defs
public import proofs.«01_k».proof.Proof.Ideal.Frame
public import proofs.«01_k».proof.Proof.Gen.Pre_plan_nonneg

@[expose] public section

noncomputable section

namespace Cert.KernelIdeal.Fox

open Idealize.ShloMosaic Idealize.SL Idealize.SL.Sem
open Cert.KernelIdeal Cert.KernelIdeal.Facts Cert.KernelIdeal.Gen

/-- A word the precondition's comparison accepts. -/
theorem lt_of_sge (w : BitVec 32) (h : IntOp.cmpi .sge w 0#32 = 1#1) : w.toNat < 2 ^ 31 := by
  simp only [IntOp.cmpi] at h
  have h : (0#32 : BitVec 32).sle w = true := by
    cases hb : (0#32 : BitVec 32).sle w
    · rw [hb] at h; exact absurd h (by decide)
    · rfl
  rw [BitVec.sle_iff_toInt_le] at h
  have h1 : (0#32 : BitVec 32).toInt = 0 := by decide
  rw [h1, BitVec.toInt_eq_toNat_cond] at h
  have h2 := w.isLt
  split at h <;> omega

variable (m : (ℓ : Loc nD τ sig) → Buf (Elt Ideal) ℓ)

/-- Every word of the plan is below 2³¹. -/
theorem plan_lt (h : Cert.Pre_KernelIdeal m) (y : S128.Idx) : (m (((0 : Dev nD).tc : Thread nD τ).loc main_arg0) y).toNat < 2 ^ 31 := by
  have pre := congrFun (h 0) y
  simp only [Cert.Pre_plan_nonneg.fn, constantI, broadcastInDim, cmpi] at pre
  exact lt_of_sge _ pre

/-- The word read at a point. -/
theorem word_lt (h : Cert.Pre_KernelIdeal m) (c : Dev nD) (i : grid0.Coords) : (wordAt (F := Ideal) c i (words m 0)).toNat < 2 ^ 31 := by
  obtain rfl : c = 0 := Subsingleton.elim _ _
  exact plan_lt m h _

theorem words_ok (h : Cert.Pre_KernelIdeal m) : WordsOk m := fun c t => chk_ok _ (word_lt m h c _)

theorem claim_frame : Cert.quiescent_KernelIdeal := fun m ρ h => frame_run m ρ (words_ok m h)

end Cert.KernelIdeal.Fox

end
-- ==== Proof.Ideal.Value.lean ====
/- What the launch leaves in the result array: the attention, at every index. -/
module

public import proofs.«01_k».proof.Proof.Attn
public import proofs.«01_k».proof.Proof.Ideal.Cases
public import proofs.«01_k».proof.Proof.Ideal.Pre

@[expose] public section

set_option maxRecDepth 16384

noncomputable section

namespace Cert.KernelIdeal.Fox

open Cert.KernelIdeal.Gen
open Idealize.ShloMosaic Idealize.ShloMosaic.TcCoe
open Idealize.ShloMosaic.Pipeline (Dat Cfg Window)
open Idealize.SL Idealize.SL.Sem
open Cert.Online Cert.FoxAttn Cert.FoxWords

/-- A block's keys, queries and values as functions of their indices. -/
abbrev kB (x1 : Vec Ideal S1x1x8192x128 .bf16) : Fin 8192 → Fin 128 → EReal := fun n d => x1 (ix4 0 0 n d)
abbrev qB (x0 : Vec Ideal S1x1x128x1024 .bf16) (j : Fin 1024) : Fin 128 → EReal := fun d => x0 (ix4 0 0 d j)
abbrev vB (x2 : Vec Ideal S1x1x16x80x512 .bf16) : Fin 16 → Fin 80 → Fin 512 → EReal := fun p r o => x2 (ix5 0 0 p r o)

/-- The block holds the attention of the query tile `q` under the plan's word `w`. -/
def Full (w q : ℕ) (x0 : Vec Ideal S1x1x128x1024 .bf16) (x1 : Vec Ideal S1x1x8192x128 .bf16) (x2 : Vec Ideal S1x1x16x80x512 .bf16)
    (x3 y : Vec Ideal S1x1x64x1024 .bf16) : Prop :=
  ∀ (r : Fin 64) (j : Fin 1024), y (ix4 0 0 r j)
    = Ideal.div (Ac (logit (kB x1) (qB x0 j) w q j.val) (valOf (vB x2) ⟨r, by omega⟩) 0 8192)
        (Ac (logit (kB x1) (qB x0 j) w q j.val) (valOf (vB x2) 64) 0 8192) * x3 (ix4 0 0 r j)

/-- The sums over a sub-block's own range are the sums over every key, where the range is the kept keys'. -/
theorem full_of {w q : ℕ} {lo : Fin 4 → ℕ} {x0 : Vec Ideal S1x1x128x1024 .bf16} {x1 : Vec Ideal S1x1x8192x128 .bf16} {x2 : Vec Ideal S1x1x16x80x512 .bf16}
    {x3 y : Vec Ideal S1x1x64x1024 .bf16} (hq : q < 8) (h : Out q lo x0 x1 x2 x3 y)
    (hin : ∀ (a j : ℕ) (ha : a < 4) (n : ℕ), j / 256 = a → 256 * lo ⟨a, ha⟩ ≤ n → n < 256 * (4 * q + a + 1) → (Kept w q j n ↔ n ≤ 1024 * q + j))
    (hout : ∀ (a j : ℕ) (ha : a < 4) (n : ℕ), j / 256 = a → n < 256 * lo ⟨a, ha⟩ ∨ 256 * (4 * q + a + 1) ≤ n → ¬ Kept w q j n) :
    Full w q x0 x1 x2 x3 y := by
  intro r j
  rw [h r j]
  have e : ∀ V, Ac (lm q x0 x1 j) V (256 * lo ⟨j.val / 256, by omega⟩) (256 * (4 * q + j.val / 256 + 1))
      = Ac (logit (kB x1) (qB x0 j) w q j.val) V 0 8192 := fun V =>
    Ac_kept (by omega) (fun n => rfl) (fun n => hin _ j.val _ n rfl) (fun n => hout _ j.val _ n rfl)
  rw [e, e]
  rfl

section
variable {i : grid0.Coords} {c : Dev nD}
    {arg4 : Memref sig .tc .vmem S1x1x128x1024 .bf16} (harg4 : arg4.IsWhole)
    {arg5 : Memref sig .tc .vmem S1x1x8192x128 .bf16} (harg5 : arg5.IsWhole)
    {arg6 : Memref sig .tc .vmem S1x1x16x80x512 .bf16} (harg6 : arg6.IsWhole)
    {arg7 : Memref sig .tc .vmem S1x1x64x1024 .bf16} (harg7 : arg7.IsWhole)
    {arg8 : Memref sig .tc .vmem S1x1x64x1024 .bf16} (harg8 : arg8.IsWhole)
    {x0 : Vec Ideal S1x1x128x1024 .bf16} {x1 : Vec Ideal S1x1x8192x128 .bf16} {x2 : Vec Ideal S1x1x16x80x512 .bf16}
    {x3 : Vec Ideal S1x1x64x1024 .bf16}
    {xt : PlanBuf (F := Ideal) c planM} (hw : k0_chk1 i (wordAt c i xt)) (hw31 : (wordAt c i xt).toNat < 2 ^ 31)
include hw31

/-- The body's block, whatever the plan's word. -/
theorem full_out : Full (wordAt c i xt).toNat (i 2).val x0 x1 x2 x3
    (outVal (F := Ideal) c i arg4 harg4 arg5 harg5 arg6 harg6 arg7 harg7 arg8 harg8 x0 x1 x2 x3 xt hw) := by
  have hi := i2_lt i
  unfold outVal
  by_cases h1 : k0_cond1 i (wordAt c i xt) = 1#1
  · have g1 := (cond1_iff i hw31).mp h1
    by_cases h2 : k0_cond2 i (wordAt c i xt) = 1#1
    · have g2 := (cond2_iff i hw31 h1).mp h2
      by_cases h3 : k0_cond3 i (wordAt c i xt) = 1#1
      · have g3 := (cond3_iff i hw31 h1 h2).mp h3
        by_cases h4 : k0_cond4 i (wordAt c i xt) = 1#1
        · have g4 := (cond4_iff i hw31 h1 h2 h3).mp h4
          rw [pieces_E c i arg4 harg4 arg5 harg5 arg6 harg6 arg7 harg7 arg8 harg8 x0 x1 x2 x3 xt hw h1 h2 h3 h4]
          refine full_of hi (out_E harg4 harg5 harg6 harg7 harg8 hw hw31 h1 h2 h3 h4) ?_ ?_ <;> intro a j ha n e <;> unfold Kept <;> dsimp only <;> intros <;> omega
        · have g4 := (cond4_iff i hw31 h1 h2 h3).not.mp h4
          rw [pieces_D c i arg4 harg4 arg5 harg5 arg6 harg6 arg7 harg7 arg8 harg8 x0 x1 x2 x3 xt hw h1 h2 h3 h4]
          refine full_of hi (out_D harg4 harg5 harg6 harg7 harg8 hw hw31 h1 h2 h3 h4) ?_ ?_ <;> intro a j ha n e <;> unfold Kept <;> dsimp only <;> intros <;> omega
      · have g3 := (cond3_iff i hw31 h1 h2).not.mp h3
        rw [pieces_C c i arg4 harg4 arg5 harg5 arg6 harg6 arg7 harg7 arg8 harg8 x0 x1 x2 x3 xt hw h1 h2 h3]
        refine full_of hi (out_C harg4 harg5 harg6 harg7 harg8 hw hw31 h1 h2 h3) ?_ ?_ <;> intro a j ha n e <;> unfold Kept <;> dsimp only <;> intros <;> omega
    · have g2 := (cond2_iff i hw31 h1).not.mp h2
      rw [pieces_B c i arg4 harg4 arg5 harg5 arg6 harg6 arg7 harg7 arg8 harg8 x0 x1 x2 x3 xt hw h1 h2]
      refine full_of hi (out_B harg4 harg5 harg6 harg7 harg8 hw hw31 h1 h2) ?_ ?_ <;> intro a j ha n e <;> unfold Kept <;> dsimp only <;> intros <;> omega
  · have g1 := (cond1_iff i hw31).not.mp h1
    rw [pieces_A c i arg4 harg4 arg5 harg5 arg6 harg6 arg7 harg7 arg8 harg8 x0 x1 x2 x3 xt hw h1]
    refine full_of hi (out_A harg4 harg5 harg6 harg7 harg8 hw hw31 h1) ?_ ?_ <;> intro a j ha n e <;> unfold Kept <;> dsimp only <;> intros <;> omega
end

end Cert.KernelIdeal.Fox

end
-- ==== Proof.Ideal.Result.lean ====
/- The result array after the launch, and the run with it. -/
module

public import proofs.«01_k».proof.Proof.Ideal.Value

@[expose] public section

set_option maxRecDepth 16384

noncomputable section

namespace Cert.KernelIdeal.Fox

open Cert.KernelIdeal.Gen
open Idealize.ShloMosaic Idealize.ShloMosaic.TcCoe
open Idealize.ShloMosaic.Pipeline (Dat Cfg Window)
open Idealize.SL Idealize.SL.Sem
open Cert.Online Cert.FoxAttn Cert.FoxWords

variable (m : (ℓ : Loc nD τ sig) → Buf (Elt Ideal) ℓ) (ρ : Dev nD → PrngReg)

/-- The arguments on a core as functions of their indices. -/
def planA (c : Dev nD) : Fin 128 → BitVec 32 := fun x => m ((c.tc : Thread nD τ).loc main_arg0) (ix1 x)
def qtA (c : Dev nD) : Fin 2 → Fin 8 → Fin 128 → Fin 8192 → EReal := fun b h d j => m ((c.tc : Thread nD τ).loc main_arg1) (ix4 b h d j)
def kA (c : Dev nD) : Fin 2 → Fin 8 → Fin 8192 → Fin 128 → EReal := fun b h n d => m ((c.tc : Thread nD τ).loc main_arg2) (ix4 b h n d)
def vtA (c : Dev nD) : Fin 2 → Fin 8 → Fin 16 → Fin 80 → Fin 512 → EReal := fun b h p r o => m ((c.tc : Thread nD τ).loc main_arg3) (ix5 b h p r o)
def gtA (c : Dev nD) : Fin 2 → Fin 8 → Fin 64 → Fin 8192 → EReal := fun b h r j => m ((c.tc : Thread nD τ).loc main_arg4) (ix4 b h r j)

/-- What the result array ends holding. -/
def res (c : Dev nD) : Buf (Elt Ideal) ((c.tc : Thread nD τ).loc main_v0) := fun x =>
  attn (planA m c) (qtA m c) (kA m c) (vtA m c) (gtA m c) (x 0) (x 1) (x 2) (x 3)

theorem idx (t : Fin (pipe m).N) :
    ((pipe m).win 0).index t = ![(grid0.coords t 0).val, (grid0.coords t 1).val, 0, (grid0.coords t 2).val]
    ∧ ((pipe m).win 1).index t = ![(grid0.coords t 0).val, (grid0.coords t 1).val, 0, 0]
    ∧ ((pipe m).win 2).index t = ![(grid0.coords t 0).val, (grid0.coords t 1).val, 0, 0, 0]
    ∧ ((pipe m).win 3).index t = ![(grid0.coords t 0).val, (grid0.coords t 1).val, 0, (grid0.coords t 2).val]
    ∧ ((pipe m).win 4).index t = ![(grid0.coords t 0).val, (grid0.coords t 1).val, 0, (grid0.coords t 2).val] :=
  (by decide +kernel : ∀ t : Fin grid0.N, cc0_transform_0 (grid0.coords t) = ![(grid0.coords t 0).val, (grid0.coords t 1).val, 0, (grid0.coords t 2).val]
    ∧ cc0_transform_1 (grid0.coords t) = ![(grid0.coords t 0).val, (grid0.coords t 1).val, 0, 0]
    ∧ cc0_transform_2 (grid0.coords t) = ![(grid0.coords t 0).val, (grid0.coords t 1).val, 0, 0, 0]
    ∧ cc0_transform_3 (grid0.coords t) = ![(grid0.coords t 0).val, (grid0.coords t 1).val, 0, (grid0.coords t 2).val]
    ∧ cc0_transform_4 (grid0.coords t) = ![(grid0.coords t 0).val, (grid0.coords t 1).val, 0, (grid0.coords t 2).val]) t

theorem i0_lt (i : grid0.Coords) : (i 0).val < 2 := (i 0).isLt
theorem i1_lt (i : grid0.Coords) : (i 1).val < 8 := (i 1).isLt

/-- The grid's place in the arrays. -/
abbrev bO (i : grid0.Coords) : Fin 2 := ⟨(i 0).val, i0_lt i⟩
abbrev hO (i : grid0.Coords) : Fin 8 := ⟨(i 1).val, i1_lt i⟩
abbrev jO (i : grid0.Coords) (j : Fin 1024) : Fin 8192 := ⟨1024 * (i 2).val + j.val, by have := i2_lt i; omega⟩

theorem block_q (c : Dev nD) (t : Fin (pipe m).N) (d : Fin 128) (j : Fin 1024) :
    blockAt m c 0 t (ix4 0 0 d j) = qtA m c (bO (grid0.coords t)) (hO (grid0.coords t)) d (jO (grid0.coords t) j) := by
  unfold qtA
  blk_ext [blockAt, V, (idx m t).1]

theorem block_k (c : Dev nD) (t : Fin (pipe m).N) (n : Fin 8192) (d : Fin 128) :
    blockAt m c 1 t (ix4 0 0 n d) = kA m c (bO (grid0.coords t)) (hO (grid0.coords t)) n d := by
  unfold kA
  blk_ext [blockAt, V, (idx m t).2.1]

theorem block_v (c : Dev nD) (t : Fin (pipe m).N) (p : Fin 16) (r : Fin 80) (o : Fin 512) :
    blockAt m c 2 t (ix5 0 0 p r o) = vtA m c (bO (grid0.coords t)) (hO (grid0.coords t)) p r o := by
  unfold vtA
  blk_ext [blockAt, V, (idx m t).2.2.1]

theorem block_g (c : Dev nD) (t : Fin (pipe m).N) (r : Fin 64) (j : Fin 1024) :
    blockAt m c 3 t (ix4 0 0 r j) = gtA m c (bO (grid0.coords t)) (hO (grid0.coords t)) r (jO (grid0.coords t) j) := by
  unfold gtA
  blk_ext [blockAt, V, (idx m t).2.2.2.1]

/-- The plan's word of a point. -/
theorem word_eq (c : Dev nD) (i : grid0.Coords) :
    wordAt c i (words m 0) = planA m c ⟨64 * (i 0).val + 8 * (i 1).val + (i 2).val, by have := i0_lt i; have := i1_lt i; have := i2_lt i; omega⟩ := by
  obtain rfl : c = 0 := Subsingleton.elim _ _
  have e := congrFun (k0_off1_eq i) 0
  refine congrArg (m (((0 : Dev nD).tc : Thread nD τ).loc main_arg0)) (funext fun a => Fin.ext ?_)
  fin_cases a
  exact e

/-- A block that holds its tile's attention over blocks of the arrays holds the arrays'. -/
theorem Full.attn {w q : ℕ} {x0 : Vec Ideal S1x1x128x1024 .bf16} {x1 : Vec Ideal S1x1x8192x128 .bf16} {x2 : Vec Ideal S1x1x16x80x512 .bf16}
    {x3 y : Vec Ideal S1x1x64x1024 .bf16} (h : Full w q x0 x1 x2 x3 y) {plan qt k vt gt} {b : Fin 2} {hd : Fin 8} {r : Fin 64} {j : Fin 1024} {J : Fin 8192}
    (hJ : J.val = 1024 * q + j.val) (h0 : ∀ d, x0 (ix4 0 0 d j) = qt b hd d J) (h1 : ∀ n d, x1 (ix4 0 0 n d) = k b hd n d)
    (h2 : ∀ p r o, x2 (ix5 0 0 p r o) = vt b hd p r o) (h3 : x3 (ix4 0 0 r j) = gt b hd r J)
    (hw : w = (plan ⟨64 * b.val + 8 * hd.val + J.val / 1024, by omega⟩).toNat) :
    y (ix4 0 0 r j) = FoxAttn.attn plan qt k vt gt b hd r J := by
  have ek : kB x1 = k b hd := funext₂ h1
  have eq : qB x0 j = fun d => qt b hd d J := funext h0
  have ev : vB x2 = vt b hd := funext fun p => funext₂ (h2 p)
  have e1 : J.val / 1024 = q := by omega
  have e2 : J.val % 1024 = j.val := by omega
  rw [h r j, ek, eq, ev, h3, hw]
  unfold FoxAttn.attn
  subst e1
  rw [e2]

/-- The block of the result at a point. -/
theorem out_block (h : Cert.Pre_KernelIdeal m) (c : Dev nD) (t : Fin (pipe m).N) (r : Fin 64) (j : Fin 1024) :
    outAt m (words_ok m h) c t (ix4 0 0 r j)
      = attn (planA m c) (qtA m c) (kA m c) (vtA m c) (gtA m c) (bO (grid0.coords t)) (hO (grid0.coords t)) r (jO (grid0.coords t) j) := by
  have hi := i2_lt (grid0.coords t)
  have e1 : (jO (grid0.coords t) j).val / 1024 = (grid0.coords t 2).val := by show (1024 * _ + j.val) / 1024 = _; omega
  refine Full.attn (full_out _ _ _ _ _ (words_ok m h c t) (word_lt m h c _)) rfl (fun d => block_q m c t d j) (fun n d => block_k m c t n d)
    (fun p r o => block_v m c t p r o) (block_g m c t r j) ?_
  rw [word_eq]
  congr 2
  exact Fin.ext (by show 64 * _ + 8 * _ + _ = 64 * _ + 8 * _ + _; rw [e1])

theorem onto : ∀ (a : Fin 2) (b q : Fin 8), ∃ t : Fin grid0.N, cc0_transform_4 (grid0.coords t) = ![a.val, b.val, 0, q.val] := by decide +kernel

/-- Every point writes its block back. -/
theorem flushes (t : Fin (pipe m).N) : ((pipe m).win 4).flush t = true :=
  Pipeline.Window.flushOf_reads cc0_transform_4 reads0_4 hreads0_4 2 (by decide) (by decide) (Pipeline.Window.sep_of_coord cc0_transform_4 2 3 (fun _ => rfl) (by decide)) (P := 1) (m := 0) (by decide) rfl t |>.mpr (Nat.mod_one _)

/-- The blocks written back tile the result. -/
theorem covers : ((pipe m).win 4).Covers := by
  refine ⟨(by decide : ∀ a : Fin 4, 0 < S1x1x64x1024.size a), fun β => ?_⟩
  have n0 : (β (0 : Fin 4)).val < 2 := lt_of_lt_of_eq (β (0 : Fin 4)).isLt (show (2 + 1 - 1) / 1 = 2 from rfl)
  have n1 : (β (1 : Fin 4)).val < 8 := lt_of_lt_of_eq (β (1 : Fin 4)).isLt (show (8 + 1 - 1) / 1 = 8 from rfl)
  have n2 : (β (2 : Fin 4)).val < 1 := lt_of_lt_of_eq (β (2 : Fin 4)).isLt (show (64 + 64 - 1) / 64 = 1 from rfl)
  have n3 : (β (3 : Fin 4)).val < 8 := lt_of_lt_of_eq (β (3 : Fin 4)).isLt (show (8192 + 1024 - 1) / 1024 = 8 from rfl)
  obtain ⟨t, ht⟩ := onto ⟨(β (0 : Fin 4)).val, n0⟩ ⟨(β (1 : Fin 4)).val, n1⟩ ⟨(β (3 : Fin 4)).val, n3⟩
  refine ⟨t, flushes m t, fun a => ⟨?_, Or.inl rfl⟩⟩
  refine (congrFun ht a).trans ?_
  fin_cases a
  · rfl
  · rfl
  · show 0 = (β (2 : Fin 4)).val; omega
  · rfl

theorem final (h : Cert.Pre_KernelIdeal m) (c : Dev nD) : (dats m (words_ok m h) 0 c).arrAt 4 (pipe m).N = res m c := by
  refine (dats m (words_ok m h) 0 c).arrAt_eq_of_covers 4 _ (covers m) fun t hf y => ?_
  blk_simp
  rw [after_4]
  obtain ⟨r, j, rfl⟩ : ∃ (r : Fin 64) (j : Fin 1024), y = ix4 0 0 r j := ⟨y (2 : Fin 4), y (3 : Fin 4), by
    funext a
    have y0 : (y (0 : Fin 4)).val < 1 := (y (0 : Fin 4)).isLt
    have y1 : (y (1 : Fin 4)).val < 1 := (y (1 : Fin 4)).isLt
    fin_cases a
    · exact Fin.ext (by show (y (0 : Fin 4)).val = 0; omega)
    · exact Fin.ext (by show (y (1 : Fin 4)).val = 0; omega)
    · rfl
    · rfl⟩
  refine (out_block m h c t r j).trans ?_
  show attn _ _ _ _ _ _ _ _ _ = attn _ _ _ _ _ _ _ _ _
  have e := (idx m t).2.2.2.2
  congr 1 <;> apply Fin.ext
  · blk_simp [e]; rfl
  · blk_simp [e]; rfl
  · blk_simp [e]
  · blk_simp [e]; show _ = _; simp only [jO]; omega

/-- The run: the result at the attention, the arguments unchanged. -/
theorem run (h : Cert.Pre_KernelIdeal m) : θ_run defs (onTc (τ := τ) (main (F := Ideal))) ⟨m, fun _ => 0, ρ⟩ (fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c => ⟨
      ((hr.1 c).1 4).trans (final m h c),
      (hr.1 c).2 main_arg0 (by decide : main_arg0 ∈ Pipeline.restRefs sig spec0),
      ((hr.1 c).1 0).trans ((dats m (words_ok m h) 0 c).arrAt_in 0 rfl _),
      ((hr.1 c).1 1).trans ((dats m (words_ok m h) 0 c).arrAt_in 1 rfl _),
      ((hr.1 c).1 2).trans ((dats m (words_ok m h) 0 c).arrAt_in 2 rfl _),
      ((hr.1 c).1 3).trans ((dats m (words_ok m h) 0 c).arrAt_in 3 rfl _)⟩)
    (run_all m ρ (words_ok m h))

end Cert.KernelIdeal.Fox

end
-- ==== Proof.Algebraic.lean ====
/- The kernel and the reference, idealized, end with equal results. -/
module

public import proofs.«01_k».proof.Proof.RefValue
public import proofs.«01_k».proof.Proof.Ideal.Result
public import proofs.«01_k».proof.Proof.Gen.Pre_plan_nonneg

@[expose] public section

noncomputable section

namespace Cert.Fox

open Idealize.ShloMosaic Idealize.SL.Sem
open Cert.KernelIdeal.Fox (res)

/-- From arguments that agree, and a plan without negative words, the reference's result is the kernel's. -/
theorem ref_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (h : Cert.Pre_KernelIdeal m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v58 m' c = res m c := by
  rw [Cert.ReferenceIdeal.Read.val_main_v58_eq, h0, h1, h2, h3, h4]
  have hc : c = 0 := Subsingleton.elim _ _
  subst hc
  funext x
  have hx : x = ix4 (x 0) (x 1) (x 2) (x 3) := funext fun a => match a with | ⟨0, _⟩ => rfl | ⟨1, _⟩ => rfl | ⟨2, _⟩ => rfl | ⟨3, _⟩ => rfl
  rw [hx]
  exact Cert.ReferenceIdeal.Fox.result_at _ _ _ _ _ (fun y => Cert.KernelIdeal.Fox.plan_lt m h y) _ _ _ _

/-- The two programs end with equal results, their arguments unchanged. -/
theorem claim_algebraic : Cert.algebraic_KernelIdeal_ReferenceIdeal := by
  intro m ρ m' ρ' hpre hagree
  refine ⟨fun c => res m c, Cert.KernelIdeal.Fox.run m ρ hpre, ?_⟩
  refine (θ_run _ _ _).mono (fun r h c => ?_) (Cert.ReferenceIdeal.Value.run m' ρ')
  obtain ⟨a0, a1, a2, a3, a4⟩ := hagree c
  exact ⟨(h c).1.trans (ref_eq m m' hpre c a0 a1 a2 a3 a4), (h c).2⟩

end Cert.Fox

end
-- ==== Proof.Bits.Pre.lean ====
/- What the precondition gives: the plan's words are not negative, so the body's assumption holds at every point; and
   the launch's claim. -/
module

public import proofs.«01_k».proof.Defs
public import proofs.«01_k».proof.Proof.Bits.Frame
public import proofs.«01_k».proof.Proof.Gen.Pre_plan_nonneg

@[expose] public section

noncomputable section

namespace Cert.Kernel.Fox

open Idealize.ShloMosaic Idealize.SL Idealize.SL.Sem
open Cert.Kernel Cert.Kernel.Facts Cert.Kernel.Gen

/-- A word the precondition's comparison accepts. -/
theorem lt_of_sge (w : BitVec 32) (h : IntOp.cmpi .sge w 0#32 = 1#1) : w.toNat < 2 ^ 31 := by
  simp only [IntOp.cmpi] at h
  have h : (0#32 : BitVec 32).sle w = true := by
    cases hb : (0#32 : BitVec 32).sle w
    · rw [hb] at h; exact absurd h (by decide)
    · rfl
  rw [BitVec.sle_iff_toInt_le] at h
  have h1 : (0#32 : BitVec 32).toInt = 0 := by decide
  rw [h1, BitVec.toInt_eq_toNat_cond] at h
  have h2 := w.isLt
  split at h <;> omega

variable (m : (ℓ : Loc nD τ sig) → Buf (Elt Bits) ℓ)

/-- Every word of the plan is below 2³¹. -/
theorem plan_lt (h : Cert.Pre_Kernel m) (y : S128.Idx) : (m (((0 : Dev nD).tc : Thread nD τ).loc main_arg0) y).toNat < 2 ^ 31 := by
  have pre := congrFun (h 0) y
  simp only [Cert.Pre_plan_nonneg.fn, constantI, broadcastInDim, cmpi] at pre
  exact lt_of_sge _ pre

/-- The word read at a point. -/
theorem word_lt (h : Cert.Pre_Kernel m) (c : Dev nD) (i : grid0.Coords) : (wordAt (F := Bits) c i (words m 0)).toNat < 2 ^ 31 := by
  obtain rfl : c = 0 := Subsingleton.elim _ _
  exact plan_lt m h _

theorem words_ok (h : Cert.Pre_Kernel m) : WordsOk m := fun c t => chk_ok _ (word_lt m h c _)

theorem claim_frame : Cert.quiescent_Kernel := fun m ρ h => frame_run m ρ (words_ok m h)

end Cert.Kernel.Fox

end
-- ==== Proof.Post.Ref.lean ====
/- The layer's closing reference: its run, and its value at an index. -/
module

public import proofs.«01_k».proof.Proof.Gen.ReferencePostIdeal.Read
public import proofs.«01_k».proof.Proof.Gen.ReferencePostIdeal.Run

@[expose] public section

end
-- ==== Proof.Post.Layer.lean ====
/- The layer's closing in mathematics, row by row over the extended reals: the projection of both branches' outputs added
   to the residual, its root-mean-square norm, and the gated per-layer embedding added to it. -/
module

public import Idealize.ShloMosaic.Lib.Pointwise

@[expose] public section

noncomputable section

namespace Cert.Closing

open Idealize.ShloMosaic

/-- The row of the upper half, and of the lower. -/
abbrev lo (d : Fin 512) : Fin 1024 := ⟨d.val, by omega⟩
abbrev hi (d : Fin 512) : Fin 1024 := ⟨512 + d.val, by omega⟩

/-- The residual with the two branches' projections. -/
def hid (h : Fin 1024 → EReal) (a b : Fin 512 → EReal) (w : Fin 1024 → Fin 1024 → EReal) : Fin 1024 → EReal := fun e =>
  h e + ∑ d, a d * w (lo d) e + ∑ d, b d * w (hi d) e

/-- A row over its root mean square, by a weight. -/
def nrm (x g : Fin 1024 → EReal) : Fin 1024 → EReal := fun k =>
  x k * Ideal.rsqrt (Ideal.div (∑ j, x j * x j) (Ideal.ofBits .f32 0x44800000#32) + Ideal.ofBits .f32 0x358637BD#32) * g k

/-- The row with the gated embedding. -/
def close (x g : Fin 1024 → EReal) (p : Fin 256 → EReal) (wg : Fin 1024 → Fin 1024 → EReal) (wp : Fin 256 → Fin 1024 → EReal) :
    Fin 1024 → EReal := fun e =>
  x e + (∑ k, p k * wp k e) * Ideal.logistic (∑ k, nrm x g k * wg k e)

/-- A sum over both halves. -/
theorem sum_halves (f : Fin 1024 → EReal) : ∑ k, f k = ∑ d : Fin 512, f (lo d) + ∑ d : Fin 512, f (hi d) :=
  Fin.sum_univ_add (a := 512) (b := 512) f

/-- The closing at a batch and position, over the arguments as functions of their indices. -/
def closing (h : Fin 2 → Fin 8192 → Fin 1024 → EReal) (oat : Fin 2 → Fin 8 → Fin 64 → Fin 8192 → EReal)
    (ob : Fin 2 → Fin 8192 → Fin 512 → EReal) (p : Fin 2 → Fin 8192 → Fin 256 → EReal) (w : Fin 1024 → Fin 1024 → EReal)
    (g : Fin 1024 → EReal) (wg : Fin 1024 → Fin 1024 → EReal) (wp : Fin 256 → Fin 1024 → EReal) (b : Fin 2) (j : Fin 8192) :
    Fin 1024 → EReal :=
  close (hid (h b j) (fun d => oat b ⟨d.val / 64, by omega⟩ ⟨d.val % 64, by omega⟩ j) (ob b j) w) g (p b j) wg wp

end Cert.Closing

end
-- ==== Proof.Post.RefValue.lean ====
/- The closing reference's result is the layer's closing, over its arguments as functions of their indices. -/
module

public import proofs.«01_k».proof.Proof.Post.Ref
public import proofs.«01_k».proof.Proof.Post.Layer
public import Idealize.ShloMosaic.Lib.Pointwise
public import Idealize.ShloMosaic.Lib.Tactic.CleanTypes

@[expose] public section

set_option maxRecDepth 16384

noncomputable section

namespace Cert.ReferencePostIdeal.Post

open Idealize.ShloMosaic Cert.ReferencePostIdeal Cert.ReferencePostIdeal.Read
open Cert.Closing

section
variable (x0 : (⟨S2x8192x1024, .f32⟩ : BufTy).Contents (Elt Ideal)) (x1 : (⟨S2x8x64x8192, .bf16⟩ : BufTy).Contents (Elt Ideal))
  (x2 : (⟨S2x8192x512, .bf16⟩ : BufTy).Contents (Elt Ideal)) (x3 : (⟨S2x2x8192x256, .f32⟩ : BufTy).Contents (Elt Ideal))
  (x4 : (⟨S2x1024x1024, .f32⟩ : BufTy).Contents (Elt Ideal)) (x5 : (⟨S2x1024, .f32⟩ : BufTy).Contents (Elt Ideal))
  (x6 : (⟨S2x1024x1024, .f32⟩ : BufTy).Contents (Elt Ideal)) (x7 : (⟨S2x256x1024, .f32⟩ : BufTy).Contents (Elt Ideal))

/-- The hidden row of a batch and position. -/
abbrev hidR (b : Fin 2) (j : Fin 8192) : Fin 1024 → EReal :=
  hid (fun k => x0 (ix3 b j k)) (fun d => x1 (ix4 b (⟨d.val / 64, by omega⟩ : Fin 8) (⟨d.val % 64, by omega⟩ : Fin 64) j))
    (fun d => x2 (ix3 b j d)) (fun k e => x4 (ix3 1 k e))

theorem oa_at (b : Fin 2) (j : Fin 8192) (d : Fin 512) : val_main_v1 (F := Ideal) x1 (ix3 b j d)
    = x1 (ix4 b (⟨d.val / 64, by omega⟩ : Fin 8) (⟨d.val % 64, by omega⟩ : Fin 64) j) := by
  rw [val_main_v1_apply, val_main_v0_apply]
  have hb := b.isLt
  have hj := j.isLt
  have hd := d.isLt
  refine congrArg x1 (funext fun a => Fin.ext ?_)
  match a with
  | ⟨0, _⟩ => simp [ix3, ix4]; omega
  | ⟨1, _⟩ => simp [ix3, ix4]; omega
  | ⟨2, _⟩ => simp [ix3, ix4]; omega
  | ⟨3, _⟩ => simp [ix3, ix4]; omega

theorem both_lo (b : Fin 2) (j : Fin 8192) (d : Fin 512) : val_main_v2 (F := Ideal) x1 x2 (ix3 b j (lo d))
    = val_main_v1 (F := Ideal) x1 (ix3 b j d) := by
  unfold val_main_v2
  generalize val_main_v1 (F := Ideal) x1 = y
  clean_types
  pointwise

theorem both_hi (b : Fin 2) (j : Fin 8192) (d : Fin 512) : val_main_v2 (F := Ideal) x1 x2 (ix3 b j (hi d))
    = x2 (ix3 b j d) := by
  unfold val_main_v2
  generalize val_main_v1 (F := Ideal) x1 = y
  clean_types
  pointwise

theorem w_at (k e : Fin 1024) : val_main_v5 (F := Ideal) x4 (ix2 k e) = x4 (ix3 1 k e) := by
  rw [val_main_v5_apply, val_main_v4_apply]
  have hk := k.isLt
  have he := e.isLt
  refine congrArg x4 (funext fun a => Fin.ext ?_)
  match a with
  | ⟨0, _⟩ => simp [ix3, ix2]
  | ⟨1, _⟩ => simp [ix3, ix2]; omega
  | ⟨2, _⟩ => simp [ix3, ix2]

theorem wg_at (k e : Fin 1024) : val_main_v24 (F := Ideal) x6 (ix2 k e) = x6 (ix3 1 k e) := by
  rw [val_main_v24_apply, val_main_v23_apply]
  have hk := k.isLt
  have he := e.isLt
  refine congrArg x6 (funext fun a => Fin.ext ?_)
  match a with
  | ⟨0, _⟩ => simp [ix3, ix2]
  | ⟨1, _⟩ => simp [ix3, ix2]; omega
  | ⟨2, _⟩ => simp [ix3, ix2]

theorem wp_at (k : Fin 256) (e : Fin 1024) : val_main_v35 (F := Ideal) x7 (ix2 k e) = x7 (ix3 1 k e) := by
  rw [val_main_v35_apply, val_main_v34_apply]
  have hk := k.isLt
  have he := e.isLt
  refine congrArg x7 (funext fun a => Fin.ext ?_)
  match a with
  | ⟨0, _⟩ => simp [ix3, ix2]
  | ⟨1, _⟩ => simp [ix3, ix2]; omega
  | ⟨2, _⟩ => simp [ix3, ix2]

theorem p_at (b : Fin 2) (j : Fin 8192) (k : Fin 256) : val_main_v33 (F := Ideal) x3 (ix3 b j k) = x3 (ix4 1 b j k) := by
  rw [val_main_v33_apply, val_main_v32_apply]
  have hb := b.isLt
  have hj := j.isLt
  have hk := k.isLt
  refine congrArg x3 (funext fun a => Fin.ext ?_)
  match a with
  | ⟨0, _⟩ => simp [ix3, ix4]
  | ⟨1, _⟩ => simp [ix3, ix4]; omega
  | ⟨2, _⟩ => simp [ix3, ix4]; omega
  | ⟨3, _⟩ => simp [ix3, ix4]

theorem g_at (b : Fin 2) (j : Fin 8192) (k : Fin 1024) : val_main_v21 (F := Ideal) x5 (ix3 b j k) = x5 (ix2 1 k) := by
  rw [val_main_v21_apply, val_main_v20_apply, val_main_v9_apply, val_main_v8_apply]
  have hk := k.isLt
  refine congrArg x5 (funext fun a => Fin.ext ?_)
  match a with
  | ⟨0, _⟩ => simp [ix3, ix2]
  | ⟨1, _⟩ => simp [ix3, ix2]

/-- The hidden row. -/
theorem hid_at (b : Fin 2) (j : Fin 8192) (e : Fin 1024) :
    val_main_v7 (F := Ideal) x0 x1 x2 x4 (ix3 b j e) = hidR x0 x1 x2 x4 b j e := by
  rw [val_main_v7_apply, val_main_v6_apply]
  unfold hidR hid
  rw [sum_halves, add_assoc]
  refine congrArg (x0 (ix3 b j e) + ·) (congrArg₂ (· + ·) (Finset.sum_congr rfl fun d _ => ?_) (Finset.sum_congr rfl fun d _ => ?_))
  · refine Eq.trans ?_ (congrArg₂ (· * ·) ((both_lo x1 x2 b j d).trans (oa_at x1 b j d)) (w_at x4 (lo d) e))
    exact congrArg₂ (· * ·) (congrArg (val_main_v2 (F := Ideal) x1 x2) (funext fun a => match a with | ⟨0, _⟩ => rfl | ⟨1, _⟩ => rfl | ⟨2, _⟩ => rfl))
      (congrArg (val_main_v5 (F := Ideal) x4) (funext fun a => match a with | ⟨0, _⟩ => rfl | ⟨1, _⟩ => rfl))
  · refine Eq.trans ?_ (congrArg₂ (· * ·) (both_hi x1 x2 b j d) (w_at x4 (hi d) e))
    exact congrArg₂ (· * ·) (congrArg (val_main_v2 (F := Ideal) x1 x2) (funext fun a => match a with | ⟨0, _⟩ => rfl | ⟨1, _⟩ => rfl | ⟨2, _⟩ => rfl))
      (congrArg (val_main_v5 (F := Ideal) x4) (funext fun a => match a with | ⟨0, _⟩ => rfl | ⟨1, _⟩ => rfl))

/-- The sum of the row's squares. -/
theorem sq_at (b : Fin 2) (j : Fin 8192) (z : Fin 1) :
    val_main_v12 (F := Ideal) x0 x1 x2 x4 (ix3 b j z) = ∑ k, hidR x0 x1 x2 x4 b j k * hidR x0 x1 x2 x4 b j k := by
  rw [val_main_v12_apply, val_main_v11_apply, val_main_cst_apply]
  refine Eq.trans (congrArg₂ (· + ·) (show Ideal.ofBits .f32 0x00000000#32 = 0 by simp [Ideal.ofBits, Ideal.ieee]) rfl) ?_
  rw [zero_add]
  refine Finset.sum_congr rfl fun k _ => ?_
  rw [val_main_v10_apply, ← hid_at]
  have e : idx_main_v11 (idx_main_v12 (ix3 b j z)) k = ix3 b j k := funext fun a => match a with | ⟨0, _⟩ => rfl | ⟨1, _⟩ => rfl | ⟨2, _⟩ => rfl
  rw [e]
  rfl

/-- The row's norm. -/
theorem nrm_at (b : Fin 2) (j : Fin 8192) (k : Fin 1024) :
    val_main_v22 (F := Ideal) x0 x1 x2 x4 x5 (ix3 b j k) = nrm (hidR x0 x1 x2 x4 b j) (fun k => x5 (ix2 1 k)) k := by
  have e : idx_main_v18 (ix3 b j k) = ix3 b j (0 : Fin 1) := funext fun a => match a with | ⟨0, _⟩ => rfl | ⟨1, _⟩ => rfl | ⟨2, _⟩ => rfl
  rw [val_main_v22_apply, val_main_v19_apply, val_main_v18_apply, e, val_main_v17_apply, val_main_v16_apply, val_main_v14_apply,
    val_main_v13_apply, val_main_v15_apply, sq_at, hid_at, g_at]
  rfl

/-- The gate. -/
theorem gate_at (b : Fin 2) (j : Fin 8192) (e : Fin 1024) :
    val_main_v31 (F := Ideal) x0 x1 x2 x4 x5 x6 (ix3 b j e)
      = Ideal.logistic (∑ k, nrm (hidR x0 x1 x2 x4 b j) (fun k => x5 (ix2 1 k)) k * x6 (ix3 1 k e)) := by
  have e25 : val_main_v25 (F := Ideal) x0 x1 x2 x4 x5 x6 (ix3 b j e)
      = ∑ k, nrm (hidR x0 x1 x2 x4 b j) (fun k => x5 (ix2 1 k)) k * x6 (ix3 1 k e) := by
    rw [val_main_v25_apply]
    refine Finset.sum_congr rfl fun k _ => ?_
    refine Eq.trans ?_ (congrArg₂ (· * ·) (nrm_at x0 x1 x2 x4 x5 b j k) (wg_at x6 k e))
    exact congrArg₂ (· * ·) (congrArg (val_main_v22 (F := Ideal) x0 x1 x2 x4 x5) (funext fun a => match a with | ⟨0, _⟩ => rfl | ⟨1, _⟩ => rfl | ⟨2, _⟩ => rfl))
      (congrArg (val_main_v24 (F := Ideal) x6) (funext fun a => match a with | ⟨0, _⟩ => rfl | ⟨1, _⟩ => rfl))
  have one : Ideal.ofBits .f32 0x3F800000#32 = 1 := by
    simp [Ideal.ofBits, Ideal.ieee]
    have : ((8388608 : ℝ) : EReal) * (((2 ^ 23)⁻¹ : ℝ) : EReal) = ((1 : ℝ) : EReal) := by rw [← EReal.coe_mul]; norm_num
    exact this
  rw [val_main_v31_apply, val_main_v30_apply, val_main_v29_apply, val_main_v28_apply, val_main_v27_apply, val_main_v26_apply, e25,
    val_main_cst_2_apply, val_main_cst_3_apply]
  refine Eq.trans (congrArg₂ Ideal.div one (congrArg₂ (· + ·) one rfl)) ?_
  rfl

/-- The result at a batch, position and column, before the trailing reshape. -/
theorem row_at (b : Fin 2) (j : Fin 8192) (e : Fin 1024) :
    val_main_v38 (F := Ideal) x0 x1 x2 x3 x4 x5 x6 x7 (ix3 b j e)
      = closing (fun b j k => x0 (ix3 b j k)) (fun b h d j => x1 (ix4 b h d j)) (fun b j d => x2 (ix3 b j d)) (fun b j k => x3 (ix4 1 b j k))
          (fun k e => x4 (ix3 1 k e)) (fun k => x5 (ix2 1 k)) (fun k e => x6 (ix3 1 k e)) (fun k e => x7 (ix3 1 k e)) b j e := by
  have e36 : val_main_v36 (F := Ideal) x3 x7 (ix3 b j e) = ∑ k, x3 (ix4 1 b j k) * x7 (ix3 1 k e) := by
    rw [val_main_v36_apply]
    refine Finset.sum_congr rfl fun k _ => ?_
    refine Eq.trans ?_ (congrArg₂ (· * ·) (p_at x3 b j k) (wp_at x7 k e))
    exact congrArg₂ (· * ·) (congrArg (val_main_v33 (F := Ideal) x3) (funext fun a => match a with | ⟨0, _⟩ => rfl | ⟨1, _⟩ => rfl | ⟨2, _⟩ => rfl))
      (congrArg (val_main_v35 (F := Ideal) x7) (funext fun a => match a with | ⟨0, _⟩ => rfl | ⟨1, _⟩ => rfl))
  rw [val_main_v38_apply, val_main_v37_apply, e36, gate_at, hid_at]
  rfl

/-- The result at an index. -/
theorem result_at (R : Fin 16384) (e : Fin 1024) :
    val_main_v39 (F := Ideal) x0 x1 x2 x3 x4 x5 x6 x7 (ix2 R e)
      = closing (fun b j k => x0 (ix3 b j k)) (fun b h d j => x1 (ix4 b h d j)) (fun b j d => x2 (ix3 b j d)) (fun b j k => x3 (ix4 1 b j k))
          (fun k e => x4 (ix3 1 k e)) (fun k => x5 (ix2 1 k)) (fun k e => x6 (ix3 1 k e)) (fun k e => x7 (ix3 1 k e))
          ⟨R.val / 8192, by omega⟩ ⟨R.val % 8192, by omega⟩ e := by
  rw [val_main_v39_apply, ← row_at]
  have hR := R.isLt
  have he := e.isLt
  refine congrArg (val_main_v38 (F := Ideal) x0 x1 x2 x3 x4 x5 x6 x7) (funext fun a => Fin.ext ?_)
  match a with
  | ⟨0, _⟩ => simp [ix3, ix2]; omega
  | ⟨1, _⟩ => simp [ix3, ix2]; omega
  | ⟨2, _⟩ => simp [ix3, ix2]
end

end Cert.ReferencePostIdeal.Post

end
-- ==== Proof.Post.Kernel.lean ====
/- What a grid point of the layer's closing call leaves in its output block: one formula of the point's blocks and of the
   three weights that the first point rounds and keeps. -/
module

public import proofs.«01_k».proof.Proof.Gen.KernelPostIdeal.Value
public import Idealize.ShloMosaic.Lib.Tactic

@[expose] public section

set_option maxRecDepth 16384

noncomputable section

namespace Cert.KernelPostIdeal.Post

open Cert.KernelPostIdeal Cert.KernelPostIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- The upper and the lower half of a weight's rows. -/
def upper (w : Vec F S1024x1024 .bf16) : Vec F S512x1024 .bf16 :=
  View.ld w (Rect.unit (s := S1024x1024) ![0, 0] S512x1024.size inb_S1024x1024_S512x1024_0_0)
def lower (w : Vec F S1024x1024 .bf16) : Vec F S512x1024 .bf16 :=
  View.ld w (Rect.unit (s := S1024x1024) ![512, 0] S512x1024.size inb_S1024x1024_S512x1024_512_0)

/-- What a point writes, from its blocks and the three kept weights. -/
def point (x0 : Vec F S1024x1024 .f32) (x1 : Vec F S1x512x1024 .bf16) (x2 : Vec F S1024x512 .bf16)
    (x3 : Vec F S1x1024x256 .f32) (x5 : Vec F S1x1024 .f32) (w g : Vec F S1024x1024 .bf16) (p : Vec F S256x1024 .bf16) :
    Vec F S1024x1024 .f32 :=
  k0_pay1 (k0_pay5 x0 x1 (upper w) x2 (lower w)) (k0_pay6 x0 x1 (upper w) x2 (lower w) x5) g
    (constant S1024x1024 .f32 0x00000000#32) x3 p

section
variable (c : Dev nD) (i : grid0.Coords)
  (a0 : Memref sig .tc .vmem S1024x1024 .f32) (h0 : a0.IsWhole)
  (a1 : Memref sig .tc .vmem S1x512x1024 .bf16) (h1 : a1.IsWhole)
  (a2 : Memref sig .tc .vmem S1024x512 .bf16) (h2 : a2.IsWhole)
  (a3 : Memref sig .tc .vmem S1x1024x256 .f32) (h3 : a3.IsWhole)
  (a4 : Memref sig .tc .vmem S1x1024x1024 .f32) (h4 : a4.IsWhole)
  (a5 : Memref sig .tc .vmem S1x1024 .f32) (h5 : a5.IsWhole)
  (a6 : Memref sig .tc .vmem S1x1024x1024 .f32) (h6 : a6.IsWhole)
  (a7 : Memref sig .tc .vmem S1x256x1024 .f32) (h7 : a7.IsWhole)
  (a8 : Memref sig .tc .vmem S1024x1024 .f32) (h8 : a8.IsWhole)
  (a9 : Memref sig .tc .vmem S1024x1024 .bf16) (h9 : a9.IsWhole)
  (a10 : Memref sig .tc .vmem S1024x1024 .bf16) (h10 : a10.IsWhole)
  (a11 : Memref sig .tc .vmem S256x1024 .bf16) (h11 : a11.IsWhole)
  (x0 : Vec F S1024x1024 .f32) (x1 : Vec F S1x512x1024 .bf16) (x2 : Vec F S1024x512 .bf16) (x3 : Vec F S1x1024x256 .f32)
  (x4 : Vec F S1x1024x1024 .f32) (x5 : Vec F S1x1024 .f32) (x6 : Vec F S1x1024x1024 .f32) (x7 : Vec F S1x256x1024 .f32)

/-- The weights that the first point keeps. -/
theorem sA0 (hc : cond0_0 i) : sout0_A_0 c i a0 h0 a1 h1 a2 h2 a3 h3 a4 h4 a5 h5 a6 h6 a7 h7 a8 h8 a9 h9 a10 h10 a11 h11 hc x0 x1 x2 x3 x4 x5 x6 x7 = k0_pay2 x4 := by
  unfold sout0_A_0
  rw [View.read_writes_eq_canon _ _ _ (scover0_A_0 c i a0 h0 a1 h1 a2 h2 a3 h3 a4 h4 a5 h5 a6 h6 a7 h7 a8 h8 a9 h9 a10 h10 a11 h11 hc x0 x1 x2 x3 x4 x5 x6 x7)]
  unfold kernelRun0_A
  dsimp only
  sl_unfold_words
  rw [View.canon_unit_zero hz]
  simp only [View.readAt_eq_ld, h4.read_unread, h6.read_unread, h7.read_unread, View.ld_unit_zero (S := S1x1024x1024) hz3,
    View.ld_unit_zero (S := S1x256x1024) hz3]

theorem sA1 (hc : cond0_0 i) : sout0_A_1 c i a0 h0 a1 h1 a2 h2 a3 h3 a4 h4 a5 h5 a6 h6 a7 h7 a8 h8 a9 h9 a10 h10 a11 h11 hc x0 x1 x2 x3 x4 x5 x6 x7 = k0_pay3 x6 := by
  unfold sout0_A_1
  rw [View.read_writes_eq_canon _ _ _ (scover0_A_1 c i a0 h0 a1 h1 a2 h2 a3 h3 a4 h4 a5 h5 a6 h6 a7 h7 a8 h8 a9 h9 a10 h10 a11 h11 hc x0 x1 x2 x3 x4 x5 x6 x7)]
  unfold kernelRun0_A
  dsimp only
  sl_unfold_words
  rw [View.canon_unit_zero hz]
  simp only [View.readAt_eq_ld, h4.read_unread, h6.read_unread, h7.read_unread, View.ld_unit_zero (S := S1x1024x1024) hz3,
    View.ld_unit_zero (S := S1x256x1024) hz3]

theorem sA2 (hc : cond0_0 i) : sout0_A_2 c i a0 h0 a1 h1 a2 h2 a3 h3 a4 h4 a5 h5 a6 h6 a7 h7 a8 h8 a9 h9 a10 h10 a11 h11 hc x0 x1 x2 x3 x4 x5 x6 x7 = k0_pay4 x7 := by
  unfold sout0_A_2
  rw [View.read_writes_eq_canon _ _ _ (scover0_A_2 c i a0 h0 a1 h1 a2 h2 a3 h3 a4 h4 a5 h5 a6 h6 a7 h7 a8 h8 a9 h9 a10 h10 a11 h11 hc x0 x1 x2 x3 x4 x5 x6 x7)]
  unfold kernelRun0_A
  dsimp only
  sl_unfold_words
  rw [View.canon_unit_zero hz]
  simp only [View.readAt_eq_ld, h4.read_unread, h6.read_unread, h7.read_unread, View.ld_unit_zero (S := S1x1024x1024) hz3,
    View.ld_unit_zero (S := S1x256x1024) hz3]

/-- What a later point writes. -/
theorem oB (hc : ¬cond0_0 i) (w g : Vec F S1024x1024 .bf16) (p : Vec F S256x1024 .bf16) :
    out0_B_8 c i a0 h0 a1 h1 a2 h2 a3 h3 a4 h4 a5 h5 a6 h6 a7 h7 a8 h8 a9 h9 a10 h10 a11 h11 hc x0 x1 x2 x3 x4 x5 x6 x7 w g p = point x0 x1 x2 x3 x5 w g p := by
  unfold out0_B_8
  rw [View.read_writes_eq_canon _ _ _ (cover0_B_8 c i a0 h0 a1 h1 a2 h2 a3 h3 a4 h4 a5 h5 a6 h6 a7 h7 a8 h8 a9 h9 a10 h10 a11 h11 hc x0 x1 x2 x3 x4 x5 x6 x7 w g p)]
  unfold kernelRun0_B
  dsimp only
  sl_unfold_words
  rw [View.canon_unit_zero hz]
  simp only [View.readAt_eq_ld, h0.read_unread, h1.read_unread, h2.read_unread, h3.read_unread, h5.read_unread,
    h9.read_unread, h10.read_unread, h11.read_unread, View.ld_unit_zero (S := S1024x1024) hz, View.ld_unit_zero (S := S1x512x1024) hz3,
    View.ld_unit_zero (S := S1024x512) hz, View.ld_unit_zero (S := S1x1024x256) hz3, View.ld_unit_zero (S := S1x1024) hz,
    View.ld_unit_zero (S := S256x1024) hz]
  rfl

/-- What the first point writes. -/
theorem oA (hc : cond0_0 i) :
    out0_A_8 c i a0 h0 a1 h1 a2 h2 a3 h3 a4 h4 a5 h5 a6 h6 a7 h7 a8 h8 a9 h9 a10 h10 a11 h11 hc x0 x1 x2 x3 x4 x5 x6 x7
      = point x0 x1 x2 x3 x5 (k0_pay2 x4) (k0_pay3 x6) (k0_pay4 x7) := by
  unfold out0_A_8
  rw [View.read_writes_eq_canon _ _ _ (cover0_A_8 c i a0 h0 a1 h1 a2 h2 a3 h3 a4 h4 a5 h5 a6 h6 a7 h7 a8 h8 a9 h9 a10 h10 a11 h11 hc x0 x1 x2 x3 x4 x5 x6 x7)]
  unfold kernelRun0_A
  dsimp only
  sl_unfold_words
  rw [View.canon_unit_zero hz]
  simp only [View.readCov_unit_zero (S := S1024x1024) _ hz, View.readCov_unit_zero (S := S256x1024) _ hz]
  simp only [View.readAt_eq_ld, h0.read_unread, h1.read_unread, h2.read_unread, h3.read_unread, h5.read_unread,
    h4.read_unread, h6.read_unread, h7.read_unread, View.ld_unit_zero (S := S1x1024x1024) hz3,
    View.ld_unit_zero (S := S1x256x1024) hz3, View.readCov_eq_canon',
    View.canon_unit_zero (S := S1024x1024) hz, View.canon_unit_zero (S := S256x1024) hz,
    View.ld_unit_zero (S := S1024x1024) hz, View.ld_unit_zero (S := S1x512x1024) hz3,
    View.ld_unit_zero (S := S1024x512) hz, View.ld_unit_zero (S := S1x1024x256) hz3, View.ld_unit_zero (S := S1x1024) hz,
    View.ld_unit_zero (S := S256x1024) hz]
  rfl
end

variable (m : (ℓ : Loc nD τ sig) → Buf (Elt F) ℓ)

/-- The three weights kept: the first point's, rounded. -/
def wOut (c : Dev nD) : Vec F S1024x1024 .bf16 := k0_pay2 (iblk m c 4 t0_0)
def wGate (c : Dev nD) : Vec F S1024x1024 .bf16 := k0_pay3 (iblk m c 6 t0_0)
def wPle (c : Dev nD) : Vec F S256x1024 .bf16 := k0_pay4 (iblk m c 7 t0_0)

/-- Every point finds them in the scratch arrays, and writes its formula. -/
theorem outsAt_eq (c : Dev nD) : ∀ (n : ℕ) (hn : n < cfg0.N), outsAt0 m c n hn
    = (point (iblk m c 0 ⟨n, hn⟩) (iblk m c 1 ⟨n, hn⟩) (iblk m c 2 ⟨n, hn⟩) (iblk m c 3 ⟨n, hn⟩) (iblk m c 5 ⟨n, hn⟩)
        (wOut m c) (wGate m c) (wPle m c), wOut m c, wGate m c, wPle m c)
  | 0, hn => by
    rw [outsAt0_A m c ⟨0, hn⟩ rfl, oA, sA0, sA1, sA2]
    rfl
  | n + 1, hn => by
    have hN : cfg0.N = 16 := N_0
    have hB : ¬(⟨n + 1, hn⟩ : Fin cfg0.N).val % 16 = 0 := by dsimp only; omega
    rw [outsAt0_B m c ⟨n + 1, hn⟩ hB, oB]
    unfold sout0_B_0 sout0_B_1 sout0_B_2
    show (point _ _ _ _ _ (outsAt0 m c n _).2.1 (outsAt0 m c n _).2.2.1 (outsAt0 m c n _).2.2.2, (outsAt0 m c n _).2.1, (outsAt0 m c n _).2.2.1, (outsAt0 m c n _).2.2.2) = _
    rw [outsAt_eq c n]

end Cert.KernelPostIdeal.Post

end
-- ==== Proof.Post.Value.lean ====
/- What the closing call leaves in its result: the layer's closing at every index. -/
module

public import proofs.«01_k».proof.Proof.Post.Kernel
public import proofs.«01_k».proof.Proof.Post.Layer
public import Idealize.ShloMosaic.Lib.Pointwise
public import Idealize.ShloMosaic.Lib.Tactic.CleanTypes
public import Idealize.ShloMosaic.Lib.StableHlo.ReadAt
public import Idealize.ShloMosaic.Lib.Pipeline.ValueKit.Geometry

@[expose] public section

set_option maxRecDepth 16384

noncomputable section

namespace Cert.KernelPostIdeal.Post

open Cert.KernelPostIdeal Cert.KernelPostIdeal.Gen Idealize.ShloMosaic Idealize.ShloMosaic.TcCoe Idealize.SL.Sem
open Idealize.ShloMosaic.Pipeline (Dat Cfg Window)
open Cert.Closing

section
variable (x0 : Vec Ideal S1024x1024 .f32) (x1 : Vec Ideal S1x512x1024 .bf16) (x2 : Vec Ideal S1024x512 .bf16)
  (x3 : Vec Ideal S1x1024x256 .f32) (x5 : Vec Ideal S1x1024 .f32) (w g : Vec Ideal S1024x1024 .bf16) (p : Vec Ideal S256x1024 .bf16)

theorem upper_at (d : Fin 512) (e : Fin 1024) : upper w (ix2 d e) = w (ix2 (lo d) e) :=
  congrArg w (funext fun a => Fin.ext (match a with | ⟨0, _⟩ => by show 0 + 1 * d.val = d.val; omega | ⟨1, _⟩ => by show 0 + 1 * e.val = e.val; omega))

theorem lower_at (d : Fin 512) (e : Fin 1024) : lower w (ix2 d e) = w (ix2 (hi d) e) :=
  congrArg w (funext fun a => Fin.ext (match a with | ⟨0, _⟩ => by show 512 + 1 * d.val = 512 + d.val; omega | ⟨1, _⟩ => by show 0 + 1 * e.val = e.val; omega))

/-- A row of the point's hidden block. -/
abbrev hidB (r : Fin 1024) : Fin 1024 → EReal :=
  hid (fun k => x0 (ix2 r k)) (fun d => x1 (ix3 0 d r)) (fun d => x2 (ix2 r d)) (fun k e => w (ix2 k e))

theorem pay5_at (r e : Fin 1024) : k0_pay5 x0 x1 (upper w) x2 (lower w) (ix2 r e) = hidB x0 x1 x2 w r e := by
  unfold hidB hid
  simp only [← upper_at, ← lower_at]
  generalize upper w = u
  generalize lower w = l
  pointwise [k0_pay5]

theorem pay6_at (r k : Fin 1024) : k0_pay6 x0 x1 (upper w) x2 (lower w) x5 (ix2 r k)
    = nrm (hidB x0 x1 x2 w r) (fun k => x5 (ix2 0 k)) k := by
  unfold nrm
  simp only [← pay5_at]
  unfold k0_pay6
  generalize k0_pay5 x0 x1 (upper w) x2 (lower w) = y
  pointwise

/-- The point's block, by rows. -/
theorem point_at (r e : Fin 1024) : point x0 x1 x2 x3 x5 w g p (ix2 r e)
    = close (hidB x0 x1 x2 w r) (fun k => x5 (ix2 0 k)) (fun k => x3 (ix3 0 r k)) (fun k e => g (ix2 k e)) (fun k e => p (ix2 k e)) e := by
  unfold close point
  rw [← pay5_at]
  simp only [← pay6_at]
  generalize k0_pay5 x0 x1 (upper w) x2 (lower w) = y
  generalize k0_pay6 x0 x1 (upper w) x2 (lower w) x5 = z
  pointwise [k0_pay1]
end

variable (m : (ℓ : Loc nD τ sig) → Buf (Elt Ideal) ℓ) (ρ : Dev nD → PrngReg)

/-- The arguments on a core as functions of their indices; of the stacked weights, the layer's. -/
def hA (c : Dev nD) : Fin 2 → Fin 8192 → Fin 1024 → EReal := fun b j k => m ((c.tc : Thread nD τ).loc main_arg0) (ix3 b j k)
def oatA (c : Dev nD) : Fin 2 → Fin 8 → Fin 64 → Fin 8192 → EReal := fun b h d j => m ((c.tc : Thread nD τ).loc main_arg1) (ix4 b h d j)
def obA (c : Dev nD) : Fin 2 → Fin 8192 → Fin 512 → EReal := fun b j d => m ((c.tc : Thread nD τ).loc main_arg2) (ix3 b j d)
def pA (c : Dev nD) : Fin 2 → Fin 8192 → Fin 256 → EReal := fun b j k => m ((c.tc : Thread nD τ).loc main_arg3) (ix4 1 b j k)
def wA (c : Dev nD) : Fin 1024 → Fin 1024 → EReal := fun k e => m ((c.tc : Thread nD τ).loc main_arg4) (ix3 1 k e)
def gA (c : Dev nD) : Fin 1024 → EReal := fun k => m ((c.tc : Thread nD τ).loc main_arg5) (ix2 1 k)
def wgA (c : Dev nD) : Fin 1024 → Fin 1024 → EReal := fun k e => m ((c.tc : Thread nD τ).loc main_arg6) (ix3 1 k e)
def wpA (c : Dev nD) : Fin 256 → Fin 1024 → EReal := fun k e => m ((c.tc : Thread nD τ).loc main_arg7) (ix3 1 k e)

/-- A row's batch and position. -/
abbrev bOf (R : Fin 16384) : Fin 2 := ⟨R.val / 8192, by omega⟩
abbrev jOf (R : Fin 16384) : Fin 8192 := ⟨R.val % 8192, by omega⟩

/-- What the result array ends holding. -/
def res (c : Dev nD) : Buf (Elt Ideal) ((c.tc : Thread nD τ).loc main_v7) := fun x =>
  closing (hA m c) (oatA m c) (obA m c) (pA m c) (wA m c) (gA m c) (wgA m c) (wpA m c) (bOf (x 0)) (jOf (x 0)) (x 1)

/-! ## The arrays as the call finds them -/

theorem V0 (c : Dev nD) (R : Fin 16384) (k : Fin 1024) : V m c main_v0 (ix2 R k) = hA m c (bOf R) (jOf R) k := by
  unfold V hA
  after_reads_at

theorem V1 (c : Dev nD) (R : Fin 16384) (k : Fin 256) : V m c main_v1 (ix3 1 R k) = pA m c (bOf R) (jOf R) k := by
  unfold V pA
  after_reads_at

theorem V2 (c : Dev nD) (b : Fin 2) (d : Fin 512) (j : Fin 8192) :
    V m c main_v2 (ix3 b d j) = oatA m c b ⟨d.val / 64, by omega⟩ ⟨d.val % 64, by omega⟩ j := by
  unfold V oatA
  after_reads_at

theorem V3 (c : Dev nD) (R : Fin 16384) (k : Fin 512) : V m c main_v3 (ix2 R k) = obA m c (bOf R) (jOf R) k := by
  unfold V obA
  after_reads_at

theorem V6 (c : Dev nD) (k : Fin 1024) : V m c main_v6 (ix2 0 k) = gA m c k := by
  unfold V gA
  after_reads_at

/-! ## The blocks -/

theorem idx (t : Fin cfg0.N) :
    win0_0.index t = ![t.val, 0] ∧ win0_1.index t = ![t.val / 8, 0, t.val % 8] ∧ win0_2.index t = ![t.val, 0]
    ∧ win0_3.index t = ![1, t.val, 0] ∧ win0_4.index t = ![1, 0, 0] ∧ win0_5.index t = ![0, 0] ∧ win0_6.index t = ![1, 0, 0]
    ∧ win0_7.index t = ![1, 0, 0] ∧ win0_8.index t = ![t.val, 0] :=
  (by decide +kernel : ∀ t : Fin grid0.N,
    win0_0.index t = ![t.val, 0] ∧ win0_1.index t = ![t.val / 8, 0, t.val % 8] ∧ win0_2.index t = ![t.val, 0]
    ∧ win0_3.index t = ![1, t.val, 0] ∧ win0_4.index t = ![1, 0, 0] ∧ win0_5.index t = ![0, 0] ∧ win0_6.index t = ![1, 0, 0]
    ∧ win0_7.index t = ![1, 0, 0] ∧ win0_8.index t = ![t.val, 0]) t

theorem t_lt (t : Fin cfg0.N) : t.val < 16 := lt_of_lt_of_eq t.isLt N_0

/-- A block's row in the arrays. -/
abbrev row (t : Fin cfg0.N) (r : Fin 1024) : Fin 16384 := ⟨1024 * t.val + r.val, by have := t_lt t; omega⟩

theorem b0 (c : Dev nD) (t : Fin cfg0.N) (r k : Fin 1024) : iblk m c 0 t (ix2 r k) = hA m c (bOf (row t r)) (jOf (row t r)) k := by
  rw [← V0]
  blk_ext [iblk, (idx t).1]

theorem b1 (c : Dev nD) (t : Fin cfg0.N) (d : Fin 512) (r : Fin 1024) : iblk m c 1 t (ix3 0 d r)
    = oatA m c (bOf (row t r)) ⟨d.val / 64, by omega⟩ ⟨d.val % 64, by omega⟩ (jOf (row t r)) := by
  rw [← V2]
  blk_ext [iblk, (idx t).2.1]

theorem b2 (c : Dev nD) (t : Fin cfg0.N) (r : Fin 1024) (d : Fin 512) : iblk m c 2 t (ix2 r d) = obA m c (bOf (row t r)) (jOf (row t r)) d := by
  rw [← V3]
  blk_ext [iblk, (idx t).2.2.1]

theorem b3 (c : Dev nD) (t : Fin cfg0.N) (r : Fin 1024) (k : Fin 256) : iblk m c 3 t (ix3 0 r k) = pA m c (bOf (row t r)) (jOf (row t r)) k := by
  rw [← V1]
  blk_ext [iblk, (idx t).2.2.2.1]

theorem b5 (c : Dev nD) (t : Fin cfg0.N) (k : Fin 1024) : iblk m c 5 t (ix2 0 k) = gA m c k := by
  rw [← V6]
  blk_ext [iblk, (idx t).2.2.2.2.2.1]

theorem w_at (c : Dev nD) (k e : Fin 1024) : wOut m c (ix2 k e) = wA m c k e := by
  have h : iblk m c 4 t0_0 (ix3 0 k e) = wA m c k e := by
    unfold wA
    rw [← V_main_arg4 m c]
    blk_ext [iblk, (idx t0_0).2.2.2.2.1]
  rw [← h]
  unfold wOut
  generalize iblk m c 4 t0_0 = y
  clean_types
  pointwise [k0_pay2]

theorem wg_at (c : Dev nD) (k e : Fin 1024) : wGate m c (ix2 k e) = wgA m c k e := by
  have h : iblk m c 6 t0_0 (ix3 0 k e) = wgA m c k e := by
    unfold wgA
    rw [← V_main_arg6 m c]
    blk_ext [iblk, (idx t0_0).2.2.2.2.2.2.1]
  rw [← h]
  unfold wGate
  generalize iblk m c 6 t0_0 = y
  clean_types
  pointwise [k0_pay3]

theorem wp_at (c : Dev nD) (k : Fin 256) (e : Fin 1024) : wPle m c (ix2 k e) = wpA m c k e := by
  have h : iblk m c 7 t0_0 (ix3 0 k e) = wpA m c k e := by
    unfold wpA
    rw [← V_main_arg7 m c]
    blk_ext [iblk, (idx t0_0).2.2.2.2.2.2.2.1]
  rw [← h]
  unfold wPle
  generalize iblk m c 7 t0_0 = y
  clean_types
  pointwise [k0_pay4]

/-- The block of the result at a point. -/
theorem out_block (c : Dev nD) (t : Fin cfg0.N) (r e : Fin 1024) : (outsAt0 m c t.val t.isLt).1 (ix2 r e)
    = closing (hA m c) (oatA m c) (obA m c) (pA m c) (wA m c) (gA m c) (wgA m c) (wpA m c) (bOf (row t r)) (jOf (row t r)) e := by
  rw [outsAt_eq]
  refine (point_at _ _ _ _ _ _ _ _ r e).trans ?_
  have e0 : (fun k => iblk m c 0 t (ix2 r k)) = hA m c (bOf (row t r)) (jOf (row t r)) := funext fun k => b0 m c t r k
  have e1 : (fun d => iblk m c 1 t (ix3 0 d r)) = fun d : Fin 512 => oatA m c (bOf (row t r)) ⟨d.val / 64, by omega⟩ ⟨d.val % 64, by omega⟩ (jOf (row t r)) :=
    funext fun d => b1 m c t d r
  have e2 : (fun d => iblk m c 2 t (ix2 r d)) = obA m c (bOf (row t r)) (jOf (row t r)) := funext fun d => b2 m c t r d
  have e3 : (fun k => iblk m c 3 t (ix3 0 r k)) = pA m c (bOf (row t r)) (jOf (row t r)) := funext fun k => b3 m c t r k
  have e5 : (fun k => iblk m c 5 t (ix2 0 k)) = gA m c := funext fun k => b5 m c t k
  have ew : (fun k e => wOut m c (ix2 k e)) = wA m c := funext₂ fun k e => w_at m c k e
  have eg : (fun k e => wGate m c (ix2 k e)) = wgA m c := funext₂ fun k e => wg_at m c k e
  have ep : (fun k e => wPle m c (ix2 k e)) = wpA m c := funext₂ fun k e => wp_at m c k e
  unfold closing
  exact congrFun (congr (congr (congr (congrArg₂ close (congr (congr (congrArg₂ hid e0 e1) e2) ew) e5) e3) eg) ep) e

theorem final (c : Dev nD) : (dats m 0 c).arrAt 8 cfg0.N = res m c := by
  refine (dats m 0 c).arrAt_eq_of_cover 8 (res m c) (fun t _ => ?_) fun i => ?_
  · funext y
    blk_simp
    rw [after0_8]
    obtain ⟨r, k, rfl⟩ : ∃ (r k : Fin 1024), y = ix2 r k := ⟨y (0 : Fin 2), y (1 : Fin 2), by
      funext a
      fin_cases a <;> rfl⟩
    refine (out_block m c t r k).trans ?_
    have e := (idx t).2.2.2.2.2.2.2.2
    unfold res
    have E0 : ((win0_8.blk t).view.emb (ix2 r k) : S16384x1024.Idx) 0 = row t r := Fin.ext (by blk_simp [e]; show t.val * 1024 + r.val = 1024 * t.val + r.val; omega)
    have E1 : ((win0_8.blk t).view.emb (ix2 r k) : S16384x1024.Idx) 1 = k := Fin.ext (by blk_simp [e])
    exact congr (congrArg (fun R => closing (hA m c) (oatA m c) (obA m c) (pA m c) (wA m c) (gA m c) (wgA m c) (wpA m c) (bOf R) (jOf R)) E0.symm) E1.symm
  · have h0 : (i 0).val < 16384 := (i 0).isLt
    have h1 : (i 1).val < 1024 := (i 1).isLt
    exact (Value.covered_iff8 i).2 (by omega)

/-- The run: the result at the closing, the arguments unchanged. -/
theorem run : θ_run defs (onTc (τ := τ) (main (F := Ideal))) ⟨m, fun _ => 0, ρ⟩ fun r => ∀ c : Dev nD,
      r.2.mem ((c.tc : Thread nD τ).loc main_v7) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (final m c), (h c).2⟩) (Value.run_blocks m ρ)

end Cert.KernelPostIdeal.Post

end
-- ==== Proof.Post.Algebraic.lean ====
/- The closing call and its reference, idealized, end with equal results; and all three programs' runs. -/
module

public import proofs.«01_k».proof.Defs
public import proofs.«01_k».proof.Proof.Post.RefValue
public import proofs.«01_k».proof.Proof.Post.Value
public import proofs.«01_k».proof.Proof.Gen.KernelPost
public import proofs.«01_k».proof.Proof.Gen.KernelPost.Frame
public import proofs.«01_k».proof.Proof.Gen.KernelPostIdeal
public import proofs.«01_k».proof.Proof.Gen.ReferencePostIdeal
public import Idealize.ShloMosaic.Lib.Quiescent
public import Idealize.ShloMosaic.Adequacy

@[expose] public section

noncomputable section

namespace Cert.Post

open Idealize.ShloMosaic Idealize.SL.Sem
open Cert.KernelPostIdeal.Post (res)

/-- The kernel runs and leaves its arguments, and so does its idealization. -/
theorem claim_frame : Cert.quiescent_KernelPost := fun m ρ _ => Cert.KernelPost.Gen.frame m ρ
theorem claim_frame_ideal : Cert.quiescent_KernelPostIdeal := fun m ρ _ => Cert.KernelPostIdeal.Gen.frame m ρ

/-- The reference runs, its arguments unchanged; it has no counter. -/
theorem claim_frame_ref : Cert.quiescent_ReferencePostIdeal := fun m ρ _ =>
  (θ_run Cert.ReferencePostIdeal.defs _ _).mono (fun r h => ⟨fun c => (h c).2, sem_eq_zero_of_no_sems (by decide) r.2⟩)
    (Cert.ReferencePostIdeal.Value.run m ρ)

/-- From arguments that agree, the reference's result is the kernel's. -/
theorem ref_eq (m : (ℓ : Loc Cert.KernelPostIdeal.nD Cert.KernelPostIdeal.τ Cert.KernelPostIdeal.sig) → Buf (Elt Ideal) ℓ)
    (m' : (ℓ : Loc Cert.ReferencePostIdeal.nD Cert.ReferencePostIdeal.τ Cert.ReferencePostIdeal.sig) → Buf (Elt Ideal) ℓ)
    (c : Dev Cert.KernelPostIdeal.nD)
    (h0 : m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0))
    (h1 : m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1))
    (h2 : m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2))
    (h3 : m' ((c.tc : Thread Cert.ReferencePostIdeal.nD Cert.ReferencePostIdeal.τ).loc Cert.ReferencePostIdeal.main_arg3) = m ((c.tc : Thread Cert.KernelPostIdeal.nD Cert.KernelPostIdeal.τ).loc Cert.KernelPostIdeal.main_arg3))
    (h4 : m' ((c.tc : Thread Cert.ReferencePostIdeal.nD Cert.ReferencePostIdeal.τ).loc Cert.ReferencePostIdeal.main_arg4) = m ((c.tc : Thread Cert.KernelPostIdeal.nD Cert.KernelPostIdeal.τ).loc Cert.KernelPostIdeal.main_arg4))
    (h5 : m' ((c.tc : Thread Cert.ReferencePostIdeal.nD Cert.ReferencePostIdeal.τ).loc Cert.ReferencePostIdeal.main_arg5) = m ((c.tc : Thread Cert.KernelPostIdeal.nD Cert.KernelPostIdeal.τ).loc Cert.KernelPostIdeal.main_arg5))
    (h6 : m' ((c.tc : Thread Cert.ReferencePostIdeal.nD Cert.ReferencePostIdeal.τ).loc Cert.ReferencePostIdeal.main_arg6) = m ((c.tc : Thread Cert.KernelPostIdeal.nD Cert.KernelPostIdeal.τ).loc Cert.KernelPostIdeal.main_arg6))
    (h7 : m' ((c.tc : Thread Cert.ReferencePostIdeal.nD Cert.ReferencePostIdeal.τ).loc Cert.ReferencePostIdeal.main_arg7) = m ((c.tc : Thread Cert.KernelPostIdeal.nD Cert.KernelPostIdeal.τ).loc Cert.KernelPostIdeal.main_arg7)) :
    Cert.ReferencePostIdeal.Value.res_main_v39 m' c = res m c := by
  rw [Cert.ReferencePostIdeal.Read.val_main_v39_eq, h0, h1, h2, h3, h4, h5, h6, h7]
  have hc : c = 0 := Subsingleton.elim _ _
  subst hc
  funext x
  have hx : x = ix2 (x 0) (x 1) := funext fun a => match a with | ⟨0, _⟩ => rfl | ⟨1, _⟩ => rfl
  rw [hx]
  exact Cert.ReferencePostIdeal.Post.result_at _ _ _ _ _ _ _ _ _ _

/-- The two programs end with equal results, their arguments unchanged. -/
theorem claim_algebraic : Cert.algebraic_KernelPostIdeal_ReferencePostIdeal := by
  intro m ρ m' ρ' _ hagree
  refine ⟨fun c => res m c, Cert.KernelPostIdeal.Post.run m ρ, ?_⟩
  refine (θ_run _ _ _).mono (fun r h c => ?_) (Cert.ReferencePostIdeal.Value.run m' ρ')
  obtain ⟨a0, a1, a2, a3, a4, a5, a6, a7⟩ := hagree c
  exact ⟨(h c).1.trans (ref_eq m m' c a0 a1 a2 a3 a4 a5 a6 a7), (h c).2⟩

end Cert.Post

end
-- ==== Proof.lean ====
module

public import proofs.«01_k».proof.Defs
public import proofs.«01_k».proof.Proof.Ref
public import proofs.«01_k».proof.Proof.RefFrame
public import proofs.«01_k».proof.Proof.Algebraic
public import proofs.«01_k».proof.Proof.Ideal.Pre
public import proofs.«01_k».proof.Proof.Bits.Pre
public import proofs.«01_k».proof.Proof.Post.Algebraic
public import proofs.«01_k».proof.Proof.Gen.Kernel
public import proofs.«01_k».proof.Proof.Gen.KernelIdeal
public import proofs.«01_k».proof.Proof.Gen.ReferenceIdeal
public import proofs.«01_k».proof.Proof.Gen.KernelPost
public import proofs.«01_k».proof.Proof.Gen.KernelPostIdeal
public import proofs.«01_k».proof.Proof.Gen.ReferencePostIdeal
public import proofs.«01_k».proof.Proof.Gen.Pre_plan_nonneg
public import Idealize.ShloMosaic.Adequacy
public import Idealize.ShloMosaic.Init

@[expose] public section

noncomputable section

namespace Cert.Proof

open Idealize.ShloMosaic Idealize.SL.Sem

/-- The kernel and its idealization run and leave their arguments, so does the reference; the mask constant stands for
    −∞; and the idealized kernel and reference end with equal results. The same of the closing call and its reference. -/
theorem claim : Cert.Claim :=
  ⟨Cert.Kernel.Gen.facts, Cert.KernelIdeal.Gen.facts, Cert.ReferenceIdeal.Gen.facts, Cert.KernelPost.Gen.facts,
    Cert.KernelPostIdeal.Gen.facts, Cert.ReferencePostIdeal.Gen.facts, Cert.Pre_plan_nonneg.Gen.facts,
    Cert.Kernel.Fox.claim_frame, Cert.KernelIdeal.Fox.claim_frame, Cert.ReferenceIdeal.Fox.claim_frame,
    Cert.Post.claim_frame, Cert.Post.claim_frame_ideal, Cert.Post.claim_frame_ref,
    Cert.ReferenceIdeal.Fox.claim_preserves, Cert.Fox.claim_algebraic, trivial,
    Cert.Post.claim_algebraic⟩

end Cert.Proof

end
